-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v65)) (v1 : (c : Dev Cert.Kernel4Ideal.nD) → Buf (Elt Ideal) ((c.tc : Thread Cert.Kernel4Ideal.nD Cert.Kernel4Ideal.τ).loc Cert.Kernel4Ideal.main_v66)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v65) = v0 c
          ∧ r.2.mem ((c.tc : Thread Cert.Kernel4Ideal.nD Cert.Kernel4Ideal.τ).loc Cert.Kernel4Ideal.main_v66) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v86) = v0 c
          ∧ r.2.mem ((c.tc : Thread Cert.Reference4Ideal.nD Cert.Reference4Ideal.τ).loc Cert.Reference4Ideal.main_v119) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v6)) (v1 : (c : Dev Cert.Kernel6Ideal.nD) → Buf (Elt Ideal) ((c.tc : Thread Cert.Kernel6Ideal.nD Cert.Kernel6Ideal.τ).loc Cert.Kernel6Ideal.main_v8)) (v2 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_v8) = v1 c
          ∧ r.2.mem ((c.tc : Thread Cert.Kernel6Ideal.nD Cert.Kernel6Ideal.τ).loc Cert.Kernel6Ideal.main_v10) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_v24) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v33)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v33) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2x8192x32x128 : Shape := ⟨4, ![2, 8192, 32, 128]⟩
abbrev S2x8192x8x128 : Shape := ⟨4, ![2, 8192, 8, 128]⟩
abbrev S2x256x8x128 : Shape := ⟨4, ![2, 256, 8, 128]⟩
abbrev S2x32768x8x128 : Shape := ⟨4, ![2, 32768, 8, 128]⟩
abbrev S2x41216x8x128 : Shape := ⟨4, ![2, 41216, 8, 128]⟩
abbrev S_ : Shape := ⟨0, ![]⟩

class Facts : Prop where
  shapeCasts_S2x8192x32x128_S2x32768x8x128 : S2x8192x32x128.ShapeCasts S2x32768x8x128
  concatenates_S2x32768x8x128_S2x8192x8x128_S2x256x8x128_S2x41216x8x128_d1 : Shape.Concatenates [S2x32768x8x128, S2x8192x8x128, S2x256x8x128] S2x41216x8x128 1
  bcast_S_S2x41216x8x128 : S_.BroadcastsInDim S2x41216x8x128 (![] : Fin 0 → Fin S2x41216x8x128.rank)

variable [Facts]

def fn {F : FTy → Type} [FloatOps F] (main_arg0 : FVec F S2x8192x32x128 .f32) (main_arg1 : FVec F S2x8192x8x128 .f32) (main_arg2 : FVec F S2x256x8x128 .f32) (main_arg3 : FVec F S2x8192x8x128 .f32) (main_arg4 : FVec F S2x256x8x128 .f32) : IVec S2x41216x8x128 1 :=
  let main_v0 : FVec F S2x32768x8x128 .f32 := shapeCast S2x32768x8x128 main_arg0 shapeCasts_S2x8192x32x128_S2x32768x8x128
  let main_v1 : FVec F S2x41216x8x128 .f32 := concatenate S2x41216x8x128 1 [⟨S2x32768x8x128, main_v0⟩, ⟨S2x8192x8x128, main_arg1⟩, ⟨S2x256x8x128, main_arg2⟩] concatenates_S2x32768x8x128_S2x8192x8x128_S2x256x8x128_S2x41216x8x128_d1
  let main_v2 : FVec F S2x41216x8x128 .f32 := Host.absf main_v1
  let main_cst : FVec F S_ .f32 := constant S_ .f32 0x7F800000#32
  let main_v3 : FVec F S2x41216x8x128 .f32 := broadcastInDim S2x41216x8x128 ![] bcast_S_S2x41216x8x128 main_cst
  let main_v4 : IVec S2x41216x8x128 1 := cmpf .olt main_v2 main_v3
  main_v4
-- ==== Kernel.lean ====
abbrev S2x8192x32x128 : Shape := ⟨4, ![2, 8192, 32, 128]⟩
abbrev S2x8192x8x128 : Shape := ⟨4, ![2, 8192, 8, 128]⟩
abbrev S2x256x8x128 : Shape := ⟨4, ![2, 256, 8, 128]⟩
abbrev S_ : Shape := ⟨0, ![]⟩
abbrev S2x8192x1024 : Shape := ⟨3, ![2, 8192, 1024]⟩
abbrev S2x256x1024 : Shape := ⟨3, ![2, 256, 1024]⟩
abbrev S2x8448x1024 : Shape := ⟨3, ![2, 8448, 1024]⟩
abbrev S2x8448x8x128 : Shape := ⟨4, ![2, 8448, 8, 128]⟩
abbrev S2x8448x8x16 : Shape := ⟨4, ![2, 8448, 8, 16]⟩
abbrev S1 : Shape := ⟨1, ![1]⟩
abbrev S2x8448x8 : Shape := ⟨3, ![2, 8448, 8]⟩
abbrev S2x8448x8x144 : Shape := ⟨4, ![2, 8448, 8, 144]⟩
abbrev S2x8x144x8448 : Shape := ⟨4, ![2, 8, 144, 8448]⟩
abbrev S2x1152x8448 : Shape := ⟨3, ![2, 1152, 8448]⟩
abbrev S2x8192x4096 : Shape := ⟨3, ![2, 8192, 4096]⟩
abbrev S1x256x512 : Shape := ⟨3, ![1, 256, 512]⟩
abbrev S1x8448x128 : Shape := ⟨3, ![1, 8448, 128]⟩
abbrev S1x144x8448 : Shape := ⟨3, ![1, 144, 8448]⟩
abbrev S128x1024 : Shape := ⟨2, ![128, 1024]⟩
abbrev S3x768x1024 : Shape := ⟨3, ![3, 768, 1024]⟩
abbrev S3x1x1024 : Shape := ⟨3, ![3, 1, 1024]⟩
abbrev S1x1024 : Shape := ⟨2, ![1, 1024]⟩
abbrev S144x1024 : Shape := ⟨2, ![144, 1024]⟩
abbrev S1x256x128 : Shape := ⟨3, ![1, 256, 128]⟩
abbrev S256x128 : Shape := ⟨2, ![256, 128]⟩
abbrev S128x256 : Shape := ⟨2, ![128, 256]⟩
abbrev S1x768x128 : Shape := ⟨3, ![1, 768, 128]⟩
abbrev S768x128 : Shape := ⟨2, ![768, 128]⟩
abbrev S768x1024 : Shape := ⟨2, ![768, 1024]⟩
abbrev S1x768x1024 : Shape := ⟨3, ![1, 768, 1024]⟩
abbrev S1x16x1024 : Shape := ⟨3, ![1, 16, 1024]⟩
abbrev S16x1024 : Shape := ⟨2, ![16, 1024]⟩
abbrev S1024 : Shape := ⟨1, ![1024]⟩
abbrev S1x1x1024 : Shape := ⟨3, ![1, 1, 1024]⟩
abbrev S1x144x768 : Shape := ⟨3, ![1, 144, 768]⟩
abbrev S144x768 : Shape := ⟨2, ![144, 768]⟩
abbrev S1024x128 : Shape := ⟨2, ![1024, 128]⟩

abbrev nBuf : Space → Nat
  | .hbm => 35
  | .vmem => 14
  | .smem => 0
  | _ => 0

abbrev bufTy : (tb : Table) → Fin (tcTables nBuf tb) → BufTy
  | .hbm, ⟨0, _⟩ => ⟨S2x8192x32x128, .f32⟩
  | .hbm, ⟨1, _⟩ => ⟨S2x8192x8x128, .f32⟩
  | .hbm, ⟨2, _⟩ => ⟨S2x256x8x128, .f32⟩
  | .hbm, ⟨3, _⟩ => ⟨S2x8192x8x128, .f32⟩
  | .hbm, ⟨4, _⟩ => ⟨S2x256x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x8192x32x128, .f32⟩
  | .hbm, ⟨13, _⟩ => ⟨S2x8192x32x128, .f32⟩
  | .hbm, ⟨14, _⟩ => ⟨S2x8192x32x128, .bf16⟩
  | .hbm, ⟨15, _⟩ => ⟨S2x8192x8x128, .bf16⟩
  | .hbm, ⟨16, _⟩ => ⟨S2x256x8x128, .bf16⟩
  | .hbm, ⟨17, _⟩ => ⟨S2x8192x8x128, .bf16⟩
  | .hbm, ⟨18, _⟩ => ⟨S2x256x8x128, .bf16⟩
  | .hbm, ⟨19, _⟩ => ⟨S2x8192x1024, .bf16⟩
  | .hbm, ⟨20, _⟩ => ⟨S2x256x1024, .bf16⟩
  | .hbm, ⟨21, _⟩ => ⟨S2x8448x1024, .bf16⟩
  | .hbm, ⟨22, _⟩ => ⟨S2x8448x8x128, .bf16⟩
  | .hbm, ⟨23, _⟩ => ⟨S_, .bf16⟩
  | .hbm, ⟨24, _⟩ => ⟨S2x8448x8x16, .bf16⟩
  | .hbm, ⟨25, _⟩ => ⟨S_, .i32⟩
  | .hbm, ⟨26, _⟩ => ⟨S1, .i32⟩
  | .hbm, ⟨27, _⟩ => ⟨S_, .bf16⟩
  | .hbm, ⟨28, _⟩ => ⟨S2x8448x8, .bf16⟩
  | .hbm, ⟨29, _⟩ => ⟨S2x8448x8x16, .bf16⟩
  | .hbm, ⟨30, _⟩ => ⟨S2x8448x8x144, .bf16⟩
  | .hbm, ⟨31, _⟩ => ⟨S2x8x144x8448, .bf16⟩
  | .hbm, ⟨32, _⟩ => ⟨S2x1152x8448, .bf16⟩
  | .hbm, ⟨33, _⟩ => ⟨S2x8192x4096, .bf16⟩
  | .hbm, ⟨34, _⟩ => ⟨S2x8192x4096, .bf16⟩
  | .local _ .vmem, ⟨0, _⟩ => ⟨S1x256x512, .bf16⟩
  | .local _ .vmem, ⟨1, _⟩ => ⟨S1x256x512, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x144x8448, .bf16⟩
  | .local _ .vmem, ⟨5, _⟩ => ⟨S1x144x8448, .bf16⟩
  | .local _ .vmem, ⟨6, _⟩ => ⟨S1x256x512, .bf16⟩
  | .local _ .vmem, ⟨7, _⟩ => ⟨S1x256x512, .bf16⟩
  | .local _ .vmem, ⟨8, _⟩ => ⟨S128x1024, .bf16⟩
  | .local _ .vmem, ⟨9, _⟩ => ⟨S3x768x1024, .f32⟩
  | .local _ .vmem, ⟨10, _⟩ => ⟨S3x768x1024, .bf16⟩
  | .local _ .vmem, ⟨11, _⟩ => ⟨S3x1x1024, .f32⟩
  | .local _ .vmem, ⟨12, _⟩ => ⟨S1x1024, .f32⟩
  | .local _ .vmem, ⟨13, _⟩ => ⟨S144x1024, .f32⟩
  | _, _ => ⟨S2x8192x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x144x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8192x32x128 : Shape := ⟨4, ![2, 8192, 32, 128]⟩
abbrev S2x8192x8x128 : Shape := ⟨4, ![2, 8192, 8, 128]⟩
abbrev S2x256x8x128 : Shape := ⟨4, ![2, 256, 8, 128]⟩
abbrev S2x8448x8x128 : Shape := ⟨4, ![2, 8448, 8, 128]⟩
abbrev S2x8192x8x4x128 : Shape := ⟨5, ![2, 8192, 8, 4, 128]⟩
abbrev S2x8x8448x8192x4 : Shape := ⟨5, ![2, 8, 8448, 8192, 4]⟩
abbrev S2x8x4x8192x8448 : Shape := ⟨5, ![2, 8, 4, 8192, 8448]⟩
abbrev S_ : Shape := ⟨0, ![]⟩
abbrev S2x8x4x8192 : Shape := ⟨4, ![2, 8, 4, 8192]⟩
abbrev S2x8x4x8192x1 : Shape := ⟨5, ![2, 8, 4, 8192, 1]⟩
abbrev S2x8x128x4x8192 : Shape := ⟨5, ![2, 8, 128, 4, 8192]⟩
abbrev S2x8192x4096 : Shape := ⟨3, ![2, 8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S2x8192x32x128, .f32⟩
  | .hbm, ⟨1, _⟩ => ⟨S2x8192x8x128, .f32⟩
  | .hbm, ⟨2, _⟩ => ⟨S2x256x8x128, .f32⟩
  | .hbm, ⟨3, _⟩ => ⟨S2x8192x8x128, .f32⟩
  | .hbm, ⟨4, _⟩ => ⟨S2x256x8x128, .f32⟩
  | .hbm, ⟨5, _⟩ => ⟨S2x8448x8x128, .f32⟩
  | .hbm, ⟨6, _⟩ => ⟨S2x8448x8x128, .f32⟩
  | .hbm, ⟨7, _⟩ => ⟨S2x8192x8x4x128, .f32⟩
  | .hbm, ⟨8, _⟩ => ⟨S2x8x8448x8192x4, .f32⟩
  | .hbm, ⟨9, _⟩ => ⟨S2x8x4x8192x8448, .f32⟩
  | .hbm, ⟨10, _⟩ => ⟨S_, .f32⟩
  | .hbm, ⟨11, _⟩ => ⟨S_, .f32⟩
  | .hbm, ⟨12, _⟩ => ⟨S2x8x4x8192x8448, .f32⟩
  | .hbm, ⟨13, _⟩ => ⟨S2x8x4x8192x8448, .f32⟩
  | .hbm, ⟨14, _⟩ => ⟨S_, .f32⟩
  | .hbm, ⟨15, _⟩ => ⟨S2x8x4x8192, .f32⟩
  | .hbm, ⟨16, _⟩ => ⟨S_, .f32⟩
  | .hbm, ⟨17, _⟩ => ⟨S2x8x4x8192, .f32⟩
  | .hbm, ⟨18, _⟩ => ⟨S2x8x4x8192, .f32⟩
  | .hbm, ⟨19, _⟩ => ⟨S2x8x4x8192x1, .f32⟩
  | .hbm, ⟨20, _⟩ => ⟨S2x8x4x8192x8448, .f32⟩
  | .hbm, ⟨21, _⟩ => ⟨S2x8x4x8192x8448, .f32⟩
  | .hbm, ⟨22, _⟩ => ⟨S2x8x4x8192x8448, .f32⟩
  | .hbm, ⟨23, _⟩ => ⟨S_, .f32⟩
  | .hbm, ⟨24, _⟩ => ⟨S2x8x4x8192, .f32⟩
  | .hbm, ⟨25, _⟩ => ⟨S2x8x4x8192x1, .f32⟩
  | .hbm, ⟨26, _⟩ => ⟨S2x8x4x8192x8448, .f32⟩
  | .hbm, ⟨27, _⟩ => ⟨S2x8x4x8192x8448, .f32⟩
  | .hbm, ⟨28, _⟩ => ⟨S2x8x128x4x8192, .f32⟩
  | .hbm, ⟨29, _⟩ => ⟨S2x8192x8x4x128, .f32⟩
  | .hbm, ⟨30, _⟩ => ⟨S2x8192x4096, .f32⟩
  | .hbm, ⟨31, _⟩ => ⟨S2x8192x4096, .bf16⟩
  | _, _ => ⟨S2x8192x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel2.lean ====
abbrev S16384x4096 : Shape := ⟨2, ![16384, 4096]⟩
abbrev S4096x8192 : Shape := ⟨2, ![4096, 8192]⟩
abbrev S8192 : Shape := ⟨1, ![8192]⟩
abbrev S1x8192 : Shape := ⟨2, ![1, 8192]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S4096x8192, .f32⟩
  | .hbm, ⟨2, _⟩ => ⟨S8192, .f32⟩
  | .hbm, ⟨3, _⟩ => ⟨S16384x4096, .bf16⟩
  | .hbm, ⟨4, _⟩ => ⟨S4096x8192, .bf16⟩
  | .hbm, ⟨5, _⟩ => ⟨S1x8192, .f32⟩
  | .hbm, ⟨6, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x4096 : Shape := ⟨2, ![16384, 4096]⟩
abbrev S4096x8192 : Shape := ⟨2, ![4096, 8192]⟩
abbrev S8192 : Shape := ⟨1, ![8192]⟩
abbrev S16384x8192 : Shape := ⟨2, ![16384, 8192]⟩
abbrev S1x8192 : Shape := ⟨2, ![1, 8192]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x8192, .f32⟩
  | .hbm, ⟨2, _⟩ => ⟨S8192, .f32⟩
  | .hbm, ⟨3, _⟩ => ⟨S16384x8192, .f32⟩
  | .hbm, ⟨4, _⟩ => ⟨S1x8192, .f32⟩
  | .hbm, ⟨5, _⟩ => ⟨S16384x8192, .f32⟩
  | .hbm, ⟨6, _⟩ => ⟨S16384x8192, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel3.lean ====
abbrev S16384x4096 : Shape := ⟨2, ![16384, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .bf16⟩
  | .hbm, ⟨3, _⟩ => ⟨S4096x4096, .bf16⟩
  | .hbm, ⟨4, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x4096 : Shape := ⟨2, ![16384, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S2x8192x4096 : Shape := ⟨3, ![2, 8192, 4096]⟩
abbrev S4096x6144 : Shape := ⟨2, ![4096, 6144]⟩
abbrev S128 : Shape := ⟨1, ![128]⟩
abbrev S4096x5120 : Shape := ⟨2, ![4096, 5120]⟩
abbrev S4096x40x2x2x32 : Shape := ⟨5, ![4096, 40, 2, 2, 32]⟩
abbrev S1x128 : Shape := ⟨2, ![1, 128]⟩
abbrev S32x128 : Shape := ⟨2, ![32, 128]⟩
abbrev S4096 : Shape := ⟨1, ![4096]⟩
abbrev S8x128 : Shape := ⟨2, ![8, 128]⟩
abbrev S1024 : Shape := ⟨1, ![1024]⟩
abbrev S5120 : Shape := ⟨1, ![5120]⟩
abbrev S40x2x2x32 : Shape := ⟨4, ![40, 2, 2, 32]⟩
abbrev S1x5120 : Shape := ⟨2, ![1, 5120]⟩
abbrev S_ : Shape := ⟨0, ![]⟩
abbrev S32 : Shape := ⟨1, ![32]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S16384x4096 : Shape := ⟨2, ![16384, 4096]⟩
abbrev S16384x5120 : Shape := ⟨2, ![16384, 5120]⟩
abbrev S512x4096 : Shape := ⟨2, ![512, 4096]⟩
abbrev S4096x1024 : Shape := ⟨2, ![4096, 1024]⟩
abbrev S1x1024 : Shape := ⟨2, ![1, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S16384x40x2x2x32 : Shape := ⟨5, ![16384, 40, 2, 2, 32]⟩
abbrev S2x8192x40x128 : Shape := ⟨4, ![2, 8192, 40, 128]⟩
abbrev S2x8192x32x128 : Shape := ⟨4, ![2, 8192, 32, 128]⟩
abbrev S2x8192x8x128 : Shape := ⟨4, ![2, 8192, 8, 128]⟩

abbrev nBuf : Space → Nat
  | .hbm => 77
  | .vmem => 16
  | .smem => 0
  | _ => 0

abbrev bufTy : (tb : Table) → Fin (tcTables nBuf tb) → BufTy
  | .hbm, ⟨0, _⟩ => ⟨S2x8192x4096, .f32⟩
  | .hbm, ⟨1, _⟩ => ⟨S4096x6144, .f32⟩
  | .hbm, ⟨2, _⟩ => ⟨S128, .f32⟩
  | .hbm, ⟨3, _⟩ => ⟨S128, .f32⟩
  | .hbm, ⟨4, _⟩ => ⟨S4096x5120, .f32⟩
  | .hbm, ⟨5, _⟩ => ⟨S4096x40x2x2x32, .f32⟩
  | .hbm, ⟨6, _⟩ => ⟨S4096x40x2x2x32, .f32⟩
  | .hbm, ⟨7, _⟩ => ⟨S4096x5120, .f32⟩
  | .hbm, ⟨8, _⟩ => ⟨S4096x5120, .bf16⟩
  | .hbm, ⟨9, _⟩ => ⟨S1x128, .f32⟩
  | .hbm, ⟨10, _⟩ => ⟨S32x128, .f32⟩
  | .hbm, ⟨11, _⟩ => ⟨S4096, .f32⟩
  | .hbm, ⟨12, _⟩ => ⟨S1x128, .f32⟩
  | .hbm, ⟨13, _⟩ => ⟨S8x128, .f32⟩
  | .hbm, ⟨14, _⟩ => ⟨S1024, .f32⟩
  | .hbm, ⟨15, _⟩ => ⟨S5120, .f32⟩
  | .hbm, ⟨16, _⟩ => ⟨S40x2x2x32, .f32⟩
  | .hbm, ⟨17, _⟩ => ⟨S40x2x2x32, .f32⟩
  | .hbm, ⟨18, _⟩ => ⟨S5120, .f32⟩
  | .hbm, ⟨19, _⟩ => ⟨S1x5120, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S1024, .f32⟩
  | .hbm, ⟨30, _⟩ => ⟨S5120, .f32⟩
  | .hbm, ⟨31, _⟩ => ⟨S1x5120, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S128, .f32⟩
  | .hbm, ⟨41, _⟩ => ⟨S128x64, .f32⟩
  | .hbm, ⟨42, _⟩ => ⟨S8192, .f32⟩
  | .hbm, ⟨43, _⟩ => ⟨S64, .f32⟩
  | .hbm, ⟨44, _⟩ => ⟨S1x64, .f32⟩
  | .hbm, ⟨45, _⟩ => ⟨S128x64, .f32⟩
  | .hbm, ⟨46, _⟩ => ⟨S8192, .f32⟩
  | .hbm, ⟨47, _⟩ => ⟨S8192x1, .f32⟩
  | .hbm, ⟨48, _⟩ => ⟨S1x32, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S8192x1, .f32⟩
  | .hbm, ⟨53, _⟩ => ⟨S1x32, .f32⟩
  | .hbm, ⟨54, _⟩ => ⟨S8192x32, .f32⟩
  | .hbm, ⟨55, _⟩ => ⟨S8192x32, .f32⟩
  | .hbm, ⟨56, _⟩ => ⟨S8192x32, .f32⟩
  | .hbm, ⟨57, _⟩ => ⟨S8192x32, .f32⟩
  | .hbm, ⟨58, _⟩ => ⟨S8192x32, .f32⟩
  | .hbm, ⟨59, _⟩ => ⟨S8192x32, .f32⟩
  | .hbm, ⟨60, _⟩ => ⟨S8192x32, .f32⟩
  | .hbm, ⟨61, _⟩ => ⟨S8192x128, .f32⟩
  | .hbm, ⟨62, _⟩ => ⟨S8192x32, .f32⟩
  | .hbm, ⟨63, _⟩ => ⟨S8192x32, .f32⟩
  | .hbm, ⟨64, _⟩ => ⟨S8192x128, .f32⟩
  | .hbm, ⟨65, _⟩ => ⟨S16384x4096, .f32⟩
  | .hbm, ⟨66, _⟩ => ⟨S16384x4096, .bf16⟩
  | .hbm, ⟨67, _⟩ => ⟨S16384x5120, .bf16⟩
  | .hbm, ⟨68, _⟩ => ⟨S16384x40x2x2x32, .bf16⟩
  | .hbm, ⟨69, _⟩ => ⟨S16384x40x2x2x32, .bf16⟩
  | .hbm, ⟨70, _⟩ => ⟨S16384x5120, .bf16⟩
  | .hbm, ⟨71, _⟩ => ⟨S2x8192x40x128, .bf16⟩
  | .hbm, ⟨72, _⟩ => ⟨S2x8192x40x128, .f32⟩
  | .hbm, ⟨73, _⟩ => ⟨S2x8192x32x128, .f32⟩
  | .hbm, ⟨74, _⟩ => ⟨S2x8192x32x128, .f32⟩
  | .hbm, ⟨75, _⟩ => ⟨S2x8192x32x128, .f32⟩
  | .hbm, ⟨76, _⟩ => ⟨S2x8192x8x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![161], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c159_i32 : BitVec 32 := 159#32
  let v0 : BitVec 32 := Scalar.minsi arg0 c159_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.divsi v0 c32_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c32_i32_3 c0_i32_6
  let v18 : BitVec 32 := Scalar.extui v17
  let c0_i32_7 : BitVec 32 := 0#32
  let v19 : BitVec 1 := Scalar.cmpi .slt c32_i32_3 c0_i32_7
  let v20 : BitVec 32 := Scalar.extui v19
  let v21 : BitVec 32 := Scalar.subi v18 v20
  let v22 : BitVec 1 := Scalar.cmpi .ne v16 v21
  let v23 : BitVec 32 := Scalar.remsi v0 c32_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let c0_i32_11 : BitVec 32 := 0#32
  ![v10.toNat, c0_i32_10.toNat]

def cc0_transform_1 (i : grid0.Coords) : Fin 2 → Nat :=
  let arg0 : BitVec 32 := BitVec.ofNat 32 (i 0).val
  let c159_i32 : BitVec 32 := 159#32
  let v0 : BitVec 32 := Scalar.minsi arg0 c159_i32
  let c32_i32 : BitVec 32 := 32#32
  let c0_i32 : BitVec 32 := 0#32
  let v1 : BitVec 1 := Scalar.cmpi .eq c32_i32 c0_i32
  let c1_i32 : BitVec 32 := 1#32
  let v2 : BitVec 32 := Scalar.select v1 c1_i32 c32_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c32_i32_3 : BitVec 32 := 32#32
  let v11 : BitVec 32 := Scalar.divsi v0 c32_i32_3
  let c0_i32_4 : BitVec 32 := 0#32
  let v12 : BitVec 1 := Scalar.cmpi .sgt v0 c0_i32_4
  let v13 : BitVec 32 := Scalar.extui v12
  let c0_i32_5 : BitVec 32 := 0#32
  let v14 : BitVec 1 := Scalar.cmpi .slt v0 c0_i32_5
  let v15 : BitVec 32 := Scalar.extui v14
  let v16 : BitVec 32 := Scalar.subi v13 v15
  let c0_i32_6 : BitVec 32 := 0#32
  let v17 : BitVec 1 := Scalar.cmpi .sgt c32_i32_3 c0_i32_6
  let v18 : BitVec 32 := Scalar.extui v17
  let c0_i32_7 : BitVec 32 := 0#32
  let v19 : BitVec 1 := Scalar.cmpi .slt c32_i32_3 c0_i32_7
  let v20 : BitVec 32 := Scalar.extui v19
  let v21 : BitVec 32 := Scalar.subi v18 v20
  let v22 : BitVec 1 := Scalar.cmpi .ne v16 v21
  let v23 : BitVec 32 := Scalar.remsi v0 c32_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let c0_i32_10 : BitVec 32 := 0#32
  let v28 : BitVec 32 := Scalar.addi v27 c0_i32_10
  let c0_i32_11 : BitVec 32 := 0#32
  let c0_i32_12 : BitVec 32 := 0#32
  ![c0_i32_11.toNat, v28.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c32_i32_5 : BitVec 32 := 32#32
  let v12 : BitVec 32 := Scalar.divsi v1 c32_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c32_i32_5 c0_i32_8
  let v19 : BitVec 32 := Scalar.extui v18
  let c0_i32_9 : BitVec 32 := 0#32
  let v20 : BitVec 1 := Scalar.cmpi .slt c32_i32_5 c0_i32_9
  let v21 : BitVec 32 := Scalar.extui v20
  let v22 : BitVec 32 := Scalar.subi v19 v21
  let v23 : BitVec 1 := Scalar.cmpi .ne v17 v22
  let v24 : BitVec 32 := Scalar.remsi v1 c32_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let v29 : BitVec 32 := Scalar.addi v28 c0_i32_12
  let c0_i32_13 : BitVec 32 := 0#32
  let c0_i32_14 : BitVec 32 := 0#32
  ![c0_i32_13.toNat, v29.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c32_i32_5 : BitVec 32 := 32#32
  let v12 : BitVec 32 := Scalar.divsi v1 c32_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c32_i32_5 c0_i32_8
  let v19 : BitVec 32 := Scalar.extui v18
  let c0_i32_9 : BitVec 32 := 0#32
  let v20 : BitVec 1 := Scalar.cmpi .slt c32_i32_5 c0_i32_9
  let v21 : BitVec 32 := Scalar.extui v20
  let v22 : BitVec 32 := Scalar.subi v19 v21
  let v23 : BitVec 1 := Scalar.cmpi .ne v17 v22
  let v24 : BitVec 32 := Scalar.remsi v1 c32_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  let v29 : BitVec 32 := Scalar.addi v28 c0_i32_12
  let c0_i32_13 : BitVec 32 := 0#32
  let c0_i32_14 : BitVec 32 := 0#32
  ![c0_i32_13.toNat, v29.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c32_i32_5 : BitVec 32 := 32#32
  let v12 : BitVec 32 := Scalar.divsi v1 c32_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c32_i32_5 c0_i32_8
  let v19 : BitVec 32 := Scalar.extui v18
  let c0_i32_9 : BitVec 32 := 0#32
  let v20 : BitVec 1 := Scalar.cmpi .slt c32_i32_5 c0_i32_9
  let v21 : BitVec 32 := Scalar.extui v20
  let v22 : BitVec 32 := Scalar.subi v19 v21
  let v23 : BitVec 1 := Scalar.cmpi .ne v17 v22
  let v24 : BitVec 32 := Scalar.remsi v1 c32_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c16_i32 : BitVec 32 := 16#32
  let c0_i32_12 : BitVec 32 := 0#32
  let v29 : BitVec 1 := Scalar.cmpi .eq c16_i32 c0_i32_12
  let c1_i32_13 : BitVec 32 := 1#32
  let v30 : BitVec 32 := Scalar.select v29 c1_i32_13 c16_i32
  let v31 : BitVec 32 := Scalar.remsi v11 v30
  let c0_i32_14 : BitVec 32 := 0#32
  let v32 : BitVec 1 := Scalar.cmpi .ne v31 c0_i32_14
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let v36 : BitVec 1 := Scalar.andi v35 v32
  let v37 : BitVec 32 := Scalar.addi v31 v30
  let v38 : BitVec 32 := Scalar.select v36 v37 v31
  let c0_i32_17 : BitVec 32 := 0#32
  let c0_i32_18 : BitVec 32 := 0#32
  ![v38.toNat, c0_i32_17.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c32_i32_5 : BitVec 32 := 32#32
  let v12 : BitVec 32 := Scalar.divsi v1 c32_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c32_i32_5 c0_i32_8
  let v19 : BitVec 32 := Scalar.extui v18
  let c0_i32_9 : BitVec 32 := 0#32
  let v20 : BitVec 1 := Scalar.cmpi .slt c32_i32_5 c0_i32_9
  let v21 : BitVec 32 := Scalar.extui v20
  let v22 : BitVec 32 := Scalar.subi v19 v21
  let v23 : BitVec 1 := Scalar.cmpi .ne v17 v22
  let v24 : BitVec 32 := Scalar.remsi v1 c32_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c16_i32 : BitVec 32 := 16#32
  let c0_i32_12 : BitVec 32 := 0#32
  let v29 : BitVec 1 := Scalar.cmpi .eq c16_i32 c0_i32_12
  let c1_i32_13 : BitVec 32 := 1#32
  let v30 : BitVec 32 := Scalar.select v29 c1_i32_13 c16_i32
  let v31 : BitVec 32 := Scalar.remsi v11 v30
  let c0_i32_14 : BitVec 32 := 0#32
  let v32 : BitVec 1 := Scalar.cmpi .ne v31 c0_i32_14
  let c0_i32_15 : BitVec 32 := 0#32
  let v33 : BitVec 1 := Scalar.cmpi .slt v31 c0_i32_15
  let c0_i32_16 : BitVec 32 := 0#32
  let v34 : BitVec 1 := Scalar.cmpi .slt v30 c0_i32_16
  let v35 : BitVec 1 := Scalar.xori v33 v34
  let v36 : BitVec 1 := Scalar.andi v35 v32
  let v37 : BitVec 32 := Scalar.addi v31 v30
  let v38 : BitVec 32 := Scalar.select v36 v37 v31
  let c0_i32_17 : BitVec 32 := 0#32
  let c0_i32_18 : BitVec 32 := 0#32
  ![v38.toNat, c0_i32_17.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c32_i32_5 : BitVec 32 := 32#32
  let v12 : BitVec 32 := Scalar.divsi v1 c32_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c32_i32_5 c0_i32_8
  let v19 : BitVec 32 := Scalar.extui v18
  let c0_i32_9 : BitVec 32 := 0#32
  let v20 : BitVec 1 := Scalar.cmpi .slt c32_i32_5 c0_i32_9
  let v21 : BitVec 32 := Scalar.extui v20
  let v22 : BitVec 32 := Scalar.subi v19 v21
  let v23 : BitVec 1 := Scalar.cmpi .ne v17 v22
  let v24 : BitVec 32 := Scalar.remsi v1 c32_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S2x8192x4096 : Shape := ⟨3, ![2, 8192, 4096]⟩
abbrev S4096x6144 : Shape := ⟨2, ![4096, 6144]⟩
abbrev S128 : Shape := ⟨1, ![128]⟩
abbrev S2x8192x6144 : Shape := ⟨3, ![2, 8192, 6144]⟩
abbrev S2x8192x32x128 : Shape := ⟨4, ![2, 8192, 32, 128]⟩
abbrev S_ : Shape := ⟨0, ![]⟩
abbrev S2x8192x32 : Shape := ⟨3, ![2, 8192, 32]⟩
abbrev S2x8192x32x1 : Shape := ⟨4, ![2, 8192, 32, 1]⟩
abbrev S1x1x1x128 : Shape := ⟨4, ![1, 1, 1, 128]⟩
abbrev S2x8192x1024 : Shape := ⟨3, ![2, 8192, 1024]⟩
abbrev S2x8192x8x128 : Shape := ⟨4, ![2, 8192, 8, 128]⟩
abbrev S2x8192x8 : Shape := ⟨3, ![2, 8192, 8]⟩
abbrev S2x8192x8x1 : Shape := ⟨4, ![2, 8192, 8, 1]⟩
abbrev S32 : Shape := ⟨1, ![32]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S8192x1 : Shape := ⟨2, ![8192, 1]⟩
abbrev S1x32 : Shape := ⟨2, ![1, 32]⟩
abbrev S8192x32 : Shape := ⟨2, ![8192, 32]⟩
abbrev S2x8192x32x32 : Shape := ⟨4, ![2, 8192, 32, 32]⟩
abbrev S1x8192x1x32 : Shape := ⟨4, ![1, 8192, 1, 32]⟩
abbrev S2x8192x8x32 : Shape := ⟨4, ![2, 8192, 8, 32]⟩

abbrev nBuf : Space → Nat
  | .hbm => 132
  | .vmem => 0
  | .smem => 0
  | _ => 0

abbrev hbmTy0_0 (i : Nat) : BufTy := match i % 128 with
  | 0 => ⟨S2x8192x4096, .f32⟩
  | 1 => ⟨S4096x6144, .f32⟩
  | 2 => ⟨S128, .f32⟩
  | 3 => ⟨S128, .f32⟩
  | 4 => ⟨S2x8192x6144, .f32⟩
  | 5 => ⟨S2x8192x4096, .f32⟩
  | 6 => ⟨S2x8192x32x128, .f32⟩
  | 7 => ⟨S2x8192x32x128, .f32⟩
  | 8 => ⟨S_, .f32⟩
  | 9 => ⟨S2x8192x32, .f32⟩
  | 10 => ⟨S2x8192x32x1, .f32⟩
  | 11 => ⟨S_, .f32⟩
  | 12 => ⟨S2x8192x32x1, .f32⟩
  | 13 => ⟨S2x8192x32x1, .f32⟩
  | 14 => ⟨S_, .f32⟩
  | 15 => ⟨S2x8192x32x1, .f32⟩
  | 16 => ⟨S2x8192x32x1, .f32⟩
  | 17 => ⟨S2x8192x32x1, .f32⟩
  | 18 => ⟨S2x8192x32x128, .f32⟩
  | 19 => ⟨S2x8192x32x128, .f32⟩
  | 20 => ⟨S1x1x1x128, .f32⟩
  | 21 => ⟨S2x8192x32x128, .f32⟩
  | 22 => ⟨S2x8192x32x128, .f32⟩
  | 23 => ⟨S2x8192x1024, .f32⟩
  | 24 => ⟨S2x8192x8x128, .f32⟩
  | 25 => ⟨S2x8192x8x128, .f32⟩
  | 26 => ⟨S_, .f32⟩
  | 27 => ⟨S2x8192x8, .f32⟩
  | 28 => ⟨S2x8192x8x1, .f32⟩
  | 29 => ⟨S_, .f32⟩
  | 30 => ⟨S2x8192x8x1, .f32⟩
  | 31 => ⟨S2x8192x8x1, .f32⟩
  | 32 => ⟨S_, .f32⟩
  | 33 => ⟨S2x8192x8x1, .f32⟩
  | 34 => ⟨S2x8192x8x1, .f32⟩
  | 35 => ⟨S2x8192x8x1, .f32⟩
  | 36 => ⟨S2x8192x8x128, .f32⟩
  | 37 => ⟨S2x8192x8x128, .f32⟩
  | 38 => ⟨S1x1x1x128, .f32⟩
  | 39 => ⟨S2x8192x8x128, .f32⟩
  | 40 => ⟨S2x8192x8x128, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S128, .f32⟩
  | 50 => ⟨S128x64, .f32⟩
  | 51 => ⟨S8192, .f32⟩
  | 52 => ⟨S64, .f32⟩
  | 53 => ⟨S1x64, .f32⟩
  | 54 => ⟨S128x64, .f32⟩
  | 55 => ⟨S8192, .f32⟩
  | 56 => ⟨S8192x1, .f32⟩
  | 57 => ⟨S1x32, .f32⟩
  | 58 => ⟨S8192x32, .f32⟩
  | 59 => ⟨S8192x32, .f32⟩
  | 60 => ⟨S8192x32, .f32⟩
  | 61 => ⟨S8192x1, .f32⟩
  | 62 => ⟨S1x32, .f32⟩
  | 63 => ⟨S8192x32, .f32⟩
  | 64 => ⟨S8192x32, .f32⟩
  | 65 => ⟨S8192x32, .f32⟩
  | 66 => ⟨S2x8192x32x32, .f32⟩
  | 67 => ⟨S2x8192x32x32, .f32⟩
  | 68 => ⟨S8192x32, .f32⟩
  | 69 => ⟨S1x8192x1x32, .f32⟩
  | 70 => ⟨S8192x32, .f32⟩
  | 71 => ⟨S1x8192x1x32, .f32⟩
  | 72 => ⟨S2x8192x32x32, .f32⟩
  | 73 => ⟨S2x8192x32x32, .f32⟩
  | 74 => ⟨S2x8192x32x32, .f32⟩
  | 75 => ⟨S2x8192x32x32, .f32⟩
  | 76 => ⟨S2x8192x32x32, .f32⟩
  | 77 => ⟨S2x8192x32x32, .f32⟩
  | 78 => ⟨S2x8192x32x32, .f32⟩
  | 79 => ⟨S2x8192x32x32, .f32⟩
  | 80 => ⟨S2x8192x32x32, .f32⟩
  | 81 => ⟨S2x8192x32x32, .f32⟩
  | 82 => ⟨S2x8192x32x32, .f32⟩
  | 83 => ⟨S2x8192x32x32, .f32⟩
  | 84 => ⟨S8192x32, .f32⟩
  | 85 => ⟨S1x8192x1x32, .f32⟩
  | 86 => ⟨S8192x32, .f32⟩
  | 87 => ⟨S1x8192x1x32, .f32⟩
  | 88 => ⟨S2x8192x32x32, .f32⟩
  | 89 => ⟨S2x8192x32x32, .f32⟩
  | 90 => ⟨S2x8192x32x32, .f32⟩
  | 91 => ⟨S2x8192x32x32, .f32⟩
  | 92 => ⟨S2x8192x32x32, .f32⟩
  | 93 => ⟨S2x8192x32x32, .f32⟩
  | 94 => ⟨S2x8192x32x32, .f32⟩
  | 95 => ⟨S2x8192x32x32, .f32⟩
  | 96 => ⟨S2x8192x32x32, .f32⟩
  | 97 => ⟨S2x8192x32x32, .f32⟩
  | 98 => ⟨S2x8192x32x128, .f32⟩
  | 99 => ⟨S2x8192x8x32, .f32⟩
  | 100 => ⟨S2x8192x8x32, .f32⟩
  | 101 => ⟨S8192x32, .f32⟩
  | 102 => ⟨S1x8192x1x32, .f32⟩
  | 103 => ⟨S8192x32, .f32⟩
  | 104 => ⟨S1x8192x1x32, .f32⟩
  | 105 => ⟨S2x8192x8x32, .f32⟩
  | 106 => ⟨S2x8192x8x32, .f32⟩
  | 107 => ⟨S2x8192x8x32, .f32⟩
  | 108 => ⟨S2x8192x8x32, .f32⟩
  | 109 => ⟨S2x8192x8x32, .f32⟩
  | 110 => ⟨S2x8192x8x32, .f32⟩
  | 111 => ⟨S2x8192x8x32, .f32⟩
  | 112 => ⟨S2x8192x8x32, .f32⟩
  | 113 => ⟨S2x8192x8x32, .f32⟩
  | 114 => ⟨S2x8192x8x32, .f32⟩
  | 115 => ⟨S2x8192x8x32, .f32⟩
  | 116 => ⟨S2x8192x8x32, .f32⟩
  | 117 => ⟨S8192x32, .f32⟩
  | 118 => ⟨S1x8192x1x32, .f32⟩
  | 119 => ⟨S8192x32, .f32⟩
  | 120 => ⟨S1x8192x1x32, .f32⟩
  | 121 => ⟨S2x8192x8x32, .f32⟩
  | 122 => ⟨S2x8192x8x32, .f32⟩
  | 123 => ⟨S2x8192x8x32, .f32⟩
  | 124 => ⟨S2x8192x8x32, .f32⟩
  | 125 => ⟨S2x8192x8x32, .f32⟩
  | 126 => ⟨S2x8192x8x32, .f32⟩
  | 127 => ⟨S2x8192x8x32, .f32⟩
  | _ => ⟨S2x8192x4096, .f32⟩

abbrev hbmTy0_1 (i : Nat) : BufTy := match i % 128 with
  | 0 => ⟨S2x8192x8x32, .f32⟩
  | 1 => ⟨S2x8192x8x32, .f32⟩
  | 2 => ⟨S2x8192x8x32, .f32⟩
  | 3 => ⟨S2x8192x8x128, .f32⟩
  | _ => ⟨S2x8192x4096, .f32⟩

abbrev hbmTy (i : Nat) : BufTy := match i / 128 with
  | 0 => hbmTy0_0 i
  | 1 => hbmTy0_1 i
  | _ => ⟨S2x8192x4096, .f32⟩

abbrev bufTy : (tb : Table) → Fin (tcTables nBuf tb) → BufTy
  | .hbm, ⟨i, _⟩ => hbmTy i
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩

abbrev nD : Nat := 1
abbrev τ : Topo := Topo.v7x

variable {F : FTy → Type} [FloatOps F]
-- ==== Kernel5.lean ====
abbrev S16384x4096 : Shape := ⟨2, ![16384, 4096]⟩
abbrev S4096x6144 : Shape := ⟨2, ![4096, 6144]⟩
abbrev S4096x1024 : Shape := ⟨2, ![4096, 1024]⟩
abbrev S16384x1024 : Shape := ⟨2, ![16384, 1024]⟩
abbrev S1024x4096 : Shape := ⟨2, ![1024, 4096]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096x6144, .f32⟩
  | .hbm, ⟨2, _⟩ => ⟨S4096x1024, .f32⟩
  | .hbm, ⟨3, _⟩ => ⟨S4096x1024, .bf16⟩
  | .hbm, ⟨4, _⟩ => ⟨S16384x4096, .bf16⟩
  | .hbm, ⟨5, _⟩ => ⟨S16384x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16384x4096 : Shape := ⟨2, ![16384, 4096]⟩
abbrev S4096x6144 : Shape := ⟨2, ![4096, 6144]⟩
abbrev S16384x6144 : Shape := ⟨2, ![16384, 6144]⟩
abbrev S16384x1024 : Shape := ⟨2, ![16384, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x6144, .f32⟩
  | .hbm, ⟨2, _⟩ => ⟨S16384x6144, .f32⟩
  | .hbm, ⟨3, _⟩ => ⟨S16384x1024, .f32⟩
  | .hbm, ⟨4, _⟩ => ⟨S16384x1024, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S2x4096 : Shape := ⟨2, ![2, 4096]⟩
abbrev S4096 : Shape := ⟨1, ![4096]⟩
abbrev S2x4096x24576 : Shape := ⟨3, ![2, 4096, 24576]⟩
abbrev S2x24576 : Shape := ⟨2, ![2, 24576]⟩
abbrev S1x4096 : Shape := ⟨2, ![1, 4096]⟩
abbrev S_ : Shape := ⟨0, ![]⟩
abbrev S5x4096 : Shape := ⟨2, ![5, 4096]⟩
abbrev S8x4096 : Shape := ⟨2, ![8, 4096]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩
abbrev S1x2x24576 : Shape := ⟨3, ![1, 2, 24576]⟩
abbrev S1x1x24576 : Shape := ⟨3, ![1, 1, 24576]⟩
abbrev S24576 : Shape := ⟨1, ![24576]⟩

abbrev nBuf : Space → Nat
  | .hbm => 16
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S1x4096, .f32⟩
  | .hbm, ⟨5, _⟩ => ⟨S_, .f32⟩
  | .hbm, ⟨6, _⟩ => ⟨S5x4096, .f32⟩
  | .hbm, ⟨7, _⟩ => ⟨S8x4096, .f32⟩
  | .hbm, ⟨8, _⟩ => ⟨S2x1x24576, .f32⟩
  | .hbm, ⟨9, _⟩ => ⟨S2x8x24576, .f32⟩
  | .hbm, ⟨10, _⟩ => ⟨S1x2x24576, .f32⟩
  | .hbm, ⟨11, _⟩ => ⟨S2x24576, .f32⟩
  | .hbm, ⟨12, _⟩ => ⟨S1x2x24576, .f32⟩
  | .hbm, ⟨13, _⟩ => ⟨S2x24576, .f32⟩
  | .hbm, ⟨14, _⟩ => ⟨S1x1x24576, .f32⟩
  | .hbm, ⟨15, _⟩ => ⟨S24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x4096 : Shape := ⟨2, ![2, 4096]⟩
abbrev S4096 : Shape := ⟨1, ![4096]⟩
abbrev S2x4096x24576 : Shape := ⟨3, ![2, 4096, 24576]⟩
abbrev S2x24576 : Shape := ⟨2, ![2, 24576]⟩
abbrev S1x4096x24576 : Shape := ⟨3, ![1, 4096, 24576]⟩
abbrev S4096x24576 : Shape := ⟨2, ![4096, 24576]⟩
abbrev S1x24576 : Shape := ⟨2, ![1, 24576]⟩
abbrev S24576 : Shape := ⟨1, ![24576]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S1x4096x24576, .f32⟩
  | .hbm, ⟨5, _⟩ => ⟨S4096x24576, .f32⟩
  | .hbm, ⟨6, _⟩ => ⟨S1x24576, .f32⟩
  | .hbm, ⟨7, _⟩ => ⟨S24576, .f32⟩
  | .hbm, ⟨8, _⟩ => ⟨S2x4096, .f32⟩
  | .hbm, ⟨9, _⟩ => ⟨S2x4096, .f32⟩
  | .hbm, ⟨10, _⟩ => ⟨S_, .f32⟩
  | .hbm, ⟨11, _⟩ => ⟨S2x4096, .f32⟩
  | .hbm, ⟨12, _⟩ => ⟨S2x4096, .f32⟩
  | .hbm, ⟨13, _⟩ => ⟨S_, .f32⟩
  | .hbm, ⟨14, _⟩ => ⟨S2x4096, .f32⟩
  | .hbm, ⟨15, _⟩ => ⟨S2x4096, .f32⟩
  | .hbm, ⟨16, _⟩ => ⟨S2x4096, .f32⟩
  | .hbm, ⟨17, _⟩ => ⟨S2x24576, .f32⟩
  | .hbm, ⟨18, _⟩ => ⟨S1x24576, .f32⟩
  | .hbm, ⟨19, _⟩ => ⟨S2x24576, .f32⟩
  | .hbm, ⟨20, _⟩ => ⟨S2x24576, .f32⟩
  | .hbm, ⟨21, _⟩ => ⟨S1x4096x24576, .f32⟩
  | .hbm, ⟨22, _⟩ => ⟨S4096x24576, .f32⟩
  | .hbm, ⟨23, _⟩ => ⟨S1x24576, .f32⟩
  | .hbm, ⟨24, _⟩ => ⟨S24576, .f32⟩
  | .hbm, ⟨25, _⟩ => ⟨S2x4096, .f32⟩
  | .hbm, ⟨26, _⟩ => ⟨S2x4096, .f32⟩
  | .hbm, ⟨27, _⟩ => ⟨S_, .f32⟩
  | .hbm, ⟨28, _⟩ => ⟨S2x4096, .f32⟩
  | .hbm, ⟨29, _⟩ => ⟨S2x4096, .f32⟩
  | .hbm, ⟨30, _⟩ => ⟨S_, .f32⟩
  | .hbm, ⟨31, _⟩ => ⟨S2x4096, .f32⟩
  | .hbm, ⟨32, _⟩ => ⟨S2x4096, .f32⟩
  | .hbm, ⟨33, _⟩ => ⟨S2x4096, .f32⟩
  | .hbm, ⟨34, _⟩ => ⟨S2x24576, .f32⟩
  | .hbm, ⟨35, _⟩ => ⟨S1x24576, .f32⟩
  | .hbm, ⟨36, _⟩ => ⟨S2x24576, .f32⟩
  | .hbm, ⟨37, _⟩ => ⟨S2x24576, .f32⟩
  | .hbm, ⟨38, _⟩ => ⟨S1x4096x24576, .f32⟩
  | .hbm, ⟨39, _⟩ => ⟨S4096x24576, .f32⟩
  | .hbm, ⟨40, _⟩ => ⟨S1x24576, .f32⟩
  | .hbm, ⟨41, _⟩ => ⟨S24576, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S24576, .f32⟩
  | .hbm, ⟨52, _⟩ => ⟨S24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩

abbrev nD : Nat := 1
abbrev τ : Topo := Topo.v7x

variable {F : FTy → Type} [FloatOps F]
-- ==== Kernel7.lean ====
abbrev S2x8192x4096 : Shape := ⟨3, ![2, 8192, 4096]⟩
abbrev S2x1x4096 : Shape := ⟨3, ![2, 1, 4096]⟩
abbrev S1x256x4096 : Shape := ⟨3, ![1, 256, 4096]⟩
abbrev S1x1x4096 : Shape := ⟨3, ![1, 1, 4096]⟩
abbrev S256x4096 : Shape := ⟨2, ![256, 4096]⟩
abbrev S1x4096 : Shape := ⟨2, ![1, 4096]⟩

abbrev nBuf : Space → Nat
  | .hbm => 4
  | .vmem => 8
  | .smem => 0
  | _ => 0

abbrev bufTy : (tb : Table) → Fin (tcTables nBuf tb) → BufTy
  | .hbm, ⟨0, _⟩ => ⟨S2x8192x4096, .f32⟩
  | .hbm, ⟨1, _⟩ => ⟨S2x1x4096, .f32⟩
  | .hbm, ⟨2, _⟩ => ⟨S2x1x4096, .f32⟩
  | .hbm, ⟨3, _⟩ => ⟨S2x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x256x4096, .bf16⟩
  | .local _ .vmem, ⟨7, _⟩ => ⟨S1x256x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S2x8192x4096 : Shape := ⟨3, ![2, 8192, 4096]⟩
abbrev S2x1x4096 : Shape := ⟨3, ![2, 1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x1x4096, .f32⟩
  | .hbm, ⟨2, _⟩ => ⟨S2x1x4096, .f32⟩
  | .hbm, ⟨3, _⟩ => ⟨S_, .f32⟩
  | .hbm, ⟨4, _⟩ => ⟨S2x1x4096, .f32⟩
  | .hbm, ⟨5, _⟩ => ⟨S2x1x4096, .f32⟩
  | .hbm, ⟨6, _⟩ => ⟨S2x8192x4096, .f32⟩
  | .hbm, ⟨7, _⟩ => ⟨S2x8192x4096, .f32⟩
  | .hbm, ⟨8, _⟩ => ⟨S2x8192x4096, .f32⟩
  | .hbm, ⟨9, _⟩ => ⟨S2x8192x4096, .f32⟩
  | .hbm, ⟨10, _⟩ => ⟨S2x8192x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel8.lean ====
abbrev S2x256x4096 : Shape := ⟨3, ![2, 256, 4096]⟩
abbrev S4096 : Shape := ⟨1, ![4096]⟩
abbrev S1x1x4096 : Shape := ⟨3, ![1, 1, 4096]⟩
abbrev S2x1x4096 : Shape := ⟨3, ![2, 1, 4096]⟩
abbrev S1x256x4096 : Shape := ⟨3, ![1, 256, 4096]⟩
abbrev S256x4096 : Shape := ⟨2, ![256, 4096]⟩
abbrev S1x4096 : Shape := ⟨2, ![1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S2x256x4096, .f32⟩
  | .hbm, ⟨1, _⟩ => ⟨S4096, .f32⟩
  | .hbm, ⟨2, _⟩ => ⟨S4096, .f32⟩
  | .hbm, ⟨3, _⟩ => ⟨S1x1x4096, .f32⟩
  | .hbm, ⟨4, _⟩ => ⟨S2x1x4096, .f32⟩
  | .hbm, ⟨5, _⟩ => ⟨S1x1x4096, .f32⟩
  | .hbm, ⟨6, _⟩ => ⟨S2x1x4096, .f32⟩
  | .hbm, ⟨7, _⟩ => ⟨S2x256x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x256x4096, .bf16⟩
  | .local _ .vmem, ⟨7, _⟩ => ⟨S1x256x4096, .bf16⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S2x256x4096 : Shape := ⟨3, ![2, 256, 4096]⟩
abbrev S4096 : Shape := ⟨1, ![4096]⟩
abbrev S_ : Shape := ⟨0, ![]⟩
abbrev S1x1x4096 : Shape := ⟨3, ![1, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S1x1x4096, .f32⟩
  | .hbm, ⟨7, _⟩ => ⟨S2x256x4096, .f32⟩
  | .hbm, ⟨8, _⟩ => ⟨S2x256x4096, .f32⟩
  | .hbm, ⟨9, _⟩ => ⟨S1x1x4096, .f32⟩
  | .hbm, ⟨10, _⟩ => ⟨S2x256x4096, .f32⟩
  | .hbm, ⟨11, _⟩ => ⟨S2x256x4096, .f32⟩
  | .hbm, ⟨12, _⟩ => ⟨S2x256x4096, .bf16⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel9.lean ====
abbrev S2x256x4096 : Shape := ⟨3, ![2, 256, 4096]⟩
abbrev S4096x6144 : Shape := ⟨2, ![4096, 6144]⟩
abbrev S4096x1024 : Shape := ⟨2, ![4096, 1024]⟩
abbrev S512x4096 : Shape := ⟨2, ![512, 4096]⟩
abbrev S512x1024 : Shape := ⟨2, ![512, 1024]⟩
abbrev S256x4096 : Shape := ⟨2, ![256, 4096]⟩
abbrev S256x1024 : Shape := ⟨2, ![256, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2x256x4096, .f32⟩
  | .hbm, ⟨1, _⟩ => ⟨S4096x6144, .f32⟩
  | .hbm, ⟨2, _⟩ => ⟨S4096x1024, .f32⟩
  | .hbm, ⟨3, _⟩ => ⟨S4096x1024, .bf16⟩
  | .hbm, ⟨4, _⟩ => ⟨S512x4096, .f32⟩
  | .hbm, ⟨5, _⟩ => ⟨S512x4096, .bf16⟩
  | .hbm, ⟨6, _⟩ => ⟨S512x1024, .bf16⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2x256x4096 : Shape := ⟨3, ![2, 256, 4096]⟩
abbrev S4096x6144 : Shape := ⟨2, ![4096, 6144]⟩
abbrev S4096x2048 : Shape := ⟨2, ![4096, 2048]⟩
abbrev S2x256x2048 : Shape := ⟨3, ![2, 256, 2048]⟩
abbrev S2x256x1024 : Shape := ⟨3, ![2, 256, 1024]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S4096x6144, .f32⟩
  | .hbm, ⟨2, _⟩ => ⟨S4096x2048, .f32⟩
  | .hbm, ⟨3, _⟩ => ⟨S2x256x2048, .f32⟩
  | .hbm, ⟨4, _⟩ => ⟨S2x256x1024, .f32⟩
  | .hbm, ⟨5, _⟩ => ⟨S512x1024, .f32⟩
  | .hbm, ⟨6, _⟩ => ⟨S512x1024, .bf16⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S2x256x4096 : Shape := ⟨3, ![2, 256, 4096]⟩
abbrev S4096x6144 : Shape := ⟨2, ![4096, 6144]⟩
abbrev S128 : Shape := ⟨1, ![128]⟩
abbrev S4096x5120 : Shape := ⟨2, ![4096, 5120]⟩
abbrev S4096x40x2x2x32 : Shape := ⟨5, ![4096, 40, 2, 2, 32]⟩
abbrev S1x128 : Shape := ⟨2, ![1, 128]⟩
abbrev S32x128 : Shape := ⟨2, ![32, 128]⟩
abbrev S4096 : Shape := ⟨1, ![4096]⟩
abbrev S8x128 : Shape := ⟨2, ![8, 128]⟩
abbrev S1024 : Shape := ⟨1, ![1024]⟩
abbrev S5120 : Shape := ⟨1, ![5120]⟩
abbrev S40x2x2x32 : Shape := ⟨4, ![40, 2, 2, 32]⟩
abbrev S1x5120 : Shape := ⟨2, ![1, 5120]⟩
abbrev S_ : Shape := ⟨0, ![]⟩
abbrev S256x128 : Shape := ⟨2, ![256, 128]⟩
abbrev S512x4096 : Shape := ⟨2, ![512, 4096]⟩
abbrev S512x1024 : Shape := ⟨2, ![512, 1024]⟩
abbrev S256x4096 : Shape := ⟨2, ![256, 4096]⟩
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S512x8x2x2x32 : Shape := ⟨5, ![512, 8, 2, 2, 32]⟩
abbrev S2x256x8x128 : Shape := ⟨4, ![2, 256, 8, 128]⟩

abbrev nBuf : Space → Nat
  | .hbm => 44
  | .vmem => 14
  | .smem => 0
  | _ => 0

abbrev bufTy : (tb : Table) → Fin (tcTables nBuf tb) → BufTy
  | .hbm, ⟨0, _⟩ => ⟨S2x256x4096, .f32⟩
  | .hbm, ⟨1, _⟩ => ⟨S4096x6144, .f32⟩
  | .hbm, ⟨2, _⟩ => ⟨S128, .f32⟩
  | .hbm, ⟨3, _⟩ => ⟨S128, .f32⟩
  | .hbm, ⟨4, _⟩ => ⟨S4096x5120, .f32⟩
  | .hbm, ⟨5, _⟩ => ⟨S4096x40x2x2x32, .f32⟩
  | .hbm, ⟨6, _⟩ => ⟨S4096x40x2x2x32, .f32⟩
  | .hbm, ⟨7, _⟩ => ⟨S4096x5120, .f32⟩
  | .hbm, ⟨8, _⟩ => ⟨S4096x5120, .bf16⟩
  | .hbm, ⟨9, _⟩ => ⟨S1x128, .f32⟩
  | .hbm, ⟨10, _⟩ => ⟨S32x128, .f32⟩
  | .hbm, ⟨11, _⟩ => ⟨S4096, .f32⟩
  | .hbm, ⟨12, _⟩ => ⟨S1x128, .f32⟩
  | .hbm, ⟨13, _⟩ => ⟨S8x128, .f32⟩
  | .hbm, ⟨14, _⟩ => ⟨S1024, .f32⟩
  | .hbm, ⟨15, _⟩ => ⟨S5120, .f32⟩
  | .hbm, ⟨16, _⟩ => ⟨S40x2x2x32, .f32⟩
  | .hbm, ⟨17, _⟩ => ⟨S40x2x2x32, .f32⟩
  | .hbm, ⟨18, _⟩ => ⟨S5120, .f32⟩
  | .hbm, ⟨19, _⟩ => ⟨S1x5120, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S1024, .f32⟩
  | .hbm, ⟨30, _⟩ => ⟨S5120, .f32⟩
  | .hbm, ⟨31, _⟩ => ⟨S1x5120, .f32⟩
  | .hbm, ⟨32, _⟩ => ⟨S_, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S512x4096, .f32⟩
  | .hbm, ⟨37, _⟩ => ⟨S512x4096, .bf16⟩
  | .hbm, ⟨38, _⟩ => ⟨S512x1024, .bf16⟩
  | .hbm, ⟨39, _⟩ => ⟨S512x8x2x2x32, .bf16⟩
  | .hbm, ⟨40, _⟩ => ⟨S512x8x2x2x32, .bf16⟩
  | .hbm, ⟨41, _⟩ => ⟨S512x1024, .bf16⟩
  | .hbm, ⟨42, _⟩ => ⟨S2x256x8x128, .bf16⟩
  | .hbm, ⟨43, _⟩ => ⟨S2x256x8x128, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x128, .f32⟩
  | .local _ .vmem, ⟨9, _⟩ => ⟨S256x128, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![3], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c2_i32_4 : BitVec 32 := 2#32
  let v11 : BitVec 32 := Scalar.divsi v0 c2_i32_4
  let c0_i32_5 : BitVec 32 := 0#32
  let v12 : BitVec 1 := Scalar.cmpi .sgt v0 c0_i32_5
  let v13 : BitVec 32 := Scalar.extui v12
  let c0_i32_6 : BitVec 32 := 0#32
  let v14 : BitVec 1 := Scalar.cmpi .slt v0 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi v0 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c0_i32_11 : BitVec 32 := 0#32
  let c0_i32_12 : BitVec 32 := 0#32
  ![v10.toNat, c0_i32_11.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c2_i32 : BitVec 32 := 2#32
  let c0_i32 : BitVec 32 := 0#32
  let v1 : BitVec 1 := Scalar.cmpi .eq c2_i32 c0_i32
  let c1_i32_0 : BitVec 32 := 1#32
  let v2 : BitVec 32 := Scalar.select v1 c1_i32_0 c2_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c2_i32_4 : BitVec 32 := 2#32
  let v11 : BitVec 32 := Scalar.divsi v0 c2_i32_4
  let c0_i32_5 : BitVec 32 := 0#32
  let v12 : BitVec 1 := Scalar.cmpi .sgt v0 c0_i32_5
  let v13 : BitVec 32 := Scalar.extui v12
  let c0_i32_6 : BitVec 32 := 0#32
  let v14 : BitVec 1 := Scalar.cmpi .slt v0 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi v0 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c4_i32 : BitVec 32 := 4#32
  let v28 : BitVec 32 := Scalar.addi v27 c4_i32
  let c0_i32_11 : BitVec 32 := 0#32
  let c0_i32_12 : BitVec 32 := 0#32
  ![c0_i32_11.toNat, v28.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.divsi v1 c2_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v1 c2_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c4_i32 : BitVec 32 := 4#32
  let v29 : BitVec 32 := Scalar.addi v28 c4_i32
  let c0_i32_12 : BitVec 32 := 0#32
  let c0_i32_13 : BitVec 32 := 0#32
  ![c0_i32_12.toNat, v29.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.divsi v1 c2_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v1 c2_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c4_i32 : BitVec 32 := 4#32
  let v29 : BitVec 32 := Scalar.addi v28 c4_i32
  let c0_i32_12 : BitVec 32 := 0#32
  let c0_i32_13 : BitVec 32 := 0#32
  ![c0_i32_12.toNat, v29.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  let v2 : BitVec 1 := Scalar.cmpi .eq c2_i32 c0_i32_0
  let c1_i32_1 : BitVec 32 := 1#32
  let v3 : BitVec 32 := Scalar.select v2 c1_i32_1 c2_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.divsi v1 c2_i32_5
  let c0_i32_6 : BitVec 32 := 0#32
  let v13 : BitVec 1 := Scalar.cmpi .sgt v1 c0_i32_6
  let v14 : BitVec 32 := Scalar.extui v13
  let c0_i32_7 : BitVec 32 := 0#32
  let v15 : BitVec 1 := Scalar.cmpi .slt v1 c0_i32_7
  let v16 : BitVec 32 := Scalar.extui v15
  let v17 : BitVec 32 := Scalar.subi v14 v16
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v1 c2_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c0_i32_12 : BitVec 32 := 0#32
  ![v11.toNat, v28.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S2x256x4096 : Shape := ⟨3, ![2, 256, 4096]⟩
abbrev S4096x6144 : Shape := ⟨2, ![4096, 6144]⟩
abbrev S128 : Shape := ⟨1, ![128]⟩
abbrev S4096x2048 : Shape := ⟨2, ![4096, 2048]⟩
abbrev S2x256x2048 : Shape := ⟨3, ![2, 256, 2048]⟩
abbrev S2x256x1024 : Shape := ⟨3, ![2, 256, 1024]⟩
abbrev S2x256x8x128 : Shape := ⟨4, ![2, 256, 8, 128]⟩
abbrev S_ : Shape := ⟨0, ![]⟩
abbrev S2x256x8 : Shape := ⟨3, ![2, 256, 8]⟩
abbrev S2x256x8x1 : Shape := ⟨4, ![2, 256, 8, 1]⟩
abbrev S1x1x1x128 : Shape := ⟨4, ![1, 1, 1, 128]⟩

abbrev nBuf : Space → Nat
  | .hbm => 24
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S4096x6144, .f32⟩
  | .hbm, ⟨2, _⟩ => ⟨S128, .f32⟩
  | .hbm, ⟨3, _⟩ => ⟨S128, .f32⟩
  | .hbm, ⟨4, _⟩ => ⟨S4096x2048, .f32⟩
  | .hbm, ⟨5, _⟩ => ⟨S2x256x2048, .f32⟩
  | .hbm, ⟨6, _⟩ => ⟨S2x256x1024, .f32⟩
  | .hbm, ⟨7, _⟩ => ⟨S2x256x8x128, .f32⟩
  | .hbm, ⟨8, _⟩ => ⟨S2x256x8x128, .f32⟩
  | .hbm, ⟨9, _⟩ => ⟨S_, .f32⟩
  | .hbm, ⟨10, _⟩ => ⟨S2x256x8, .f32⟩
  | .hbm, ⟨11, _⟩ => ⟨S2x256x8x1, .f32⟩
  | .hbm, ⟨12, _⟩ => ⟨S_, .f32⟩
  | .hbm, ⟨13, _⟩ => ⟨S2x256x8x1, .f32⟩
  | .hbm, ⟨14, _⟩ => ⟨S2x256x8x1, .f32⟩
  | .hbm, ⟨15, _⟩ => ⟨S_, .f32⟩
  | .hbm, ⟨16, _⟩ => ⟨S2x256x8x1, .f32⟩
  | .hbm, ⟨17, _⟩ => ⟨S2x256x8x1, .f32⟩
  | .hbm, ⟨18, _⟩ => ⟨S2x256x8x1, .f32⟩
  | .hbm, ⟨19, _⟩ => ⟨S2x256x8x128, .f32⟩
  | .hbm, ⟨20, _⟩ => ⟨S2x256x8x128, .f32⟩
  | .hbm, ⟨21, _⟩ => ⟨S1x1x1x128, .f32⟩
  | .hbm, ⟨22, _⟩ => ⟨S2x256x8x128, .f32⟩
  | .hbm, ⟨23, _⟩ => ⟨S2x256x8x128, .f32⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Attn.Body.lean ====
/- The attention kernel's body as a recursion. The run of the body names some eight hundred values, one per load,
   store payload and partial result. Here the same values are written as a recursion on the chunk of keys: `scores t`,
   `mList t`, `pList t`, `alList t` and `accList t` are what the scratch buffers hold after `t` chunks, and the
   theorems at the end say that the named buffers of the run are these. -/
module

public import proofs.«01_k».proof.Proof.Gen.KernelIdeal.Frame.RunA

@[expose] public section

set_option maxRecDepth 16384

noncomputable section

namespace Cert.Proof.Attn

open Cert.KernelIdeal Cert.KernelIdeal.Gen Idealize.ShloMosaic Idealize.ShloMosaic.TcCoe

variable {F : FTy → Type} [FloatOps F]

/-! ## Rectangles -/

theorem inb_row (b n : ℕ) : ∀ a, (![b % 3, 16 * (n % 48), 0] : Fin 3 → ℕ) a + S1x16x1024.size a ≤ S3x768x1024.size a := by
  intro a; fin_cases a <;> simp [S1x16x1024, S3x768x1024] <;> omega

theorem inb_slab (b : ℕ) : ∀ a, (![b % 3, 0, 0] : Fin 3 → ℕ) a + S1x768x1024.size a ≤ S3x768x1024.size a := by
  intro a; fin_cases a <;> simp [S1x768x1024, S3x768x1024] <;> omega

theorem inb_al (b : ℕ) : ∀ a, (![b % 3, 0, 0] : Fin 3 → ℕ) a + S1x1x1024.size a ≤ S3x1x1024.size a := by
  intro a; fin_cases a <;> simp [S1x1x1024, S3x1x1024] <;> omega

theorem inb_keys (t : ℕ) : ∀ a, (![0, 768 * (t % 11), 0] : Fin 3 → ℕ) a + S1x768x128.size a ≤ S1x8448x128.size a := by
  intro a; fin_cases a <;> simp [S1x768x128, S1x8448x128] <;> omega

theorem inb_vals (t : ℕ) : ∀ a, (![0, 0, 768 * (t % 11)] : Fin 3 → ℕ) a + S1x144x768.size a ≤ S1x144x8448.size a := by
  intro a; fin_cases a <;> simp [S1x144x768, S1x144x8448] <;> omega

/-- Sixteen rows of one of the three slabs: rows `16 n …` of slab `b`. -/
abbrev rowRect (b n : ℕ) : Rect S3x768x1024 := Rect.unit (s := S3x768x1024) ![b % 3, 16 * (n % 48), 0] S1x16x1024.size (inb_row b n)

/-- Slab `b` of three. -/
abbrev slabRect (b : ℕ) : Rect S3x768x1024 := Rect.unit (s := S3x768x1024) ![b % 3, 0, 0] S1x768x1024.size (inb_slab b)

/-- Row `b` of the three rows of rescaling factors. -/
abbrev alRect (b : ℕ) : Rect S3x1x1024 := Rect.unit (s := S3x1x1024) ![b % 3, 0, 0] S1x1x1024.size (inb_al b)

/-- The keys of chunk `t`. -/
abbrev keyRect (t : ℕ) : Rect S1x8448x128 := Rect.unit (s := S1x8448x128) ![0, 768 * (t % 11), 0] S1x768x128.size (inb_keys t)

/-- The values of chunk `t`. -/
abbrev valRect (t : ℕ) : Rect S1x144x8448 := Rect.unit (s := S1x144x8448) ![0, 0, 768 * (t % 11)] S1x144x768.size (inb_vals t)

abbrev mRect : Rect S1x1024 := Rect.unit (s := S1x1024) ![0, 0] S1x1024.size inb_S1x1024_S1x1024_0_0

abbrev accRect : Rect S144x1024 := Rect.unit (s := S144x1024) ![0, 0] S144x1024.size inb_S144x1024_S144x1024_0_0

/-! ## One chunk -/

/-- The elementwise maximum of row blocks `0 … n`. -/
def chain (s : ℕ → Vec F S1x16x1024 .f32) : ℕ → FVec F S16x1024 .f32
  | 0 => shapeCast S16x1024 (s 0) shapeCasts_S1x16x1024_S16x1024
  | n + 1 => maximumf (chain s n) (shapeCast S16x1024 (s (n + 1)) shapeCasts_S1x16x1024_S16x1024)

/-- The new reference point of each query: the old one, or the largest score of the chunk. -/
def mNew (s : ℕ → Vec F S1x16x1024 .f32) (mp : Vec F S1x1024 .f32) : FVec F S1x1024 .f32 :=
  maximumf mp (shapeCast S1x1024 (multiReduction .maximumf [0] S1024 (chain s 47) 0xFF800000#32 reduces_S16x1024_S1024 (.inl rfl) rfl) shapeCasts_S1024_S1x1024)

/-- Sixteen rows of weights: the powers of two of the scores less the reference point. -/
def expRow (m : FVec F S1x1024 .f32) (s : Vec F S1x16x1024 .f32) : FVec F S1x16x1024 .bf16 :=
  shapeCast S1x16x1024 (truncf .bf16 (exp2 (subf (shapeCast S16x1024 s shapeCasts_S1x16x1024_S16x1024)
    (broadcastTo S16x1024 m broadcasts_S1x1024_S16x1024))) bitsLt_bf16_f32) shapeCasts_S16x1024_S1x16x1024

/-- The weights' buffer after `n` row blocks of slab `b`, over what it held. -/
def pRows (b : ℕ) (m : FVec F S1x1024 .f32) (s : ℕ → Vec F S1x16x1024 .f32) (L : List (View.Piece (Elt F) S3x768x1024 .bf16)) :
    ℕ → List (View.Piece (Elt F) S3x768x1024 .bf16)
  | 0 => L
  | n + 1 => ⟨rowRect b n, expRow m (s n)⟩ :: pRows b m s L n

/-- One step of the accumulator: rescaled, plus the chunk's values times its weights. -/
def accStep (al : Vec F S1x1x1024 .f32) (acc : Vec F S144x1024 .f32) (v : Vec F S1x144x768 .bf16) (p : Vec F S1x768x1024 .bf16) :
    FVec F S144x1024 .f32 := k0_pay142 (k0_pay141 al) acc v p

/-! ## All chunks -/

section
variable (qv : Vec F S128x1024 .bf16) (kl : ℕ → Vec F S1x768x128 .bf16) (vl : ℕ → Vec F S1x144x768 .bf16)
variable (arg8 : Memref sig .tc .vmem S3x768x1024 .f32) (arg9 : Memref sig .tc .vmem S3x768x1024 .bf16)
variable (arg10 : Memref sig .tc .vmem S3x1x1024 .f32) (arg11 : Memref sig .tc .vmem S1x1024 .f32)
variable (arg12 : Memref sig .tc .vmem S144x1024 .f32)

/-- The score buffer after the scores of `t` chunks. -/
def scores : ℕ → List (View.Piece (Elt F) S3x768x1024 .f32)
  | 0 => []
  | t + 1 => ⟨slabRect t, k0_pay9 (kl t) qv⟩ :: scores t

/-- The row blocks chunk `t` reads: the scores of the next chunk are already in the buffer. -/
def rows (t n : ℕ) : Vec F S1x16x1024 .f32 :=
  arg8.view.readCov (scores qv kl (min (t + 2) 11)) (rowRect t n).toLoadRect

/-- The reference points' buffer after `t` chunks. -/
def mList : ℕ → List (View.Piece (Elt F) S1x1024 .f32)
  | 0 => [⟨mRect, k0_pay7⟩]
  | t + 1 => ⟨mRect, k0_pay75 (mNew (rows qv kl arg8 t) (arg11.view.readCov (mList t) mRect.toLoadRect))⟩ :: mList t

/-- The reference points before chunk `t`. -/
def mPrev (t : ℕ) : Vec F S1x1024 .f32 := arg11.view.readCov (mList qv kl arg8 arg11 t) mRect.toLoadRect

/-- The reference points after chunk `t`. -/
def mAt (t : ℕ) : FVec F S1x1024 .f32 := mNew (rows qv kl arg8 t) (mPrev qv kl arg8 arg11 t)

/-- The weights' buffer after `t` chunks. -/
def pList : ℕ → List (View.Piece (Elt F) S3x768x1024 .bf16)
  | 0 => []
  | t + 1 => pRows t (mAt qv kl arg8 arg11 t) (rows qv kl arg8 t) (pList t) 48

/-- The rescaling factors' buffer after `t` chunks. -/
def alList : ℕ → List (View.Piece (Elt F) S3x1x1024 .f32)
  | 0 => []
  | t + 1 => ⟨alRect t, k0_pay76 (mPrev qv kl arg8 arg11 t) (mAt qv kl arg8 arg11 t)⟩ :: alList t

/-- The accumulator's buffer after the values of `t` chunks. -/
def accList : ℕ → List (View.Piece (Elt F) S144x1024 .f32)
  | 0 => [⟨accRect, k0_pay8 kernelRun0_A.sl.cst_16⟩]
  | t + 1 => ⟨accRect, accStep (arg10.view.readCov (alList qv kl arg8 arg11 (min (t + 2) 11)) (alRect t).toLoadRect)
      (arg12.view.readCov (accList t) accRect.toLoadRect) (vl t)
      (arg9.view.readCov (pList qv kl arg8 arg11 (min (t + 2) 11)) (slabRect t).toLoadRect)⟩ :: accList t
end

/-! ## The run's buffers are these -/

section
variable (c : Dev nD) (arg3 : Memref sig .tc .vmem S1x256x512 .bf16) (harg3 : arg3.IsWhole)
variable (arg4 : Memref sig .tc .vmem S1x8448x128 .bf16) (harg4 : arg4.IsWhole)
variable (arg5 : Memref sig .tc .vmem S1x144x8448 .bf16) (harg5 : arg5.IsWhole)
variable (arg7 : Memref sig .tc .vmem S128x1024 .bf16)
variable (arg8 : Memref sig .tc .vmem S3x768x1024 .f32) (arg9 : Memref sig .tc .vmem S3x768x1024 .bf16)
variable (arg10 : Memref sig .tc .vmem S3x1x1024 .f32) (arg11 : Memref sig .tc .vmem S1x1024 .f32)
variable (arg12 : Memref sig .tc .vmem S144x1024 .f32)
variable (x0 : Vec F S1x256x512 .bf16) (x1 : Vec F S1x8448x128 .bf16) (x2 : Vec F S1x144x8448 .bf16)

/-- The queries, transposed, as the body reads them from its scratch. -/
abbrev qAt : Vec F S128x1024 .bf16 := kernelRun0_A.sl.v34 c arg3 harg3 arg7 x0

/-- The keys of chunk `t`, as the body reads them from its window. -/
def kAt (t : ℕ) : Vec F S1x768x128 .bf16 := View.readAt (Elt F) arg4.view (keyRect t).toLoadRect (harg4.unread x1)

/-- The values of chunk `t`, as the body reads them from its window. -/
def vAt (t : ℕ) : Vec F S1x144x768 .bf16 := View.readAt (Elt F) arg5.view (valRect t).toLoadRect (harg5.unread x2)

/-- The accumulator's buffer at the end of the body. -/
theorem accList_eq : kernelRun0_A.sl.HS5_12 c arg3 harg3 arg4 harg4 arg5 harg5 arg7 arg8 arg9 arg10 arg11 arg12 x0 x1 x2
    = accList (qAt c arg3 harg3 arg7 x0) (kAt arg4 harg4 x1) (vAt arg5 harg5 x2) arg8 arg9 arg10 arg11 arg12 11 := rfl
end

end Cert.Proof.Attn

end
-- ==== Proof.Attn.Read.lean ====
/- The payloads of the attention kernel's body, read at an index over the extended reals. -/
module

public import proofs.«01_k».proof.Proof.Attn.Body
public import Idealize.ShloMosaic.Lib.Pipeline.ValueKit

@[expose] public section

set_option maxRecDepth 16384

noncomputable section

namespace Cert.Proof.Attn

open Cert.KernelIdeal Cert.KernelIdeal.Gen Idealize.ShloMosaic Idealize.ShloMosaic.TcCoe

theorem neg_inf : Ideal.ofBits .f32 0xFF800000#32 = ⊥ := by
  simp [Ideal.ofBits, Ideal.ieee]

/-- A score: a key times a query. -/
theorem score_read (kv : FVec Ideal S1x768x128 .bf16) (qv : FVec Ideal S128x1024 .bf16) (a : Fin 768) (j : Fin 1024) :
    (k0_pay9 (F := Ideal) kv qv (ix3 0 a j) : EReal) = ∑ d : Fin 128, kv (ix3 0 a d) * qv (ix2 d j) := by
  pointwise [k0_pay9]

theorem exp_read (m : FVec Ideal S1x1024 .f32) (s : FVec Ideal S1x16x1024 .f32) (a : Fin 16) (j : Fin 1024) :
    expRow m s (ix3 0 a j) = Ideal.exp2 (s (ix3 0 a j) - m (ix2 0 j)) := by
  pointwise [expRow]
  rfl

theorem al_read (mp m : FVec Ideal S1x1024 .f32) (j : Fin 1024) :
    k0_pay76 mp m (ix3 0 0 j) = Ideal.exp2 (mp (ix2 0 j) - m (ix2 0 j)) := by
  pointwise [k0_pay76]
  rfl

theorem m_read (m : FVec Ideal S1x1024 .f32) (j : Fin 1024) : k0_pay75 m (ix2 0 j) = m (ix2 0 j) := by
  pointwise [k0_pay75]

theorem acc_read (al : FVec Ideal S1x1x1024 .f32) (acc : FVec Ideal S144x1024 .f32) (v : FVec Ideal S1x144x768 .bf16)
    (p : FVec Ideal S1x768x1024 .bf16) (d : Fin 144) (j : Fin 1024) :
    accStep al acc v p (ix2 d j) = al (ix3 0 0 j) * acc (ix2 d j) + ∑ k : Fin 768, v (ix3 0 d k) * p (ix3 0 k j) := by
  pointwise [accStep, k0_pay142, k0_pay141]

theorem m_init (j : Fin 1024) : k0_pay7 (F := Ideal) (ix2 0 j) = ⊥ := by
  pointwise [k0_pay7]
  exact neg_inf

theorem acc_init (d : Fin 144) (j : Fin 1024) : k0_pay8 (F := Ideal) kernelRun0_A.sl.cst_16 (ix2 d j) = 0 := by
  pointwise [k0_pay8, kernelRun0_A.sl.cst_16]

theorem q_read (x : FVec Ideal S1x256x128 .bf16) (d : Fin 128) (r : Fin 256) : k0_pay3 x (ix2 d r) = x (ix3 0 r d) := by
  pointwise [k0_pay3]

theorem out_read (a : FVec Ideal S128x1024 .f32) (l : FVec Ideal S1x1024 .f32) (r : Fin 1024) (d : Fin 128) :
    (k0_pay757 (F := Ideal) a l (ix2 r d) : EReal) = Ideal.div (a (ix2 d r)) (l (ix2 0 r)) := by
  pointwise [k0_pay757]

theorem max_read (s : ℕ → FVec Ideal S1x16x1024 .f32) (mp : FVec Ideal S1x1024 .f32) (j : Fin 1024) :
    (mNew (F := Ideal) s mp (ix2 0 j) : EReal)
      = max (mp (ix2 0 j)) (Finset.fold max ⊥ (fun x : Fin 16 => chain (F := Ideal) s 47 (ix2 x j)) Finset.univ) := by
  pointwise [mNew]
  rw [neg_inf]

theorem chain_zero (s : ℕ → FVec Ideal S1x16x1024 .f32) (a : Fin 16) (j : Fin 1024) :
    (chain (F := Ideal) s 0 (ix2 a j) : EReal) = s 0 (ix3 0 a j) := by
  rw [chain]
  pointwise []

theorem chain_read (s : ℕ → FVec Ideal S1x16x1024 .f32) (n : ℕ) (a : Fin 16) (j : Fin 1024) :
    (chain (F := Ideal) s (n + 1) (ix2 a j) : EReal) = max (chain (F := Ideal) s n (ix2 a j)) (s (n + 1) (ix3 0 a j)) := by
  rw [chain]
  pointwise []

end Cert.Proof.Attn

end
-- ==== Proof.Attn.Softmax.lean ====
/-
  The arithmetic of the softmax, on the extended reals.

  The kernel keeps, for one query, a running reference point `m` and a running sum
  `acc = Σ 2^(sᵢ - m) · vᵢ` over the keys it has seen; when it meets more keys it moves the reference
  point and rescales. The reference subtracts the largest score once and divides by the sum of the
  exponentials. `Seen` is the kernel's invariant, `Seen.step` one more block of keys, and
  `softmax_eq` the equation of the two quotients.
-/
module

public import Idealize.ShloMosaic.PureOps.Ideal
public import Mathlib.Analysis.SpecialFunctions.Pow.Real

@[expose] public section

noncomputable section

namespace Cert.Proof.Attn

open Idealize.ShloMosaic

/-- A nonnegative real factor goes through a finite sum of extended reals. -/
theorem coe_mul_sum {ι : Type*} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih,
      EReal.left_distrib_of_nonneg_of_ne_top (EReal.coe_nonneg.2 hc) (EReal.coe_ne_top c)]

/-- A finite sum of reals, read on the extended reals. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem exp_coe (x : ℝ) : Ideal.exp (x : EReal) = (Real.exp x : EReal) := rfl

theorem exp2_coe (x : ℝ) : Ideal.exp2 (x : EReal) = ((2 : ℝ) ^ x : ℝ) := rfl

/-- The weight of a key of score `s` against the reference point `μ`. -/
theorem exp2_sub (s μ : ℝ) : Ideal.exp2 ((s : EReal) - μ) = ((2 : ℝ) ^ (s - μ) : ℝ) := by
  rw [← EReal.coe_sub, exp2_coe]

/-- Moving the reference point from `μ` to `μ'` multiplies a weight by the weight of `μ`. -/
theorem rescale (s μ μ' : ℝ) : (2 : ℝ) ^ (s - μ) * 2 ^ (μ - μ') = 2 ^ (s - μ') := by
  rw [← Real.rpow_add two_pos]; congr 1; ring

/-- What holds after `k` keys of scores `s`: the reference point is a real once a key was seen, and the sum
    at each value row `d` is that of the weighted values of these keys. -/
def Seen {D : Type*} (s : ℕ → ℝ) (v : D → ℕ → EReal) (k : ℕ) (m : EReal) (acc : D → EReal) : Prop :=
  (k = 0 ∧ ∀ d, acc d = 0) ∨
    ∃ μ : ℝ, m = μ ∧ ∀ d, acc d = ∑ i ∈ Finset.range k, (((2 : ℝ) ^ (s i - μ) : ℝ) : EReal) * v d i

theorem Seen.start {D : Type*} (s : ℕ → ℝ) (v : D → ℕ → EReal) (m : EReal) :
    Seen s v 0 m fun _ => 0 := Or.inl ⟨rfl, fun _ => rfl⟩

/-- One more block of `n` keys: rescale the sum to the new reference point, add the block's weighted values. -/
theorem Seen.step {D : Type*} {s : ℕ → ℝ} {v : D → ℕ → EReal} {k : ℕ} {m : EReal} {acc : D → EReal}
    (h : Seen s v k m acc) (n : ℕ) {m' : EReal} {acc' : D → EReal} (μ' : ℝ) (hm : m' = μ')
    (hacc : ∀ d, acc' d = acc d * Ideal.exp2 (m - m')
      + ∑ i ∈ Finset.range n, v d (k + i) * Ideal.exp2 ((s (k + i) : EReal) - m')) :
    Seen s v (k + n) m' acc' := by
  subst hm
  refine Or.inr ⟨μ', rfl, fun d => ?_⟩
  rw [hacc d, Finset.sum_range_add]
  congr 1
  · rcases h with ⟨rfl, h0⟩ | ⟨μ, rfl, h⟩
    · simp [h0 d]
    · rw [h d, exp2_sub, mul_comm, coe_mul_sum _ _ (Real.rpow_nonneg zero_le_two _)]
      refine Finset.sum_congr rfl fun i _ => ?_
      rw [← mul_assoc, ← EReal.coe_mul, mul_comm (_ ^ _) (_ ^ _), rescale]
  · exact Finset.sum_congr rfl fun i _ => by rw [exp2_sub, mul_comm]

/-- Division by a nonzero real is multiplication by its inverse. -/
theorem div_coe (x : EReal) (r : ℝ) (hr : r ≠ 0) : Ideal.div x r = x * ((r⁻¹ : ℝ) : EReal) := by
  unfold Ideal.div
  rw [if_neg (by simpa using hr), EReal.coe_inv]

/-- The two quotients are equal: weights in base two against any reference point `μ`, normalised after the
    values are summed, and exponentials against any reference point `ν`, normalised before. -/
theorem softmax_eq (n : ℕ) (hn : 0 < n) (s x : ℕ → ℝ) (hs : ∀ i, s i * Real.log 2 = x i) (v : ℕ → EReal)
    (μ ν : ℝ) :
    Ideal.div (∑ i ∈ Finset.range n, (((2 : ℝ) ^ (s i - μ) : ℝ) : EReal) * v i)
        (∑ i ∈ Finset.range n, (((2 : ℝ) ^ (s i - μ) : ℝ) : EReal) * 1)
      = ∑ i ∈ Finset.range n, v i * Ideal.div (Ideal.exp ((x i : EReal) - ν))
          (∑ j ∈ Finset.range n, Ideal.exp ((x j : EReal) - ν)) := by
  set κ : ℝ := Real.exp (ν - μ * Real.log 2) with hκ
  have hκ0 : 0 < κ := Real.exp_pos _
  have hw : ∀ i, (2 : ℝ) ^ (s i - μ) = κ * Real.exp (x i - ν) := fun i => by
    rw [Real.rpow_def_of_pos two_pos, hκ, ← Real.exp_add, ← hs i]; congr 1; ring
  have he : ∀ i, Ideal.exp ((x i : EReal) - ν) = (Real.exp (x i - ν) : EReal) := fun i => by
    rw [← EReal.coe_sub, exp_coe]
  set L : ℝ := ∑ i ∈ Finset.range n, Real.exp (x i - ν) with hL
  have hL0 : 0 < L := Finset.sum_pos (fun i _ => Real.exp_pos _) ⟨0, Finset.mem_range.2 hn⟩
  have hsum : ∑ i ∈ Finset.range n, (((2 : ℝ) ^ (s i - μ) : ℝ) : EReal) * 1 = ((κ * L : ℝ) : EReal) := by
    rw [hL, Finset.mul_sum, coe_sum]
    exact Finset.sum_congr rfl fun i _ => by rw [mul_one, hw i]
  have hden : ∑ j ∈ Finset.range n, Ideal.exp ((x j : EReal) - ν) = (L : EReal) := by
    rw [hL, coe_sum]; exact Finset.sum_congr rfl fun i _ => he i
  rw [hsum, hden, div_coe _ _ (mul_pos hκ0 hL0).ne', mul_comm,
    coe_mul_sum _ _ (inv_nonneg.2 (mul_pos hκ0 hL0).le)]
  refine Finset.sum_congr rfl fun i _ => ?_
  rw [he i, div_coe _ _ hL0.ne', ← mul_assoc, ← EReal.coe_mul, ← EReal.coe_mul, mul_comm (v i), hw i]
  congr 2
  field_simp

end Cert.Proof.Attn

end

end
-- ==== Proof.Attn.Column.lean ====
/- The attention kernel's body, read down one column of its buffers: one query. A load from a scratch buffer is the
   payload last stored there (`scores_at`, `p_at`, `al_at`, `acc_at`), and with real scores the accumulator after each
   chunk is the weighted sum of the values seen so far (`seen`). -/
module

public import proofs.«01_k».proof.Proof.Attn.Read
public import proofs.«01_k».proof.Proof.Attn.Softmax

@[expose] public section

set_option maxRecDepth 16384

noncomputable section

namespace Cert.Proof.Attn

open Cert.KernelIdeal Cert.KernelIdeal.Gen Idealize.ShloMosaic Idealize.ShloMosaic.TcCoe

/-! ## Reading back the newest piece, or past it -/

theorem canon_hit {s : Shape} {e : EltTy} (r : Rect s) (w : r.shape.Idx → Elt Ideal e)
    (L : List (View.Piece (Elt Ideal) s e)) (x : r.shape.Idx) {y : s.Idx} (h : r.emb x = y) :
    View.canon (⟨r, w⟩ :: L) y = w x := h ▸ View.canon_cons_emb r w L x

/-- Slab `b`'s index, in any of the buffers of three slabs. -/
abbrev third (b : ℕ) : Fin 3 := ⟨b % 3, Nat.mod_lt _ (by decide)⟩

theorem third_ne {t n : ℕ} (h1 : t < n) (h3 : n < t + 3) : ¬ n % 3 = t % 3 := by omega

theorem slab_emb (b : ℕ) (a : Fin 768) (j : Fin 1024) : (slabRect b).emb (ix3 0 a j) = ix3 (third b) a j := by
  funext x; fin_cases x <;> ext <;> simp [Rect.emb_apply]

theorem row_emb (b n : ℕ) (a : Fin 16) (j : Fin 1024) (i : Fin 768) (hi : (i : ℕ) = 16 * (n % 48) + a) :
    (rowRect b n).emb (ix3 0 a j) = ix3 (third b) i j := by
  funext x; fin_cases x <;> ext <;> simp [Rect.emb_apply, hi]

theorem al_emb (b : ℕ) (j : Fin 1024) : (alRect b).emb (ix3 0 0 j) = ix3 (third b) 0 j := by
  funext x; fin_cases x <;> ext <;> simp [Rect.emb_apply]

theorem slab_not_mem {b b' : ℕ} (h : ¬ b % 3 = b' % 3) (a : Fin 768) (j : Fin 1024) : ix3 (third b') a j ∉ (slabRect b).set := by
  rw [Rect.mem_set_unit]
  intro hm
  have := hm 0
  simp at this
  omega

theorem al_not_mem {b b' : ℕ} (h : ¬ b % 3 = b' % 3) (j : Fin 1024) : ix3 (third b') 0 j ∉ (alRect b).set := by
  rw [Rect.mem_set_unit]
  intro hm
  have := hm 0
  simp at this
  omega

theorem row_not_mem {b b' n : ℕ} (i : Fin 768) (h : ¬ b % 3 = b' % 3 ∨ ¬ (i : ℕ) / 16 = n % 48) (j : Fin 1024) :
    ix3 (third b') i j ∉ (rowRect b n).set := by
  rw [Rect.mem_set_unit]
  intro hm
  have h0 := hm 0
  have h1 := hm 1
  simp at h0 h1
  omega

theorem canon_slab_skip {e : EltTy} {b b' : ℕ} (h : ¬ b % 3 = b' % 3) (w : (slabRect b).shape.Idx → Elt Ideal e)
    (L : List (View.Piece (Elt Ideal) S3x768x1024 e)) (a : Fin 768) (j : Fin 1024) :
    View.canon (⟨slabRect b, w⟩ :: L) (ix3 (third b') a j) = View.canon L (ix3 (third b') a j) :=
  View.canon_cons_of_not_mem (⟨slabRect b, w⟩ : View.Piece (Elt Ideal) S3x768x1024 e) L (slab_not_mem h a j)

theorem canon_al_skip {e : EltTy} {b b' : ℕ} (h : ¬ b % 3 = b' % 3) (w : (alRect b).shape.Idx → Elt Ideal e)
    (L : List (View.Piece (Elt Ideal) S3x1x1024 e)) (j : Fin 1024) :
    View.canon (⟨alRect b, w⟩ :: L) (ix3 (third b') 0 j) = View.canon L (ix3 (third b') 0 j) :=
  View.canon_cons_of_not_mem (⟨alRect b, w⟩ : View.Piece (Elt Ideal) S3x1x1024 e) L (al_not_mem h j)

theorem canon_row_skip {e : EltTy} {b b' n : ℕ} (i : Fin 768) (h : ¬ b % 3 = b' % 3 ∨ ¬ (i : ℕ) / 16 = n % 48)
    (w : (rowRect b n).shape.Idx → Elt Ideal e) (L : List (View.Piece (Elt Ideal) S3x768x1024 e)) (j : Fin 1024) :
    View.canon (⟨rowRect b n, w⟩ :: L) (ix3 (third b') i j) = View.canon L (ix3 (third b') i j) :=
  View.canon_cons_of_not_mem (⟨rowRect b n, w⟩ : View.Piece (Elt Ideal) S3x768x1024 e) L (row_not_mem i h j)

theorem canon_row {e : EltTy} (b n : ℕ) (w : (rowRect b n).shape.Idx → Elt Ideal e) (L : List (View.Piece (Elt Ideal) S3x768x1024 e))
    (a : Fin 16) (j : Fin 1024) (i : Fin 768) (hi : (i : ℕ) = 16 * (n % 48) + a) :
    View.canon (⟨rowRect b n, w⟩ :: L) (ix3 (third b) i j) = w (ix3 0 a j) :=
  canon_hit (rowRect b n) w L (ix3 0 a j) (row_emb b n a j i hi)

theorem canon_slab {e : EltTy} (b : ℕ) (w : (slabRect b).shape.Idx → Elt Ideal e) (L : List (View.Piece (Elt Ideal) S3x768x1024 e))
    (a : Fin 768) (j : Fin 1024) : View.canon (⟨slabRect b, w⟩ :: L) (ix3 (third b) a j) = w (ix3 0 a j) :=
  canon_hit (slabRect b) w L (ix3 0 a j) (slab_emb b a j)

theorem canon_al {e : EltTy} (b : ℕ) (w : (alRect b).shape.Idx → Elt Ideal e) (L : List (View.Piece (Elt Ideal) S3x1x1024 e))
    (j : Fin 1024) : View.canon (⟨alRect b, w⟩ :: L) (ix3 (third b) 0 j) = w (ix3 0 0 j) :=
  canon_hit (alRect b) w L (ix3 0 0 j) (al_emb b j)

section
variable (qv : Vec Ideal S128x1024 .bf16) (kl : ℕ → Vec Ideal S1x768x128 .bf16) (vl : ℕ → Vec Ideal S1x144x768 .bf16)
variable (arg8 : Memref sig .tc .vmem S3x768x1024 .f32) (arg9 : Memref sig .tc .vmem S3x768x1024 .bf16)
variable (arg10 : Memref sig .tc .vmem S3x1x1024 .f32) (arg11 : Memref sig .tc .vmem S1x1024 .f32)
variable (arg12 : Memref sig .tc .vmem S144x1024 .f32)

/-! ## The buffers -/

theorem scores_at (t n : ℕ) (h1 : t < n) (h3 : n ≤ t + 3) (a : Fin 768) (j : Fin 1024) :
    View.canon (scores qv kl n) (ix3 (third t) a j) = k0_pay9 (kl t) qv (ix3 0 a j) := by
  induction n with
  | zero => omega
  | succ n ih =>
      rw [scores]
      rcases Nat.lt_succ_iff_lt_or_eq.1 h1 with h | rfl
      · rw [canon_slab_skip (third_ne h (by omega))]
        exact ih h (by omega)
      · exact canon_slab _ _ _ a j

/-- Row `a` of row block `n` of chunk `t` is a score. -/
theorem rows_at (t n : ℕ) (ht : t < 11) (a : Fin 16) (j : Fin 1024) (i : Fin 768) (hi : (i : ℕ) = 16 * (n % 48) + a) :
    rows qv kl arg8 t n (ix3 0 a j) = k0_pay9 (kl t) qv (ix3 0 i j) := by
  rw [rows, View.readCov_eq_canon']
  show View.canon _ ((rowRect t n).emb (ix3 0 a j)) = _
  rw [row_emb t n a j i hi]
  exact scores_at qv kl t _ (by omega) (by omega) i j

theorem mPrev_zero (j : Fin 1024) : mPrev qv kl arg8 arg11 0 (ix2 0 j) = (⊥ : EReal) := by
  rw [mPrev, mList, View.readCov_cons_toLoadRect]
  exact m_init j

theorem mPrev_succ (t : ℕ) (j : Fin 1024) : mPrev qv kl arg8 arg11 (t + 1) (ix2 0 j) = mAt qv kl arg8 arg11 t (ix2 0 j) := by
  rw [mPrev, mList, View.readCov_cons_toLoadRect]
  exact m_read _ j

theorem pRows_at (b : ℕ) (m : FVec Ideal S1x1024 .f32) (s : ℕ → Vec Ideal S1x16x1024 .f32)
    (L : List (View.Piece (Elt Ideal) S3x768x1024 .bf16)) (n : ℕ) (hn : n ≤ 48) (i : Fin 768) (hi : (i : ℕ) < 16 * n) (j : Fin 1024) :
    View.canon (pRows b m s L n) (ix3 (third b) i j)
      = expRow m (s ((i : ℕ) / 16)) (ix3 0 ⟨(i : ℕ) % 16, Nat.mod_lt _ (by decide)⟩ j) := by
  induction n with
  | zero => omega
  | succ n ih =>
      rw [pRows]
      by_cases h : (i : ℕ) / 16 = n
      · subst h
        exact canon_row _ _ _ _ ⟨(i : ℕ) % 16, Nat.mod_lt _ (by decide)⟩ j i (by simp only; omega)
      · rw [canon_row_skip i (Or.inr (by omega))]
        exact ih (by omega) (by omega)

theorem pRows_skip (b b' : ℕ) (h : ¬ b % 3 = b' % 3) (m : FVec Ideal S1x1024 .f32) (s : ℕ → Vec Ideal S1x16x1024 .f32)
    (L : List (View.Piece (Elt Ideal) S3x768x1024 .bf16)) (n : ℕ) (i : Fin 768) (j : Fin 1024) :
    View.canon (pRows b m s L n) (ix3 (third b') i j) = View.canon L (ix3 (third b') i j) := by
  induction n with
  | zero => rfl
  | succ n ih => rw [pRows, canon_row_skip i (Or.inl h), ih]

/-- A weight: two to the score less the chunk's reference point. -/
theorem p_at (t n : ℕ) (ht : t < 11) (h1 : t < n) (h3 : n ≤ t + 3) (i : Fin 768) (j : Fin 1024) :
    View.canon (pList qv kl arg8 arg11 n) (ix3 (third t) i j)
      = Ideal.exp2 (k0_pay9 (F := Ideal) (kl t) qv (ix3 0 i j) - mAt qv kl arg8 arg11 t (ix2 0 j)) := by
  induction n with
  | zero => omega
  | succ n ih =>
      rw [pList]
      rcases Nat.lt_succ_iff_lt_or_eq.1 h1 with h | rfl
      · rw [pRows_skip _ _ (third_ne h (by omega))]
        exact ih h (by omega)
      · rw [pRows_at _ _ _ _ 48 le_rfl i (by omega) j, exp_read, rows_at qv kl arg8 t _ ht _ j i (by simp only; omega)]

/-- A rescaling factor: two to the old reference point less the new one. -/
theorem al_at (t n : ℕ) (h1 : t < n) (h3 : n ≤ t + 3) (j : Fin 1024) :
    View.canon (alList qv kl arg8 arg11 n) (ix3 (third t) 0 j)
      = Ideal.exp2 (mPrev qv kl arg8 arg11 t (ix2 0 j) - mAt qv kl arg8 arg11 t (ix2 0 j)) := by
  induction n with
  | zero => omega
  | succ n ih =>
      rw [alList]
      rcases Nat.lt_succ_iff_lt_or_eq.1 h1 with h | rfl
      · rw [canon_al_skip (third_ne h (by omega))]
        exact ih h (by omega)
      · exact (canon_al _ _ _ j).trans (al_read _ _ j)

/-- The accumulator after the values of `t` chunks. -/
def accAt (t : ℕ) : Vec Ideal S144x1024 .f32 :=
  arg12.view.readCov (accList qv kl vl arg8 arg9 arg10 arg11 arg12 t) accRect.toLoadRect

theorem accAt_zero (d : Fin 144) (j : Fin 1024) : accAt qv kl vl arg8 arg9 arg10 arg11 arg12 0 (ix2 d j) = (0 : EReal) := by
  rw [accAt, accList, View.readCov_cons_toLoadRect]
  exact acc_init d j

theorem accAt_succ (t : ℕ) (ht : t < 11) (d : Fin 144) (j : Fin 1024) :
    accAt qv kl vl arg8 arg9 arg10 arg11 arg12 (t + 1) (ix2 d j)
      = Ideal.exp2 (mPrev qv kl arg8 arg11 t (ix2 0 j) - mAt qv kl arg8 arg11 t (ix2 0 j))
          * accAt qv kl vl arg8 arg9 arg10 arg11 arg12 t (ix2 d j)
        + ∑ k : Fin 768, vl t (ix3 0 d k)
            * Ideal.exp2 (k0_pay9 (F := Ideal) (kl t) qv (ix3 0 k j) - mAt qv kl arg8 arg11 t (ix2 0 j)) := by
  rw [accAt, accList, View.readCov_cons_toLoadRect]
  refine (acc_read _ _ _ _ d j).trans ?_
  congr 1
  · congr 1
    rw [View.readCov_eq_canon']
    show View.canon _ ((alRect t).emb (ix3 0 0 j)) = _
    rw [al_emb]
    exact al_at qv kl arg8 arg11 t _ (by omega) (by omega) j
  · refine Finset.sum_congr rfl fun k _ => ?_
    congr 1
    rw [View.readCov_eq_canon']
    show View.canon _ ((slabRect t).emb (ix3 0 k j)) = _
    rw [slab_emb]
    exact p_at qv kl arg8 arg11 t _ ht (by omega) (by omega) k j

/-! ## Real scores -/

theorem max_coe (x y : ℝ) : max (x : EReal) (y : EReal) = ((max x y : ℝ) : EReal) := (EReal.coe_strictMono.monotone.map_max).symm

theorem fold_max_real {n : ℕ} (f : Fin (n + 1) → EReal) (h : ∀ i, ∃ r : ℝ, f i = r) :
    ∃ r : ℝ, Finset.fold max ⊥ f Finset.univ = r := by
  choose g hg using h
  refine ⟨Finset.univ.sup' Finset.univ_nonempty g, ?_⟩
  have : Finset.fold max ⊥ f Finset.univ = Finset.univ.sup f := rfl
  rw [this, ← Finset.sup'_eq_sup Finset.univ_nonempty, show f = fun i => ((g i : ℝ) : EReal) from funext hg]
  exact (Finset.comp_sup'_eq_sup'_comp Finset.univ_nonempty (fun r : ℝ => (r : EReal)) (fun x y => (max_coe x y).symm)).symm

variable (j : Fin 1024) (σ : ℕ → ℝ)

/-- The reference point after a chunk is a real. -/
theorem mAt_real (hσ : ∀ t < 11, ∀ k : Fin 768, k0_pay9 (F := Ideal) (kl t) qv (ix3 0 k j) = (σ (768 * t + k) : EReal)) (t : ℕ) (ht : t < 11) :
    ∃ μ : ℝ, mAt qv kl arg8 arg11 t (ix2 0 j) = (μ : EReal) := by
  have hrow : ∀ t < 11, ∀ n (a : Fin 16), ∃ r : ℝ, rows qv kl arg8 t n (ix3 0 a j) = (r : EReal) := fun t ht n a =>
    ⟨_, (rows_at qv kl arg8 t n ht a j ⟨16 * (n % 48) + a, by omega⟩ rfl).trans (hσ t ht _)⟩
  have hchain : ∀ t < 11, ∀ n (a : Fin 16), ∃ r : ℝ, chain (F := Ideal) (rows qv kl arg8 t) n (ix2 a j) = (r : EReal) := by
    intro t ht n a
    induction n with
    | zero => rw [chain_zero]; exact hrow t ht 0 a
    | succ n ih =>
        obtain ⟨r, hr⟩ := ih
        obtain ⟨r', hr'⟩ := hrow t ht (n + 1) a
        exact ⟨max r r', by rw [chain_read, hr, hr', max_coe]⟩
  have key : ∀ t < 11, (mPrev qv kl arg8 arg11 t (ix2 0 j) = (⊥ : EReal) ∨ ∃ r : ℝ, mPrev qv kl arg8 arg11 t (ix2 0 j) = (r : EReal)) →
      ∃ μ : ℝ, mAt qv kl arg8 arg11 t (ix2 0 j) = (μ : EReal) := by
    intro t ht h
    obtain ⟨x, hx⟩ := fold_max_real (fun x : Fin 16 => chain (F := Ideal) (rows qv kl arg8 t) 47 (ix2 x j)) (fun a => hchain t ht 47 a)
    rw [mAt, max_read, hx]
    rcases h with h | ⟨r, h⟩
    · exact ⟨x, by rw [h]; exact max_eq_right bot_le⟩
    · exact ⟨max r x, by rw [h, max_coe]⟩
  induction t with
  | zero => exact key 0 ht (Or.inl (mPrev_zero ..))
  | succ t ih =>
      obtain ⟨μ, hμ⟩ := ih (by omega)
      exact key (t + 1) ht (Or.inr ⟨μ, by rw [mPrev_succ, hμ]⟩)

/-- After `t` chunks the accumulator holds the weighted sums of the values of the keys seen. -/
theorem seen (v : Fin 144 → ℕ → EReal)
    (hσ : ∀ t < 11, ∀ k : Fin 768, k0_pay9 (F := Ideal) (kl t) qv (ix3 0 k j) = (σ (768 * t + k) : EReal))
    (hv : ∀ t < 11, ∀ d, ∀ k : Fin 768, vl t (ix3 0 d k) = v d (768 * t + k)) (t : ℕ) (ht : t ≤ 11) :
    Seen σ v (768 * t) (mPrev qv kl arg8 arg11 t (ix2 0 j)) fun d => accAt qv kl vl arg8 arg9 arg10 arg11 arg12 t (ix2 d j) := by
  induction t with
  | zero => exact Or.inl ⟨rfl, fun d => accAt_zero ..⟩
  | succ t ih =>
      obtain ⟨μ, hμ⟩ := mAt_real qv kl arg8 arg11 j σ hσ t (by omega)
      rw [mPrev_succ, Nat.mul_succ]
      refine (ih (by omega)).step 768 μ hμ fun d => ?_
      rw [accAt_succ qv kl vl arg8 arg9 arg10 arg11 arg12 t (by omega) d j, mul_comm, ← Fin.sum_univ_eq_sum_range
        (fun i => v d (768 * t + i) * Ideal.exp2 ((σ (768 * t + i) : EReal) - mAt qv kl arg8 arg11 t (ix2 0 j)))]
      congr 1
      refine Finset.sum_congr rfl fun k _ => ?_
      rw [hv t (by omega), hσ t (by omega)]

/-- The accumulator at the end, over its row of ones: the softmax of the scores times the values. -/
theorem acc_div (v : Fin 144 → ℕ → EReal)
    (hσ : ∀ t < 11, ∀ k : Fin 768, k0_pay9 (F := Ideal) (kl t) qv (ix3 0 k j) = (σ (768 * t + k) : EReal))
    (hv : ∀ t < 11, ∀ d, ∀ k : Fin 768, vl t (ix3 0 d k) = v d (768 * t + k)) (hone : ∀ i < 8448, v 128 i = 1)
    (x : ℕ → ℝ) (hx : ∀ i, σ i * Real.log 2 = x i) (ν : ℝ) (d : Fin 144) :
    Ideal.div (accAt qv kl vl arg8 arg9 arg10 arg11 arg12 11 (ix2 d j)) (accAt qv kl vl arg8 arg9 arg10 arg11 arg12 11 (ix2 128 j))
      = ∑ i ∈ Finset.range 8448, v d i * Ideal.div (Ideal.exp ((x i : EReal) - ν))
          (∑ i' ∈ Finset.range 8448, Ideal.exp ((x i' : EReal) - ν)) := by
  rcases seen qv kl vl arg8 arg9 arg10 arg11 arg12 j σ v hσ hv 11 le_rfl with ⟨h, -⟩ | ⟨μ, -, h⟩
  · omega
  · replace h : ∀ d, accAt qv kl vl arg8 arg9 arg10 arg11 arg12 11 (ix2 d j)
        = ∑ i ∈ Finset.range (768 * 11), (((2 : ℝ) ^ (σ i - μ) : ℝ) : EReal) * v d i := h
    have h128 := h 128
    rw [Finset.sum_congr rfl fun i hi => by rw [hone i (Finset.mem_range.1 hi)]] at h128
    rw [h d, h128]
    exact softmax_eq 8448 (by decide) σ x hx (v d) μ ν
end

end Cert.Proof.Attn

end
-- ==== Proof.Attn.Block.lean ====
/- What one grid point of the attention kernel leaves in its output block: at row `r` of the block and lane `d` of head
   `g`, the softmax of the scores of that query times the values. -/
module

public import proofs.«01_k».proof.Proof.Attn.Column
public import proofs.«01_k».proof.Proof.Gen.KernelIdeal.Frame
public import Idealize.ShloMosaic.Lib.WholeRead

@[expose] public section

set_option maxRecDepth 16384

noncomputable section

namespace Cert.Proof.Attn

open Cert.KernelIdeal Cert.KernelIdeal.Gen Idealize.ShloMosaic Idealize.ShloMosaic.TcCoe

/-! ## The output's four pieces, one per head of the group -/

theorem out_0 (a : FVec Ideal S128x1024 .f32) (l : FVec Ideal S1x1024 .f32) (r : Fin 256) (d : Fin 128) :
    (k0_pay758 (F := Ideal) a l (ix3 0 r d) : EReal) = Ideal.div (a (ix2 d ⟨r, by omega⟩)) (l (ix2 0 ⟨r, by omega⟩)) := by
  pointwise [k0_pay758, k0_pay757]

theorem out_1 (a : FVec Ideal S128x1024 .f32) (l : FVec Ideal S1x1024 .f32) (r : Fin 256) (d : Fin 128) :
    (k0_pay759 (F := Ideal) a l (ix3 0 r d) : EReal) = Ideal.div (a (ix2 d ⟨256 + r, by omega⟩)) (l (ix2 0 ⟨256 + r, by omega⟩)) := by
  pointwise [k0_pay759, k0_pay757]

theorem out_2 (a : FVec Ideal S128x1024 .f32) (l : FVec Ideal S1x1024 .f32) (r : Fin 256) (d : Fin 128) :
    (k0_pay1 (F := Ideal) (k0_pay760 a l) (ix3 0 r d) : EReal) = Ideal.div (a (ix2 d ⟨512 + r, by omega⟩)) (l (ix2 0 ⟨512 + r, by omega⟩)) := by
  pointwise [k0_pay1, k0_pay760, k0_pay757]

theorem out_3 (a : FVec Ideal S128x1024 .f32) (l : FVec Ideal S1x1024 .f32) (r : Fin 256) (d : Fin 128) :
    (k0_pay2 (F := Ideal) (k0_pay757 a l) (ix3 0 r d) : EReal) = Ideal.div (a (ix2 d ⟨768 + r, by omega⟩)) (l (ix2 0 ⟨768 + r, by omega⟩)) := by
  pointwise [k0_pay2, k0_pay757]

section
variable (c : Dev nD) (i : grid0.Coords)
variable (arg3 : Memref sig .tc .vmem S1x256x512 .bf16) (harg3 : arg3.IsWhole)
variable (arg4 : Memref sig .tc .vmem S1x8448x128 .bf16) (harg4 : arg4.IsWhole)
variable (arg5 : Memref sig .tc .vmem S1x144x8448 .bf16) (harg5 : arg5.IsWhole)
variable (arg6 : Memref sig .tc .vmem S1x256x512 .bf16) (harg6 : arg6.IsWhole)
variable (arg7 : Memref sig .tc .vmem S128x1024 .bf16) (harg7 : arg7.IsWhole)
variable (arg8 : Memref sig .tc .vmem S3x768x1024 .f32) (harg8 : arg8.IsWhole)
variable (arg9 : Memref sig .tc .vmem S3x768x1024 .bf16) (harg9 : arg9.IsWhole)
variable (arg10 : Memref sig .tc .vmem S3x1x1024 .f32) (harg10 : arg10.IsWhole)
variable (arg11 : Memref sig .tc .vmem S1x1024 .f32) (harg11 : arg11.IsWhole)
variable (arg12 : Memref sig .tc .vmem S144x1024 .f32) (harg12 : arg12.IsWhole)
variable (x0 : Vec Ideal S1x256x512 .bf16) (x1 : Vec Ideal S1x8448x128 .bf16) (x2 : Vec Ideal S1x144x8448 .bf16)

/-- The accumulator's first 128 rows at the end of the body. -/
abbrev numAt : Vec Ideal S128x1024 .f32 := kernelRun0_A.sl.v6720 c arg3 harg3 arg4 harg4 arg5 harg5 arg7 arg8 arg9 arg10 arg11 arg12 x0 x1 x2

/-- The accumulator's row of sums at the end of the body. -/
abbrev denAt : Vec Ideal S1x1024 .f32 := kernelRun0_A.sl.v6721 c arg3 harg3 arg4 harg4 arg5 harg5 arg7 arg8 arg9 arg10 arg11 arg12 x0 x1 x2

/-- The accumulator at the end of the body. -/
abbrev endAt : Vec Ideal S144x1024 .f32 :=
  accAt (qAt c arg3 harg3 arg7 x0) (kAt arg4 harg4 x1) (vAt arg5 harg5 x2) arg8 arg9 arg10 arg11 arg12 11

theorem numAt_read (d : Fin 128) (j : Fin 1024) :
    numAt c arg3 harg3 arg4 harg4 arg5 harg5 arg7 arg8 arg9 arg10 arg11 arg12 x0 x1 x2 (ix2 d j)
      = endAt c arg3 harg3 arg4 harg4 arg5 harg5 arg7 arg8 arg9 arg10 arg11 arg12 x0 x1 x2 (ix2 ⟨d, by omega⟩ j) := by
  rw [numAt, kernelRun0_A.sl.v6720, accList_eq, endAt, accAt, View.readCov_eq_canon', View.readCov_eq_canon']
  refine congrArg _ (funext fun a => ?_)
  fin_cases a <;> ext <;> simp

theorem denAt_read (j : Fin 1024) :
    denAt c arg3 harg3 arg4 harg4 arg5 harg5 arg7 arg8 arg9 arg10 arg11 arg12 x0 x1 x2 (ix2 0 j)
      = endAt c arg3 harg3 arg4 harg4 arg5 harg5 arg7 arg8 arg9 arg10 arg11 arg12 x0 x1 x2 (ix2 128 j) := by
  rw [denAt, kernelRun0_A.sl.v6721, accList_eq, endAt, accAt, View.readCov_eq_canon', View.readCov_eq_canon']
  refine congrArg _ (funext fun a => ?_)
  fin_cases a <;> ext <;> simp

/-- The output's pieces, over the accumulator. -/
def outPieces (a : Vec Ideal S128x1024 .f32) (l : Vec Ideal S1x1024 .f32) : List (View.Piece (Elt Ideal) S1x256x512 .bf16) :=
  [⟨Rect.unit ![0, 0, 384] S1x256x128.size inb_S1x256x512_S1x256x128_0_0_384, k0_pay2 (k0_pay757 a l)⟩,
    ⟨Rect.unit ![0, 0, 256] S1x256x128.size inb_S1x256x512_S1x256x128_0_0_256, k0_pay1 (k0_pay760 a l)⟩,
    ⟨Rect.unit ![0, 0, 128] S1x256x128.size inb_S1x256x512_S1x256x128_0_0_128, k0_pay759 a l⟩,
    ⟨Rect.unit ![0, 0, 0] S1x256x128.size inb_S1x256x512_S1x256x128_0_0_0, k0_pay758 a l⟩]

theorem outPieces_eq : (kernelRun0_A (F := Ideal) c i arg3 harg3 arg4 harg4 arg5 harg5 arg6 harg6 arg7 harg7 arg8 harg8 arg9 harg9 arg10 harg10 arg11 harg11 arg12 harg12 x0 x1 x2).1
    = outPieces (numAt c arg3 harg3 arg4 harg4 arg5 harg5 arg7 arg8 arg9 arg10 arg11 arg12 x0 x1 x2)
        (denAt c arg3 harg3 arg4 harg4 arg5 harg5 arg7 arg8 arg9 arg10 arg11 arg12 x0 x1 x2) := rfl

/-- The column of the scratch buffers that holds the query of an output index: row `y 1` of the block, head `y 2 / 128`. -/
abbrev colOf (y : S1x256x512.Idx) : Fin 1024 :=
  ⟨256 * ((y 2 : ℕ) / 128) + (y 1 : ℕ), by
    have h1 : (y 1 : ℕ) < 256 := (y 1).isLt
    have h2 : (y 2 : ℕ) < 512 := (y 2).isLt
    omega⟩

/-- The lane of an output index within its head. -/
abbrev laneOf (y : S1x256x512.Idx) : Fin 128 := ⟨(y 2 : ℕ) % 128, Nat.mod_lt _ (by decide)⟩

theorem outPieces_read (a : Vec Ideal S128x1024 .f32) (l : Vec Ideal S1x1024 .f32) (y : S1x256x512.Idx) :
    View.canon (outPieces a l) y = Ideal.div (a (ix2 (laneOf y) (colOf y))) (l (ix2 0 (colOf y))) := by
  show _ = (fun y : S1x256x512.Idx => Ideal.div (a (ix2 (laneOf y) (colOf y))) (l (ix2 0 (colOf y)))) y
  have hx : ∀ x : S1x256x128.Idx, x = ix3 0 (x 1) (x 2) := fun x => by
    funext b; fin_cases b
    · exact Subsingleton.elim (α := Fin 1) _ _
    · rfl
    · rfl
  have hc : ∀ (k : ℕ) (x : S1x256x128.Idx) (hk : k + (x 1 : ℕ) < 1024), (y 1 : ℕ) = (x 1 : ℕ) → 256 * ((y 2 : ℕ) / 128) = k →
      (⟨k + (x 1 : ℕ), hk⟩ : Fin 1024) = colOf y := fun k x hk h1 h2 => Fin.ext (by simp only; omega)
  have hl : ∀ x : S1x256x128.Idx, (y 2 : ℕ) % 128 = (x 2 : ℕ) → (x 2 : Fin 128) = laneOf y := fun x h => Fin.ext h.symm
  unfold outPieces
  canon_tiles x h
  · rw [hx x]
    refine (out_3 a l (x 1) (x 2)).trans ?_
    rw [hc 768 x _ h1 (by omega), hl x (by omega)]
  · rw [hx x]
    refine (out_2 a l (x 1) (x 2)).trans ?_
    rw [hc 512 x _ h1 (by omega), hl x (by omega)]
  · rw [hx x]
    refine (out_1 a l (x 1) (x 2)).trans ?_
    rw [hc 256 x _ h1 (by omega), hl x (by omega)]
  · rw [hx x]
    refine (out_0 a l (x 1) (x 2)).trans ?_
    have h0 := hc 0 x (by omega) h1 (by omega)
    simp only [Nat.zero_add] at h0
    rw [h0, hl x (by omega)]

/-! ## The queries, keys and values, from the windows' blocks -/

/-- The queries' four pieces, one per head of the group. -/
theorem qAt_read (y : S128x1024.Idx) : qAt c arg3 harg3 arg7 x0 y
    = x0 (ix3 0 ⟨(y 1 : ℕ) % 256, Nat.mod_lt _ (by decide)⟩ ⟨128 * ((y 1 : ℕ) / 256) + (y 0 : ℕ), by
        have h0 : (y 0 : ℕ) < 128 := (y 0).isLt
        have h1 : (y 1 : ℕ) < 1024 := (y 1).isLt
        omega⟩) := by
  have hx : ∀ x : S128x256.Idx, x = ix2 (x 0) (x 1) := fun x => by
    funext b; fin_cases b <;> rfl
  have hy : (Rect.unit (s := S128x1024) ![0, 0] S128x1024.size inb_S128x1024_S128x1024_0_0).toLoadRect.idx y = y := by
    funext a; fin_cases a <;> ext <;> simp
  rw [qAt, kernelRun0_A.sl.v34, View.readCov_eq_canon']
  simp only [hy]
  show _ = (fun y : S128x1024.Idx => x0 (ix3 0 ⟨(y 1 : ℕ) % 256, Nat.mod_lt _ (by decide)⟩ ⟨128 * ((y 1 : ℕ) / 256) + (y 0 : ℕ), by
        have h0 : (y 0 : ℕ) < 128 := (y 0).isLt
        have h1 : (y 1 : ℕ) < 1024 := (y 1).isLt
        omega⟩)) y
  unfold kernelRun0_A.sl.HS0_4
  canon_tiles x h
  all_goals
    rw [hx x]
    refine (q_read _ (x 0) (x 1)).trans ?_
    rw [harg3.readAt_unread]
    refine congrArg x0 (funext fun a => ?_)
    fin_cases a <;> ext <;> simp <;> omega

theorem kAt_read (t : ℕ) (ht : t < 11) (a : Fin 768) (d : Fin 128) :
    kAt arg4 harg4 x1 t (ix3 0 a d) = x1 (ix3 0 ⟨768 * t + a, by omega⟩ d) := by
  rw [kAt, harg4.readAt_unread]
  refine congrArg x1 (funext fun b => ?_)
  fin_cases b <;> ext <;> simp [Nat.mod_eq_of_lt ht]

theorem vAt_read (t : ℕ) (ht : t < 11) (d : Fin 144) (k : Fin 768) :
    vAt arg5 harg5 x2 t (ix3 0 d k) = x2 (ix3 0 d ⟨768 * t + k, by omega⟩) := by
  rw [vAt, harg5.readAt_unread]
  refine congrArg x2 (funext fun b => ?_)
  fin_cases b <;> ext <;> simp [Nat.mod_eq_of_lt ht]

/-! ## The block -/

/-- The output block at an index: where the scores of its query are the reals `σ i` in base two, `x i` in base `e`, the
    softmax of the scores against any reference point `ν`, times the values. -/
theorem block (y : S1x256x512.Idx) (σ x : ℕ → ℝ) (ν : ℝ)
    (hσ : ∀ i : Fin 8448, ∑ d : Fin 128, x1 (ix3 0 i d)
        * x0 (ix3 0 (y 1) ⟨128 * ((y 2 : ℕ) / 128) + d, by
            have h2 : (y 2 : ℕ) < 512 := (y 2).isLt
            omega⟩) = (σ i : EReal))
    (hx : ∀ i, σ i * Real.log 2 = x i) (hone : ∀ i : Fin 8448, x2 (ix3 0 128 i) = (1 : EReal)) :
    out0_A_3 (F := Ideal) c i arg3 harg3 arg4 harg4 arg5 harg5 arg6 harg6 arg7 harg7 arg8 harg8 arg9 harg9 arg10 harg10 arg11 harg11 arg12 harg12 x0 x1 x2 y
      = ∑ i : Fin 8448, x2 (ix3 0 ⟨(y 2 : ℕ) % 128, by omega⟩ i)
          * Ideal.div (Ideal.exp ((x i : EReal) - ν)) (∑ i' : Fin 8448, Ideal.exp ((x i' : EReal) - ν)) := by
  have h1 : (y 1 : ℕ) < 256 := (y 1).isLt
  have h2 : (y 2 : ℕ) < 512 := (y 2).isLt
  rw [out0_A_3, View.read_writes_junk_eq_canon, outPieces_eq, outPieces_read, numAt_read, denAt_read]
  refine (acc_div _ _ _ arg8 arg9 arg10 arg11 arg12 (colOf y) σ (fun d i => x2 (ix3 0 d ⟨i % 8448, Nat.mod_lt _ (by decide)⟩))
    ?_ ?_ ?_ x hx ν _).trans ?_
  · intro t ht k
    refine (score_read _ _ k (colOf y)).trans ((Finset.sum_congr rfl fun d _ => ?_).trans (hσ ⟨768 * t + k, by omega⟩))
    rw [kAt_read arg4 harg4 x1 t ht k d, qAt_read]
    refine congrArg _ (congrArg x0 (funext fun b => ?_))
    fin_cases b <;> ext <;> simp <;> omega
  · intro t ht d k
    rw [vAt_read arg5 harg5 x2 t ht d k]
    refine congrArg x2 (funext fun b => ?_)
    fin_cases b <;> ext <;> simp
    omega
  · exact fun i _ => hone _
  · rw [← Fin.sum_univ_eq_sum_range (fun i => Ideal.exp ((x i : EReal) - ν)), ← Fin.sum_univ_eq_sum_range
      (fun i => x2 (ix3 0 ⟨(y 2 : ℕ) % 128, by omega⟩ ⟨i % 8448, Nat.mod_lt _ (by decide)⟩)
          * Ideal.div (Ideal.exp ((x i : EReal) - ν)) (∑ i' : Fin 8448, Ideal.exp ((x i' : EReal) - ν)))]
    refine Finset.sum_congr rfl fun i _ => ?_
    congr 3
    exact Fin.ext (Nat.mod_eq_of_lt i.isLt)

end

end Cert.Proof.Attn

end
-- ==== Proof.Attn.Host.lean ====
/- What the attention kernel's launch receives: the scaled queries, the keys and the values with their row of ones, each
   at an index, from the program's arguments. -/
module

public import proofs.«01_k».proof.Proof.Attn.Block
public import proofs.«01_k».proof.Proof.Gen.KernelIdeal.Value
public import Idealize.ShloMosaic.Lib.Routing.OpsSet

@[expose] public section

set_option maxRecDepth 16384

noncomputable section

namespace Cert.Proof.Attn

open Cert.KernelIdeal Cert.KernelIdeal.Gen Idealize.ShloMosaic Idealize.ShloMosaic.TcCoe

variable (m : (ℓ : Loc nD τ sig) → Buf (Elt Ideal) ℓ) (c : Dev nD)

/-- The number that the queries are multiplied by. -/
abbrev scaleOf : EReal :=
  Ideal.div 1 (Ideal.sqrt (Ideal.ofBits .f32 0x43000000#32) * Ideal.log (Ideal.ofBits .f32 0x40000000#32))

theorem host_q (b : Fin 2) (n : Fin 8192) (e : Fin 4096) : ((show Vec Ideal S2x8192x4096 .bf16 from V m c main_v22) (ix3 b n e) : EReal)
    = (show Vec Ideal S2x8192x32x128 .f32 from m ((c.tc : Thread nD τ).loc main_arg0)) (ix4 b n ⟨(e : ℕ) / 128, by omega⟩ ⟨(e : ℕ) % 128, by omega⟩) * scaleOf := by
  entry_read
  pointwise

theorem host_k (b : Fin 2) (i : Fin 8448) (e : Fin 1024) : ((show Vec Ideal S2x8448x1024 .bf16 from V m c main_v13) (ix3 b i e) : EReal)
    = if h : (i : ℕ) < 8192
      then (show Vec Ideal S2x8192x8x128 .f32 from m ((c.tc : Thread nD τ).loc main_arg1)) (ix4 b ⟨i, h⟩ ⟨(e : ℕ) / 128, by omega⟩ ⟨(e : ℕ) % 128, by omega⟩)
      else (show Vec Ideal S2x256x8x128 .f32 from m ((c.tc : Thread nD τ).loc main_arg2)) (ix4 b ⟨(i : ℕ) - 8192, by omega⟩ ⟨(e : ℕ) / 128, by omega⟩ ⟨(e : ℕ) % 128, by omega⟩) := by
  entry_read
  pointwise

/-- The column of the ones, as the one index word. -/
def zeroIdx : IVec S1 32 := broadcastInDim S1 ![] bcast_S_S1 (constantI S_ 32 0#32)

def ones : FVec Ideal S2x8448x8 .bf16 := broadcastInDim S2x8448x8 ![] bcast_S_S2x8448x8 (constant S_ .bf16 0x3F80#16)

theorem ones_read (k : S2x8448x8.Idx) : (ones k : EReal) = 1 := by
  pointwise [ones]

theorem zeroIdx_read (k : S1.Idx) : (zeroIdx k).toInt = 0 := by
  pointwise [zeroIdx]
  rfl

/-- The columns added to the values. -/
def extra : FVec Ideal S2x8448x8x16 .bf16 :=
  Host.scatter scatter_S2x8448x8x16_S1_S2x8448x8_012_3_3_0 (fun _ b => b)
    (broadcastInDim S2x8448x8x16 ![] bcast_S_S2x8448x8x16 (constant S_ .bf16 0x0000#16))
    zeroIdx
    ones

theorem extra_read (b : Fin 2) (i : Fin 8448) (j : Fin 8) : (extra (ix4 b i j 0) : EReal) = 1 := by
  unfold extra
  refine Routing.scatter_set_hit _ _ _ _ _ (1 : EReal) (fun k _ => ?_) (ix3 b i j) ?_
  · exact ones_read k
  · have h0 : ∀ a : Fin 4, ScatterDims.start scatter_S2x8448x8x16_S1_S2x8448x8_012_3_3_0 (ix3 b i j) zeroIdx a = 0 := fun a => by
      unfold ScatterDims.start
      split
      · exact zeroIdx_read _
      · rfl
    have hw : ∀ a : Fin 4, ScatterDims.window scatter_S2x8448x8x16_S1_S2x8448x8_012_3_3_0 (ix3 b i j) a = ((ix4 b i j (0 : Fin 16) : S2x8448x8x16.Idx) a : ℕ) := fun a => by
      fin_cases a <;> rfl
    unfold ScatterDims.resultIdx?
    rw [dif_pos fun a => by
      rw [h0, hw, zero_add]
      exact ⟨Int.natCast_nonneg _, Int.ofNat_lt.2 ((ix4 b i j (0 : Fin 16) : S2x8448x8x16.Idx) a).isLt⟩]
    refine congrArg some (funext fun a => Fin.ext ?_)
    show (_ : Int).toNat = _
    rw [h0, hw]
    omega

theorem host_v (b : Fin 2) (i : Fin 8448) (e : Fin 1152) : ((show Vec Ideal S2x1152x8448 .bf16 from V m c main_v21) (ix3 b e i) : EReal)
    = if h : (e : ℕ) % 144 < 128
      then if h' : (i : ℕ) < 8192
        then (show Vec Ideal S2x8192x8x128 .f32 from m ((c.tc : Thread nD τ).loc main_arg3)) (ix4 b ⟨i, h'⟩ ⟨(e : ℕ) / 144, by omega⟩ ⟨(e : ℕ) % 144, h⟩)
        else (show Vec Ideal S2x256x8x128 .f32 from m ((c.tc : Thread nD τ).loc main_arg4)) (ix4 b ⟨(i : ℕ) - 8192, by omega⟩ ⟨(e : ℕ) / 144, by omega⟩ ⟨(e : ℕ) % 144, h⟩)
      else extra (ix4 b i ⟨(e : ℕ) / 144, by omega⟩ ⟨(e : ℕ) % 144 - 128, by omega⟩) := by
  entry_read
  pointwise [extra, zeroIdx, ones]

end Cert.Proof.Attn

end
-- ==== Proof.Attn.Ref.lean ====
/- The reference's result at an index, from its arguments. -/
module

public import proofs.«01_k».proof.Proof.Gen.ReferenceIdeal.Run
public import Idealize.ShloMosaic.Lib.Pipeline.ValueKit

@[expose] public section

set_option maxRecDepth 16384

noncomputable section

namespace Cert.Proof.Attn.Ref

open Cert.ReferenceIdeal Cert.ReferenceIdeal.Gen Idealize.ShloMosaic Idealize.ShloMosaic.TcCoe

/-- The scores, over the square root of the head's width. -/
def score (q : FVec Ideal S2x8192x32x128 .f32) (k : FVec Ideal S2x8448x8x128 .f32) : FVec Ideal S2x8x4x8192x8448 .f32 :=
  Host.divf (transpose S2x8x4x8192x8448 [0, 1, 4, 3, 2] (Host.dotGeneral dot_S2x8448x8x128_S2x8192x8x4x128_S2x8x8448x8192x4_3_4_1_13_02_02 none k (shapeCast _ q shapeCasts_S2x8192x32x128_S2x8192x8x4x128)) transposes_S2x8x8448x8192x4_S2x8x4x8192x8448_0_1_4_3_2) (broadcastInDim S2x8x4x8192x8448 ![] bcast_S_S2x8x4x8192x8448 (Host.sqrt (constant S_ .f32 0x43000000#32)))

/-- The fold of every row of scores by the maximum. -/
def rowFold (s : FVec Ideal S2x8x4x8192x8448 .f32) : FVec Ideal S2x8x4x8192 .f32 :=
  Host.reduce FloatOps.maximumf s (constant S_ .f32 0xFF800000#32) reducesTo_S2x8x4x8192x8448_S2x8x4x8192_d4 h_S_

/-- The largest of every row of scores. -/
def rowMax (s : FVec Ideal S2x8x4x8192x8448 .f32) : FVec Ideal S2x8x4x8192 .f32 :=
  maximumf (broadcastInDim S2x8x4x8192 ![] bcast_S_S2x8x4x8192 (constant S_ .f32 0xFF800000#32)) (rowFold s)

/-- A row's number, at every key. -/
def along (x : FVec Ideal S2x8x4x8192 .f32) : FVec Ideal S2x8x4x8192x8448 .f32 :=
  broadcastInDim S2x8x4x8192x8448 ![0, 1, 2, 3, 4] bcast_S2x8x4x8192x1_S2x8x4x8192x8448_0_1_2_3_4 (broadcastInDim S2x8x4x8192x1 ![0, 1, 2, 3] bcast_S2x8x4x8192_S2x8x4x8192x1_0_1_2_3 x)

/-- The weights before they are divided by their sum. -/
def weight (s : FVec Ideal S2x8x4x8192x8448 .f32) : FVec Ideal S2x8x4x8192x8448 .f32 :=
  Host.exp (subf s (along (rowMax s)))

/-- Every row's sum of weights. -/
def rowSum (w : FVec Ideal S2x8x4x8192x8448 .f32) : FVec Ideal S2x8x4x8192 .f32 :=
  Host.reduceAdd w (constant S_ .f32 0x00000000#32) reducesTo_S2x8x4x8192x8448_S2x8x4x8192_d4 h_S_

/-- The keys or the values of the sequence, then those of the cache. -/
def join (x : FVec Ideal S2x8192x8x128 .f32) (xc : FVec Ideal S2x256x8x128 .f32) : FVec Ideal S2x8448x8x128 .f32 :=
  concatenate S2x8448x8x128 1 [⟨S2x8192x8x128, x⟩, ⟨S2x256x8x128, xc⟩] concatenates_S2x8192x8x128_S2x256x8x128_S2x8448x8x128_d1

/-- The weighted sums of the values. -/
def output (v : FVec Ideal S2x8448x8x128 .f32) (w : FVec Ideal S2x8x4x8192x8448 .f32) : FVec Ideal S2x8192x4096 .bf16 :=
  truncf .bf16 (shapeCast _ (transpose S2x8192x8x4x128 [0, 4, 1, 3, 2] (Host.dotGeneral dot_S2x8448x8x128_S2x8x4x8192x8448_S2x8x128x4x8192_1_4_3_23_02_01 none v (Host.divf w (along (rowSum w)))) transposes_S2x8x128x4x8192_S2x8192x8x4x128_0_4_1_3_2) shapeCasts_S2x8192x8x4x128_S2x8192x4096) bitsLt_bf16_f32

theorem result_eq (m : (ℓ : Loc nD τ sig) → Buf (Elt Ideal) ℓ) (c : Dev nD) :
    Value.res_main_v22 m c = output (join (m ((c.tc : Thread nD τ).loc main_arg3)) (m ((c.tc : Thread nD τ).loc main_arg4)))
      (weight (score (m ((c.tc : Thread nD τ).loc main_arg0)) (join (m ((c.tc : Thread nD τ).loc main_arg1)) (m ((c.tc : Thread nD τ).loc main_arg2))))) := rfl

/-! ## The stages at an index -/

theorem join_read (x : FVec Ideal S2x8192x8x128 .f32) (xc : FVec Ideal S2x256x8x128 .f32) (b : Fin 2) (i : Fin 8448) (j : Fin 8) (d : Fin 128) :
    (join x xc (ix4 b i j d) : EReal) = if h : (i : ℕ) < 8192 then x (ix4 b ⟨i, h⟩ j d) else xc (ix4 b ⟨(i : ℕ) - 8192, by omega⟩ j d) := by
  pointwise [join]

theorem score_read (q : FVec Ideal S2x8192x32x128 .f32) (k : FVec Ideal S2x8448x8x128 .f32)
    (b : Fin 2) (j : Fin 8) (g : Fin 4) (n : Fin 8192) (i : Fin 8448) :
    (score q k (ix5 b j g n i) : EReal) = Ideal.div
      (∑ d : Fin 128, k (ix4 b i j d) * q (ix4 b n ⟨(j : ℕ) * 4 + (g : ℕ), by omega⟩ d))
      (Ideal.sqrt (Ideal.ofBits .f32 0x43000000#32)) := by
  pointwise [score]

theorem neg_inf : Ideal.ofBits .f32 0xFF800000#32 = ⊥ := by simp [Ideal.ofBits, Ideal.ieee]

/-- A fold by the maximum of finitely many reals, from below them all, is a real. -/
theorem fold_real {ι : Type} [Fintype ι] [Nonempty ι] (op : EReal → EReal → EReal) [Std.Commutative op] [Std.Associative op]
    (hop : op = max) (f : ι → EReal) (init : EReal) (hi : init = ⊥) (h : ∀ i, ∃ r : ℝ, f i = r) :
    ∃ r : ℝ, Finset.fold op init f Finset.univ = r := by
  subst hop hi
  choose g hg using h
  refine ⟨Finset.univ.sup' Finset.univ_nonempty g, ?_⟩
  have e : Finset.fold max ⊥ f Finset.univ = Finset.univ.sup f := rfl
  rw [e, ← Finset.sup'_eq_sup Finset.univ_nonempty, show f = fun i => ((g i : ℝ) : EReal) from funext hg]
  exact (Finset.comp_sup'_eq_sup'_comp Finset.univ_nonempty (fun r : ℝ => (r : EReal)) (fun x y => EReal.coe_strictMono.monotone.map_max)).symm

theorem rowFold_reduces : S2x8x4x8192x8448.Reduces [4] S2x8x4x8192 := by decide

theorem rowFold_eq (s : FVec Ideal S2x8x4x8192x8448 .f32) (y : S2x8x4x8192.Idx) :
    rowFold s y = Finset.fold (FloatOps.maximumf (F := Ideal) (φ := .f32)) (constant (F := Ideal) S_ .f32 0xFF800000#32 (Shape.Idx.first h_S_))
      (s ∘ rowFold_reduces.lift y) Finset.univ :=
  Host.reduce_eq_fold_single _ _ _ _ rowFold_reduces _ _

theorem rowFold_real (s : FVec Ideal S2x8x4x8192x8448 .f32) (h : ∀ y, ∃ r : ℝ, s y = (r : EReal)) (y : S2x8x4x8192.Idx) :
    ∃ ν : ℝ, rowFold s y = (ν : EReal) := by
  rw [rowFold_eq]
  have : Nonempty (Fin (S2x8x4x8192x8448.size 4)) := ⟨⟨0, by decide⟩⟩
  exact fold_real _ rfl _ _ neg_inf fun i => h _

theorem max_read (x : FVec Ideal S2x8x4x8192 .f32) (y : S2x8x4x8192.Idx) :
    (maximumf (broadcastInDim S2x8x4x8192 ![] bcast_S_S2x8x4x8192 (constant S_ .f32 0xFF800000#32)) x y : EReal)
      = max (Ideal.ofBits .f32 0xFF800000#32) (x y) := by
  pointwise

theorem rowMax_read (s : FVec Ideal S2x8x4x8192x8448 .f32) (y : S2x8x4x8192.Idx) :
    (rowMax s y : EReal) = max (Ideal.ofBits .f32 0xFF800000#32) (rowFold s y) :=
  max_read (rowFold s) y

theorem along_read (x : FVec Ideal S2x8x4x8192 .f32) (b : Fin 2) (j : Fin 8) (g : Fin 4) (n : Fin 8192) (i : Fin 8448) :
    (along x (ix5 b j g n i) : EReal) = x (ix4 b j g n) := by
  pointwise [along]

theorem weight_read (s : FVec Ideal S2x8x4x8192x8448 .f32) (b : Fin 2) (j : Fin 8) (g : Fin 4) (n : Fin 8192) (i : Fin 8448) :
    (weight s (ix5 b j g n i) : EReal) = Ideal.exp (s (ix5 b j g n i) - along (rowMax s) (ix5 b j g n i)) := by
  pointwise [weight]

theorem rowSum_read (w : FVec Ideal S2x8x4x8192x8448 .f32) (b : Fin 2) (j : Fin 8) (g : Fin 4) (n : Fin 8192) :
    (rowSum w (ix4 b j g n) : EReal) = ∑ i : Fin 8448, w (ix5 b j g n i) := by
  pointwise [rowSum]

theorem output_read (v : FVec Ideal S2x8448x8x128 .f32) (w : FVec Ideal S2x8x4x8192x8448 .f32) (b : Fin 2) (n : Fin 8192) (e : Fin 4096) :
    (output v w (ix3 b n e) : EReal) = ∑ i : Fin 8448, v (ix4 b i ⟨(e : ℕ) / 512, by omega⟩ ⟨(e : ℕ) % 128, by omega⟩)
      * Ideal.div (w (ix5 b ⟨(e : ℕ) / 512, by omega⟩ ⟨(e : ℕ) / 128 % 4, by omega⟩ n i))
          (along (rowSum w) (ix5 b ⟨(e : ℕ) / 512, by omega⟩ ⟨(e : ℕ) / 128 % 4, by omega⟩ n i)) := by
  pointwise [output]

/-- The reference's result at an index: where every score is a real, the softmax of the scores `x` against some real
    reference point, times the values. -/
theorem result_read (v : FVec Ideal S2x8448x8x128 .f32) (s : FVec Ideal S2x8x4x8192x8448 .f32) (h : ∀ y, ∃ r : ℝ, s y = (r : EReal))
    (b : Fin 2) (n : Fin 8192) (e : Fin 4096) (x : Fin 8448 → ℝ)
    (hx : ∀ i, s (ix5 b ⟨(e : ℕ) / 512, by omega⟩ ⟨(e : ℕ) / 128 % 4, by omega⟩ n i) = (x i : EReal)) :
    ∃ ν : ℝ, (output v (weight s) (ix3 b n e) : EReal)
      = ∑ i : Fin 8448, v (ix4 b i ⟨(e : ℕ) / 512, by omega⟩ ⟨(e : ℕ) % 128, by omega⟩)
          * Ideal.div (Ideal.exp ((x i : EReal) - ν)) (∑ i' : Fin 8448, Ideal.exp ((x i' : EReal) - ν)) := by
  obtain ⟨ν, hν⟩ := rowFold_real s h (ix4 b ⟨(e : ℕ) / 512, by omega⟩ ⟨(e : ℕ) / 128 % 4, by omega⟩ n)
  refine ⟨ν, (output_read v _ b n e).trans (Finset.sum_congr rfl fun i _ => ?_)⟩
  have hw : ∀ i, (weight s (ix5 b ⟨(e : ℕ) / 512, by omega⟩ ⟨(e : ℕ) / 128 % 4, by omega⟩ n i) : EReal) = Ideal.exp ((x i : EReal) - ν) := fun i => by
    rw [weight_read, along_read, rowMax_read, hν, hx, neg_inf, max_eq_right bot_le]
  rw [along_read, rowSum_read, hw i]
  simp only [hw]

end Cert.Proof.Attn.Ref

end
-- ==== Proof.Attn.Const.lean ====
/- The real numbers of the scale: the root of a head's width, and the logarithm of two. -/
module

public import Idealize.ShloMosaic.Lib.Pipeline.ValueKit

@[expose] public section

noncomputable section

namespace Cert.Proof.Attn

open Idealize.ShloMosaic

theorem ofBits_128 : Ideal.ofBits .f32 0x43000000#32 = ((128 : ℝ) : EReal) := by
  simp [Ideal.ofBits, Ideal.ieee]
  rw [← EReal.coe_mul]
  norm_num

theorem ofBits_2 : Ideal.ofBits .f32 0x40000000#32 = ((2 : ℝ) : EReal) := by
  simp [Ideal.ofBits, Ideal.ieee]
  rw [← EReal.coe_mul]
  norm_num

theorem sqrt_128 : Ideal.sqrt (Ideal.ofBits .f32 0x43000000#32) = ((Real.sqrt 128 : ℝ) : EReal) := by
  rw [ofBits_128]
  show (if (128 : ℝ) < 0 then (⊥ : EReal) else _) = _
  rw [if_neg (by norm_num)]

theorem log_2 : Ideal.log (Ideal.ofBits .f32 0x40000000#32) = ((Real.log 2 : ℝ) : EReal) := by
  rw [ofBits_2]
  show (if (2 : ℝ) ≤ 0 then (⊥ : EReal) else _) = _
  rw [if_neg (by norm_num)]

theorem sqrt_128_ne : Real.sqrt 128 ≠ 0 := (Real.sqrt_pos.2 (by norm_num)).ne'
theorem log_2_ne : Real.log 2 ≠ 0 := (Real.log_pos (by norm_num)).ne'

end Cert.Proof.Attn

end
-- ==== Proof.Attn.Final.lean ====
/- The attention kernel's result array: the reference's, on arguments whose queries and keys are real numbers. -/
module

public import proofs.«01_k».proof.Proof.Attn.Host
public import proofs.«01_k».proof.Proof.Attn.Ref
public import proofs.«01_k».proof.Proof.Attn.Const
public import Idealize.ShloMosaic.Lib.Pipeline.Covers

@[expose] public section

set_option maxRecDepth 16384

noncomputable section

namespace Cert.Proof.Attn

open Cert.KernelIdeal Cert.KernelIdeal.Gen Idealize.ShloMosaic Idealize.ShloMosaic.TcCoe
open Idealize.ShloMosaic.Pipeline (Dat)

/-! ## The scale -/

theorem scaleOf_eq : scaleOf = (((Real.sqrt 128 * Real.log 2)⁻¹ : ℝ) : EReal) := by
  rw [scaleOf, sqrt_128, log_2, ← EReal.coe_mul, div_coe _ _ (mul_ne_zero sqrt_128_ne log_2_ne), one_mul]

/-! ## The blocks -/

variable (m : (ℓ : Loc nD τ sig) → Buf (Elt Ideal) ℓ) (c : Dev nD)

theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, (grid0.coords t 1).val, 0]
    ∧ win0_3.index t = ![(grid0.coords t 0).val, (grid0.coords t 2).val, (grid0.coords t 1).val] :=
  (by decide +kernel : ∀ t : Fin grid0.N, _)

/-- A grid point's batch, group of heads and block of rows. -/
abbrev bat (t : Fin cfg0.N) : Fin 2 := grid0.coords t 0
abbrev grp (t : Fin cfg0.N) : Fin 8 := grid0.coords t 1
abbrev row (t : Fin cfg0.N) : Fin 32 := grid0.coords t 2

theorem read_q (A : Vec Ideal S2x8192x4096 .bf16) (t : Fin cfg0.N) (r : Fin 256) (e : Fin 512) :
    ((show Vec Ideal S1x256x512 .bf16 from ((cfg0.win 0).blk t).view.read (Elt Ideal) A) (ix3 0 r e) : EReal)
      = A (ix3 (bat t) ⟨256 * (row t : ℕ) + r, by omega⟩ ⟨512 * (grp t : ℕ) + e, by omega⟩) := by
  have h : ((cfg0.win 0).blk t).view.emb (ix3 0 r e) = ix3 (bat t) ⟨256 * (row t : ℕ) + r, by omega⟩ ⟨512 * (grp t : ℕ) + e, by omega⟩ := by
    blk_ext [idx t, bat, grp, row]
  exact congrArg A h

theorem blk_q (t : Fin cfg0.N) (r : Fin 256) (e : Fin 512) :
    ((show Vec Ideal S1x256x512 .bf16 from iblk m c 0 t) (ix3 0 r e) : EReal)
      = (show Vec Ideal S2x8192x4096 .bf16 from V m c main_v22) (ix3 (bat t) ⟨256 * (row t : ℕ) + r, by omega⟩ ⟨512 * (grp t : ℕ) + e, by omega⟩) :=
  read_q (V m c main_v22) t r e

theorem read_k (A : Vec Ideal S2x8448x1024 .bf16) (t : Fin cfg0.N) (i : Fin 8448) (d : Fin 128) :
    ((show Vec Ideal S1x8448x128 .bf16 from ((cfg0.win 1).blk t).view.read (Elt Ideal) A) (ix3 0 i d) : EReal)
      = A (ix3 (bat t) i ⟨128 * (grp t : ℕ) + d, by omega⟩) := by
  have h : ((cfg0.win 1).blk t).view.emb (ix3 0 i d) = ix3 (bat t) i ⟨128 * (grp t : ℕ) + d, by omega⟩ := by
    blk_ext [idx t, bat, grp, row]
  exact congrArg A h

theorem blk_k (t : Fin cfg0.N) (i : Fin 8448) (d : Fin 128) :
    ((show Vec Ideal S1x8448x128 .bf16 from iblk m c 1 t) (ix3 0 i d) : EReal)
      = (show Vec Ideal S2x8448x1024 .bf16 from V m c main_v13) (ix3 (bat t) i ⟨128 * (grp t : ℕ) + d, by omega⟩) :=
  read_k (V m c main_v13) t i d

theorem read_v (A : Vec Ideal S2x1152x8448 .bf16) (t : Fin cfg0.N) (d : Fin 144) (i : Fin 8448) :
    ((show Vec Ideal S1x144x8448 .bf16 from ((cfg0.win 2).blk t).view.read (Elt Ideal) A) (ix3 0 d i) : EReal)
      = A (ix3 (bat t) ⟨144 * (grp t : ℕ) + d, by omega⟩ i) := by
  have h : ((cfg0.win 2).blk t).view.emb (ix3 0 d i) = ix3 (bat t) ⟨144 * (grp t : ℕ) + d, by omega⟩ i := by
    blk_ext [idx t, bat, grp, row]
  exact congrArg A h

theorem blk_v (t : Fin cfg0.N) (d : Fin 144) (i : Fin 8448) :
    ((show Vec Ideal S1x144x8448 .bf16 from iblk m c 2 t) (ix3 0 d i) : EReal)
      = (show Vec Ideal S2x1152x8448 .bf16 from V m c main_v21) (ix3 (bat t) ⟨144 * (grp t : ℕ) + d, by omega⟩ i) :=
  read_v (V m c main_v21) t d i

abbrev argQ : FVec Ideal S2x8192x32x128 .f32 := m ((c.tc : Thread nD τ).loc main_arg0)
abbrev argK : FVec Ideal S2x8192x8x128 .f32 := m ((c.tc : Thread nD τ).loc main_arg1)
abbrev argKc : FVec Ideal S2x256x8x128 .f32 := m ((c.tc : Thread nD τ).loc main_arg2)
abbrev argV : FVec Ideal S2x8192x8x128 .f32 := m ((c.tc : Thread nD τ).loc main_arg3)
abbrev argVc : FVec Ideal S2x256x8x128 .f32 := m ((c.tc : Thread nD τ).loc main_arg4)

/-- The reference's result over the kernel's arguments. -/
def goal : FVec Ideal S2x8192x4096 .bf16 :=
  Ref.output (Ref.join (argV m c) (argVc m c)) (Ref.weight (Ref.score (argQ m c) (Ref.join (argK m c) (argKc m c))))

theorem in_q (t : Fin cfg0.N) (r : Fin 256) (e : Fin 512) :
    ((show Vec Ideal S1x256x512 .bf16 from iblk m c 0 t) (ix3 0 r e) : EReal)
      = argQ m c (ix4 (bat t) ⟨256 * (row t : ℕ) + r, by omega⟩ ⟨4 * (grp t : ℕ) + (e : ℕ) / 128, by omega⟩ ⟨(e : ℕ) % 128, by omega⟩) * scaleOf := by
  rw [blk_q, host_q]
  refine congrArg (fun z => argQ m c z * scaleOf) (congrArg₂ (fun a b => ix4 (bat t) _ a b) (Fin.ext ?_) (Fin.ext ?_)) <;> simp only <;> omega

theorem in_k (t : Fin cfg0.N) (i : Fin 8448) (d : Fin 128) :
    ((show Vec Ideal S1x8448x128 .bf16 from iblk m c 1 t) (ix3 0 i d) : EReal) = Ref.join (argK m c) (argKc m c) (ix4 (bat t) i (grp t) d) := by
  have h1 : (⟨(128 * (grp t : ℕ) + d) / 128, by omega⟩ : Fin 8) = grp t := Fin.ext (by simp only; omega)
  have h2 : (⟨(128 * (grp t : ℕ) + d) % 128, by omega⟩ : Fin 128) = d := Fin.ext (by simp only; omega)
  rw [blk_k, host_k, Ref.join_read]
  simp only [h1, h2]

theorem in_v (t : Fin cfg0.N) (d : Fin 128) (i : Fin 8448) :
    ((show Vec Ideal S1x144x8448 .bf16 from iblk m c 2 t) (ix3 0 ⟨d, by omega⟩ i) : EReal) = Ref.join (argV m c) (argVc m c) (ix4 (bat t) i (grp t) d) := by
  have h1 : (⟨(144 * (grp t : ℕ) + d) / 144, by omega⟩ : Fin 8) = grp t := Fin.ext (by simp only; omega)
  have h2 : (144 * (grp t : ℕ) + d) % 144 = d := by omega
  rw [blk_v, host_v, Ref.join_read]
  simp only [h1, h2, d.isLt, dif_pos]

theorem in_one (t : Fin cfg0.N) (i : Fin 8448) :
    ((show Vec Ideal S1x144x8448 .bf16 from iblk m c 2 t) (ix3 0 128 i) : EReal) = 1 := by
  have h : (144 * (grp t : ℕ) + ((128 : Fin 144) : ℕ)) % 144 = 128 := by
    show (144 * (grp t : ℕ) + 128) % 144 = 128
    omega
  rw [blk_v, host_v, dif_neg (by simp only [h]; decide)]
  refine Eq.trans (congrArg extra ?_) (extra_read (bat t) i (grp t))
  refine congrArg₂ (fun a b => ix4 (bat t) i a b) (Fin.ext ?_) (Fin.ext ?_)
  · show (144 * (grp t : ℕ) + 128) / 144 = _
    omega
  · show (144 * (grp t : ℕ) + 128) % 144 - 128 = 0
    omega

/-! ## One point -/

section
variable (q : FVec Ideal S2x8192x32x128 .f32) (k : FVec Ideal S2x8448x8x128 .f32)

/-- The product of a query and a key, as a real. -/
theorem dot_real (hq : ∀ y, ∃ r : ℝ, q y = (r : EReal)) (hk : ∀ y, ∃ r : ℝ, k y = (r : EReal))
    (b : Fin 2) (j : Fin 8) (h : Fin 32) (n : Fin 8192) (i : Fin 8448) :
    ∃ w : ℝ, ∑ d : Fin 128, (k (ix4 b i j d) : EReal) * q (ix4 b n h d) = (w : EReal)
      ∧ ∑ d : Fin 128, (k (ix4 b i j d) : EReal) * (q (ix4 b n h d) * scaleOf) = ((w * (Real.sqrt 128 * Real.log 2)⁻¹ : ℝ) : EReal) := by
  choose fq hfq using fun d => hq (ix4 b n h d)
  choose fk hfk using fun d => hk (ix4 b i j d)
  refine ⟨∑ d, fk d * fq d, ?_, ?_⟩
  · simp only [hfq, hfk, ← EReal.coe_mul]
    exact (coe_sum _ _).symm
  · simp only [hfq, hfk, scaleOf_eq, ← EReal.coe_mul]
    rw [Finset.sum_mul]
    simp only [mul_assoc]
    exact (coe_sum _ _).symm

end

variable (hq : ∀ y, ∃ r : ℝ, argQ m c y = (r : EReal)) (hk : ∀ y, ∃ r : ℝ, Ref.join (argK m c) (argKc m c) y = (r : EReal))

theorem score_real (q : FVec Ideal S2x8192x32x128 .f32) (k : FVec Ideal S2x8448x8x128 .f32)
    (hq : ∀ y, ∃ r : ℝ, q y = (r : EReal)) (hk : ∀ y, ∃ r : ℝ, k y = (r : EReal)) (y : Cert.ReferenceIdeal.S2x8x4x8192x8448.Idx) :
    ∃ r : ℝ, Ref.score q k y = (r : EReal) := by
  have hy : y = ix5 (y 0) (y 1) (y 2) (y 3) (y 4) := by funext a; fin_cases a <;> rfl
  obtain ⟨w, hw, -⟩ := dot_real q k hq hk (y 0) (y 1) ⟨(y 1 : ℕ) * 4 + (y 2 : ℕ), by
    have h1 : (y 1 : ℕ) < 8 := (y 1).isLt
    have h2 : (y 2 : ℕ) < 4 := (y 2).isLt
    omega⟩ (y 3) (y 4)
  rw [hy]
  exact ⟨_, (Ref.score_read q k (y 0) (y 1) (y 2) (y 3) (y 4)).trans (by rw [hw, sqrt_128, div_coe _ _ sqrt_128_ne, ← EReal.coe_mul])⟩

include hq hk in
/-- One grid point's output block, where its input blocks hold what the launch receives: the reference's result at the
    block's place. -/
theorem point (t : Fin cfg0.N) (i : grid0.Coords)
    (arg3 : Memref sig .tc .vmem S1x256x512 .bf16) (harg3 : arg3.IsWhole)
    (arg4 : Memref sig .tc .vmem S1x8448x128 .bf16) (harg4 : arg4.IsWhole)
    (arg5 : Memref sig .tc .vmem S1x144x8448 .bf16) (harg5 : arg5.IsWhole)
    (arg6 : Memref sig .tc .vmem S1x256x512 .bf16) (harg6 : arg6.IsWhole)
    (arg7 : Memref sig .tc .vmem S128x1024 .bf16) (harg7 : arg7.IsWhole)
    (arg8 : Memref sig .tc .vmem S3x768x1024 .f32) (harg8 : arg8.IsWhole)
    (arg9 : Memref sig .tc .vmem S3x768x1024 .bf16) (harg9 : arg9.IsWhole)
    (arg10 : Memref sig .tc .vmem S3x1x1024 .f32) (harg10 : arg10.IsWhole)
    (arg11 : Memref sig .tc .vmem S1x1024 .f32) (harg11 : arg11.IsWhole)
    (arg12 : Memref sig .tc .vmem S144x1024 .f32) (harg12 : arg12.IsWhole)
    (x0 : Vec Ideal S1x256x512 .bf16) (x1 : Vec Ideal S1x8448x128 .bf16) (x2 : Vec Ideal S1x144x8448 .bf16)
    (h0 : ∀ (r : Fin 256) (e : Fin 512), (x0 (ix3 0 r e) : EReal)
      = argQ m c (ix4 (bat t) ⟨256 * (row t : ℕ) + r, by omega⟩ ⟨4 * (grp t : ℕ) + (e : ℕ) / 128, by omega⟩ ⟨(e : ℕ) % 128, by omega⟩) * scaleOf)
    (h1 : ∀ (i : Fin 8448) (d : Fin 128), (x1 (ix3 0 i d) : EReal) = Ref.join (argK m c) (argKc m c) (ix4 (bat t) i (grp t) d))
    (h2 : ∀ (d : Fin 128) (i : Fin 8448), (x2 (ix3 0 ⟨d, by omega⟩ i) : EReal) = Ref.join (argV m c) (argVc m c) (ix4 (bat t) i (grp t) d))
    (h3 : ∀ i : Fin 8448, (x2 (ix3 0 128 i) : EReal) = 1) (r : Fin 256) (e : Fin 512) :
    (out0_A_3 (F := Ideal) c i arg3 harg3 arg4 harg4 arg5 harg5 arg6 harg6 arg7 harg7 arg8 harg8 arg9 harg9 arg10 harg10 arg11 harg11 arg12 harg12 x0 x1 x2 (ix3 0 r e) : EReal)
      = goal m c (ix3 (bat t) ⟨256 * (row t : ℕ) + r, by omega⟩ ⟨512 * (grp t : ℕ) + e, by omega⟩) := by
  choose w hw hws using fun k : Fin 8448 => dot_real (argQ m c) (Ref.join (argK m c) (argKc m c)) hq hk (bat t) (grp t)
    ⟨4 * (grp t : ℕ) + (e : ℕ) / 128, by omega⟩ ⟨256 * (row t : ℕ) + r, by omega⟩ k
  have hj : (⟨(512 * (grp t : ℕ) + e) / 512, by omega⟩ : Fin 8) = grp t := Fin.ext (by simp only; omega)
  have hl : (⟨(512 * (grp t : ℕ) + e) % 128, by omega⟩ : Fin 128) = ⟨(e : ℕ) % 128, by omega⟩ := Fin.ext (by simp only; omega)
  have hh : (⟨(512 * (grp t : ℕ) + e) / 512 * 4 + (512 * (grp t : ℕ) + e) / 128 % 4, by omega⟩ : Fin 32) = ⟨4 * (grp t : ℕ) + (e : ℕ) / 128, by omega⟩ :=
    Fin.ext (by simp only; omega)
  obtain ⟨ν, hν⟩ := Ref.result_read (Ref.join (argV m c) (argVc m c)) _ (score_real _ _ hq hk) (bat t) ⟨256 * (row t : ℕ) + r, by omega⟩
    ⟨512 * (grp t : ℕ) + e, by omega⟩ (fun k => w k * (Real.sqrt 128)⁻¹) (fun k => by
      refine (Ref.score_read ..).trans ?_
      rw [sqrt_128, div_coe _ _ sqrt_128_ne, EReal.coe_mul, ← hw k]
      simp only [hj, hh])
  refine (block c i arg3 harg3 arg4 harg4 arg5 harg5 arg6 harg6 arg7 harg7 arg8 harg8 arg9 harg9 arg10 harg10 arg11 harg11 arg12 harg12 x0 x1 x2 (ix3 0 r e)
    (fun k => w ⟨k % 8448, Nat.mod_lt _ (by decide)⟩ * (Real.sqrt 128 * Real.log 2)⁻¹)
    (fun k => w ⟨k % 8448, Nat.mod_lt _ (by decide)⟩ * (Real.sqrt 128)⁻¹) ν (fun k => ?_) (fun k => ?_) h3).trans (Eq.trans ?_ hν.symm)
  · have hk' : (⟨(k : ℕ) % 8448, Nat.mod_lt _ (by decide)⟩ : Fin 8448) = k := Fin.ext (Nat.mod_eq_of_lt k.isLt)
    rw [hk', ← hws k]
    refine Finset.sum_congr rfl fun d _ => ?_
    rw [h1 k d]
    refine congrArg _ ((h0 r ⟨128 * ((e : ℕ) / 128) + d, by omega⟩).trans ?_)
    refine congrArg (fun z => argQ m c z * scaleOf) (congrArg₂ (fun a b => ix4 (bat t) _ a b) (Fin.ext ?_) (Fin.ext ?_)) <;> simp only <;> omega
  · have := sqrt_128_ne
    have := log_2_ne
    field_simp
  · refine Finset.sum_congr rfl fun k _ => ?_
    have hk' : ∀ k : Fin 8448, (⟨(k : ℕ) % 8448, Nat.mod_lt _ (by decide)⟩ : Fin 8448) = k := fun k => Fin.ext (Nat.mod_eq_of_lt k.isLt)
    simp only [hk', hj, hl]
    generalize Ideal.div _ _ = W
    exact congrArg (fun z : EReal => z * W) (h2 ⟨(e : ℕ) % 128, by omega⟩ k)

/-! ## The result array -/

/-- The output's blocks tile its array. -/
theorem covers : (cfg0.win 3).Covers :=
  (cfg0.win 3).covers_of_index_surj rfl (by decide) fun β => by
    obtain ⟨t, ht⟩ := grid0.coords_surjective fun a : Fin 3 => ⟨![(β 0 : ℕ), β 2, β 1] a, by
      fin_cases a
      · exact (β 0).isLt
      · exact (β 2).isLt
      · exact (β 1).isLt⟩
    refine ⟨t, fun a => (congrFun (idx t).2.2.2 a).trans ?_⟩
    rw [ht]
    fin_cases a <;> rfl

theorem blk_out (t : Fin cfg0.N) (r : Fin 256) (e : Fin 512) :
    ((cfg0.win 3).blk t).view.emb (ix3 0 r e) = ix3 (bat t) ⟨256 * (row t : ℕ) + r, by omega⟩ ⟨512 * (grp t : ℕ) + e, by omega⟩ := by
  blk_ext [idx t, bat, grp, row]

include hq hk in
theorem flushed (t : Fin cfg0.N) (y : S1x256x512.Idx) : (outsAt0 m c t y : EReal) = goal m c (((cfg0.win 3).blk t).view.emb y) := by
  have hy : y = ix3 0 (y 1) (y 2) := by
    funext b; fin_cases b
    · exact Subsingleton.elim (α := Fin 1) _ _
    · rfl
    · rfl
  rw [hy]
  refine Eq.trans ?_ (congrArg (goal m c) (blk_out t (y 1) (y 2))).symm
  rw [outsAt0]
  exact point m c hq hk t _ _ _ _ _ _ _ _ _ _ _ _ _ _ _ _ _ _ _ _ _ _ _ _ (fun r e => in_q m c t r e) (fun i d => in_k m c t i d)
    (fun d i => in_v m c t d i) (fun i => in_one m c t i) (y 1) (y 2)

include hq hk in
/-- After the run the result array is the reference's. -/
theorem final : (dats m 0 c).arrAt 3 cfg0.N = goal m c := by
  refine (dats m 0 c).arrAt_eq_of_covers 3 (goal m c) covers fun t _ y => ?_
  blk_simp
  rw [after0_3]
  exact flushed m c hq hk t y

end Cert.Proof.Attn

end
-- ==== Proof.Attn.Pre.lean ====
/- What the precondition says of the queries and the keys: every entry is a real number. -/
module

public import proofs.«01_k».proof.Pre_finite
public import Idealize.ShloMosaic.Lib.Pipeline.ValueKit

@[expose] public section

set_option maxRecDepth 16384

noncomputable section

namespace Cert.Proof.Attn

open Cert.Pre_finite Idealize.ShloMosaic

/-- A number whose size is below infinity is a real. -/
theorem real_of_abs (x : EReal) (h : BitVec.ofBool (decide ((FloatOps.absf (F := Ideal) (φ := .f32) x : EReal) < Ideal.ofBits .f32 2139095040#32)) = 1#1) :
    ∃ r : ℝ, x = r := by
  have hi : Ideal.ofBits .f32 2139095040#32 = ⊤ := by simp [Ideal.ofBits, Ideal.ieee]
  rw [hi] at h
  have hlt : (FloatOps.absf (F := Ideal) (φ := .f32) x : EReal) < ⊤ := by
    by_contra hn
    rw [decide_eq_false hn] at h
    exact absurd h (by decide)
  have hlt' : max x (-x) < ⊤ := hlt
  induction x with
  | bot => exact absurd hlt' (by simp)
  | top => exact absurd hlt' (by simp)
  | coe r => exact ⟨r, rfl⟩

section
variable [Facts] (q : FVec Ideal S2x8192x32x128 .f32) (k : FVec Ideal S2x8192x8x128 .f32) (kc : FVec Ideal S2x256x8x128 .f32)
variable (v : FVec Ideal S2x8192x8x128 .f32) (vc : FVec Ideal S2x256x8x128 .f32) (h : fn (F := Ideal) q k kc v vc = fun _ => 1#1)
include h

theorem all_real (b : Fin 2) (i : Fin 41216) (j : Fin 8) (d : Fin 128) :
    ∃ r : ℝ, (if h : (i : ℕ) < 32768 then q (ix4 b ⟨(i : ℕ) / 4, by omega⟩ ⟨(i : ℕ) % 4 * 8 + (j : ℕ), by omega⟩ d)
      else if h : (i : ℕ) - 32768 < 8192 then k (ix4 b ⟨(i : ℕ) - 32768, h⟩ j d) else kc (ix4 b ⟨(i : ℕ) - 32768 - 8192, by omega⟩ j d) : EReal) = r := by
  have e := congrFun h (ix4 b i j d)
  pointwise [fn] at e
  exact real_of_abs _ e

theorem q_real (b : Fin 2) (n : Fin 8192) (e : Fin 32) (d : Fin 128) : ∃ r : ℝ, q (ix4 b n e d) = (r : EReal) := by
  obtain ⟨r, hr⟩ := all_real q k kc v vc h b ⟨4 * (n : ℕ) + (e : ℕ) / 8, by omega⟩ ⟨(e : ℕ) % 8, by omega⟩ d
  rw [dif_pos (show 4 * (n : ℕ) + (e : ℕ) / 8 < 32768 by omega)] at hr
  refine ⟨r, Eq.trans (congrArg q ?_) hr⟩
  refine congrArg₂ (fun a b' => ix4 b a b' d) (Fin.ext ?_) (Fin.ext ?_) <;> simp only <;> omega

theorem k_real (b : Fin 2) (i : Fin 8192) (j : Fin 8) (d : Fin 128) : ∃ r : ℝ, k (ix4 b i j d) = (r : EReal) := by
  obtain ⟨r, hr⟩ := all_real q k kc v vc h b ⟨32768 + (i : ℕ), by omega⟩ j d
  rw [dif_neg (show ¬ 32768 + (i : ℕ) < 32768 by omega), dif_pos (show 32768 + (i : ℕ) - 32768 < 8192 by omega)] at hr
  refine ⟨r, Eq.trans (congrArg k (congrArg (fun a => ix4 b a j d) (Fin.ext ?_))) hr⟩
  simp only; omega

theorem kc_real (b : Fin 2) (i : Fin 256) (j : Fin 8) (d : Fin 128) : ∃ r : ℝ, kc (ix4 b i j d) = (r : EReal) := by
  obtain ⟨r, hr⟩ := all_real q k kc v vc h b ⟨32768 + 8192 + (i : ℕ), by omega⟩ j d
  rw [dif_neg (show ¬ 32768 + 8192 + (i : ℕ) < 32768 by omega), dif_neg (show ¬ 32768 + 8192 + (i : ℕ) - 32768 < 8192 by omega)] at hr
  refine ⟨r, Eq.trans (congrArg kc (congrArg (fun a => ix4 b a j d) (Fin.ext ?_))) hr⟩
  simp only; omega

end

end Cert.Proof.Attn

end
-- ==== Proof.Proj.Plain.lean ====
/- The projection kernel's result array: the product of its two arguments. -/
module

public import proofs.«01_k».proof.Proof.Gen.Kernel3Ideal.Value
public import proofs.«01_k».proof.Proof.Gen.Reference3Ideal.Run
public import Idealize.ShloMosaic.Lib.Pipeline.Covers
public import Idealize.ShloMosaic.Lib.Pipeline.ValueKit

@[expose] public section

set_option maxRecDepth 16384

noncomputable section

namespace Cert.Proof.Proj.Plain

open Cert.Kernel3Ideal Cert.Kernel3Ideal.Gen Idealize.ShloMosaic Idealize.ShloMosaic.TcCoe
open Idealize.ShloMosaic.Pipeline (Dat)

variable (m : (ℓ : Loc nD τ sig) → Buf (Elt Ideal) ℓ) (c : Dev nD)

theorem idx : ∀ t : Fin cfg0.N,
    win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- A grid point's block of rows and of columns. -/
abbrev row (t : Fin cfg0.N) : Fin 16 := grid0.coords t 0
abbrev col (t : Fin cfg0.N) : Fin 4 := grid0.coords t 1

abbrev argX : FVec Ideal S16384x4096 .f32 := m ((c.tc : Thread nD τ).loc main_arg0)
abbrev argW : FVec Ideal S4096x4096 .f32 := m ((c.tc : Thread nD τ).loc main_arg1)

theorem host_x (y : S16384x4096.Idx) : ((show Vec Ideal S16384x4096 .bf16 from V m c main_v0) y : EReal) = argX m c y := by
  entry_read
  pointwise

theorem host_w (y : S4096x4096.Idx) : ((show Vec Ideal S4096x4096 .bf16 from V m c main_v1) y : EReal) = argW m c y := by
  entry_read
  pointwise

theorem read_x (A : Vec Ideal S16384x4096 .bf16) (t : Fin cfg0.N) (r : Fin 1024) (k : Fin 4096) :
    ((show Vec Ideal S1024x4096 .bf16 from ((cfg0.win 0).blk t).view.read (Elt Ideal) A) (ix2 r k) : EReal)
      = A (ix2 ⟨1024 * (row t : ℕ) + r, by omega⟩ k) := by
  have h : ((cfg0.win 0).blk t).view.emb (ix2 r k) = ix2 ⟨1024 * (row t : ℕ) + r, by omega⟩ k := by
    blk_ext [idx t, row]
  exact congrArg A h

theorem read_w (A : Vec Ideal S4096x4096 .bf16) (t : Fin cfg0.N) (k : Fin 4096) (e : Fin 1024) :
    ((show Vec Ideal S4096x1024 .bf16 from ((cfg0.win 1).blk t).view.read (Elt Ideal) A) (ix2 k e) : EReal)
      = A (ix2 k ⟨1024 * (col t : ℕ) + e, by omega⟩) := by
  have h : ((cfg0.win 1).blk t).view.emb (ix2 k e) = ix2 k ⟨1024 * (col t : ℕ) + e, by omega⟩ := by
    blk_ext [idx t, col]
  exact congrArg A h

theorem in_x (t : Fin cfg0.N) (r : Fin 1024) (k : Fin 4096) :
    ((show Vec Ideal S1024x4096 .bf16 from iblk m c 0 t) (ix2 r k) : EReal) = argX m c (ix2 ⟨1024 * (row t : ℕ) + r, by omega⟩ k) :=
  (read_x (V m c main_v0) t r k).trans (host_x m c _)

theorem in_w (t : Fin cfg0.N) (k : Fin 4096) (e : Fin 1024) :
    ((show Vec Ideal S4096x1024 .bf16 from iblk m c 1 t) (ix2 k e) : EReal) = argW m c (ix2 k ⟨1024 * (col t : ℕ) + e, by omega⟩) :=
  (read_w (V m c main_v1) t k e).trans (host_w m c _)

/-- One block: the product of its rows with its columns. -/
theorem block (x : Vec Ideal S1024x4096 .bf16) (w : Vec Ideal S4096x1024 .bf16) (r e : Fin 1024) :
    (out0_2 (F := Ideal) x w (ix2 r e) : EReal) = ∑ k : Fin 4096, (x (ix2 r k) : EReal) * w (ix2 k e) := by
  unfold out0_2 k0_pay1
  canon_tiles
  obtain rfl : x 0 = r := Fin.ext h0.symm
  obtain rfl : x 1 = e := Fin.ext h1.symm
  pointwise

/-- The product, as the reference states it. -/
def goal (x : FVec Ideal S16384x4096 .f32) (w : FVec Ideal S4096x4096 .f32) : FVec Ideal S16384x4096 .f32 :=
  Host.dotGeneral Cert.Reference3Ideal.dot_S16384x4096_S4096x4096_S16384x4096_1_0_0_1_n_n none x w

theorem goal_read (x : FVec Ideal S16384x4096 .f32) (w : FVec Ideal S4096x4096 .f32) (n : Fin 16384) (e : Fin 4096) :
    (goal x w (ix2 n e) : EReal) = ∑ k : Fin 4096, (x (ix2 n k) : EReal) * w (ix2 k e) := by
  pointwise [goal]

/-- The output's blocks tile its array. -/
theorem covers : (cfg0.win 2).Covers :=
  (cfg0.win 2).covers_of_index_surj rfl (by decide) fun β => by
    obtain ⟨t, ht⟩ := grid0.coords_surjective fun a : Fin 2 => ⟨![(β 0 : ℕ), β 1] a, by
      fin_cases a
      · exact (β 0).isLt
      · exact (β 1).isLt⟩
    refine ⟨t, fun a => (congrFun (idx t).2.2 a).trans ?_⟩
    rw [ht]
    fin_cases a <;> rfl

theorem blk_out (t : Fin cfg0.N) (r e : Fin 1024) :
    ((cfg0.win 2).blk t).view.emb (ix2 r e) = ix2 ⟨1024 * (row t : ℕ) + r, by omega⟩ ⟨1024 * (col t : ℕ) + e, by omega⟩ := by
  blk_ext [idx t, row, col]

/-- After the run the result array is the product. -/
theorem final : (dats m 0 c).arrAt 2 cfg0.N = goal (argX m c) (argW m c) := by
  refine (dats m 0 c).arrAt_eq_of_covers 2 (goal (argX m c) (argW m c)) covers fun t _ y => ?_
  blk_simp
  rw [after0_2]
  have hy : (y : S1024x1024.Idx) = ix2 (y 0) (y 1) := by
    funext b; fin_cases b <;> rfl
  rw [hy]
  refine ((block _ _ (y 0) (y 1)).trans (Finset.sum_congr rfl fun k _ => ?_)).trans
    ((congrArg (goal (argX m c) (argW m c)) (blk_out t (y 0) (y 1))).trans (goal_read _ _ _ _)).symm
  exact congrArg₂ (fun a b : EReal => a * b) (in_x m c t (y 0) k) (in_w m c t k (y 1))

end Cert.Proof.Proj.Plain

end
-- ==== Proof.Proj.Gated.lean ====
/- The gated projection kernel's result array: the first half of the projection times the sigmoid of the second. -/
module

public import proofs.«01_k».proof.Proof.Gen.Kernel2Ideal.Value
public import proofs.«01_k».proof.Proof.Gen.Reference2Ideal.Run
public import Idealize.ShloMosaic.Lib.Pipeline.Covers
public import Idealize.ShloMosaic.Lib.Pipeline.ValueKit

@[expose] public section

set_option maxRecDepth 16384

noncomputable section

namespace Cert.Proof.Proj.Gated

open Idealize.ShloMosaic

section
open Cert.Reference2Ideal Cert.Reference2Ideal.Gen

/-- The product of row `n` with column `e`, plus the column's bias. -/
def lin (x : FVec Ideal S16384x4096 .f32) (w : FVec Ideal S4096x8192 .f32) (b : FVec Ideal S8192 .f32) (n : Fin 16384) (e : Fin 8192) : EReal :=
  ∑ k : Fin 4096, (x (ix2 n k) : EReal) * w (ix2 k e) + b (ix1 e)

/-- The gate. -/
def gate (a g : EReal) : EReal := a * Ideal.div 1 (1 + Ideal.exp (-g))

/-- The reference's result, from its arguments. -/
def goal (x : FVec Ideal S16384x4096 .f32) (w : FVec Ideal S4096x8192 .f32) (b : FVec Ideal S8192 .f32) : FVec Ideal S16384x4096 .f32 :=
  mulf (extractStridedSlice S16384x4096 ![0, 0] (addf (Host.dotGeneral dot_S16384x4096_S4096x8192_S16384x8192_1_0_0_1_n_n none x w) (broadcastInDim S16384x8192 ![0, 1] bcast_S1x8192_S16384x8192_0_1 (broadcastInDim S1x8192 ![1] bcast_S8192_S1x8192_1 b))) slices_S16384x8192_S16384x4096_0_0) (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extractStridedSlice S16384x4096 ![0, 4096] (addf (Host.dotGeneral dot_S16384x4096_S4096x8192_S16384x8192_1_0_0_1_n_n none x w) (broadcastInDim S16384x8192 ![0, 1] bcast_S1x8192_S16384x8192_0_1 (broadcastInDim S1x8192 ![1] bcast_S8192_S1x8192_1 b))) slices_S16384x8192_S16384x4096_0_4096)))))

theorem goal_read (x : FVec Ideal S16384x4096 .f32) (w : FVec Ideal S4096x8192 .f32) (b : FVec Ideal S8192 .f32) (n : Fin 16384) (e : Fin 4096) :
    (goal x w b (ix2 n e) : EReal) = gate (lin x w b n ⟨e, by omega⟩) (lin x w b n ⟨4096 + e, by omega⟩) := by
  unfold goal gate lin
  pointwise

end

open Cert.Kernel2Ideal Cert.Kernel2Ideal.Gen Idealize.ShloMosaic.TcCoe
open Idealize.ShloMosaic.Pipeline (Dat)

variable (m : (ℓ : Loc nD τ sig) → Buf (Elt Ideal) ℓ) (c : Dev nD)

theorem idx : ∀ t : Fin cfg0.N,
    win0_0.index t = ![(grid0.coords t 0).val, 0]
    ∧ win0_1.index t = ![0, (grid0.coords t 1).val]
    ∧ win0_2.index t = ![0, (grid0.coords t 1).val + 8]
    ∧ win0_3.index t = ![0, (grid0.coords t 1).val]
    ∧ win0_4.index t = ![0, (grid0.coords t 1).val + 8]
    ∧ win0_5.index t = ![(grid0.coords t 0).val, (grid0.coords t 1).val] :=
  (by decide +kernel : ∀ t : Fin grid0.N, _)

/-- A grid point's block of rows and of columns. -/
abbrev row (t : Fin cfg0.N) : Fin 16 := grid0.coords t 0
abbrev col (t : Fin cfg0.N) : Fin 8 := grid0.coords t 1

abbrev argX : FVec Ideal S16384x4096 .f32 := m ((c.tc : Thread nD τ).loc main_arg0)
abbrev argW : FVec Ideal S4096x8192 .f32 := m ((c.tc : Thread nD τ).loc main_arg1)
abbrev argB : FVec Ideal S8192 .f32 := m ((c.tc : Thread nD τ).loc main_arg2)

theorem host_x (y : S16384x4096.Idx) : ((show Vec Ideal S16384x4096 .bf16 from V m c main_v0) y : EReal) = argX m c y := by
  entry_read
  pointwise

theorem host_w (y : S4096x8192.Idx) : ((show Vec Ideal S4096x8192 .bf16 from V m c main_v1) y : EReal) = argW m c y := by
  entry_read
  pointwise

theorem host_b (e : Fin 8192) : ((show Vec Ideal S1x8192 .f32 from V m c main_v2) (ix2 0 e) : EReal) = argB m c (ix1 e) := by
  entry_read
  pointwise

theorem read_x (A : Vec Ideal S16384x4096 .bf16) (t : Fin cfg0.N) (r : Fin 1024) (k : Fin 4096) :
    ((show Vec Ideal S1024x4096 .bf16 from ((cfg0.win 0).blk t).view.read (Elt Ideal) A) (ix2 r k) : EReal)
      = A (ix2 ⟨1024 * (row t : ℕ) + r, by omega⟩ k) := by
  have h : ((cfg0.win 0).blk t).view.emb (ix2 r k) = ix2 ⟨1024 * (row t : ℕ) + r, by omega⟩ k := by
    blk_ext [idx t, row]
  exact congrArg A h

theorem read_wa (A : Vec Ideal S4096x8192 .bf16) (t : Fin cfg0.N) (k : Fin 4096) (e : Fin 512) :
    ((show Vec Ideal S4096x512 .bf16 from ((cfg0.win 1).blk t).view.read (Elt Ideal) A) (ix2 k e) : EReal)
      = A (ix2 k ⟨512 * (col t : ℕ) + e, by omega⟩) := by
  have h : ((cfg0.win 1).blk t).view.emb (ix2 k e) = ix2 k ⟨512 * (col t : ℕ) + e, by omega⟩ := by
    blk_ext [idx t, col]
  exact congrArg A h

theorem read_wg (A : Vec Ideal S4096x8192 .bf16) (t : Fin cfg0.N) (k : Fin 4096) (e : Fin 512) :
    ((show Vec Ideal S4096x512 .bf16 from ((cfg0.win 2).blk t).view.read (Elt Ideal) A) (ix2 k e) : EReal)
      = A (ix2 k ⟨4096 + (512 * (col t : ℕ) + e), by omega⟩) := by
  have h : ((cfg0.win 2).blk t).view.emb (ix2 k e) = ix2 k ⟨4096 + (512 * (col t : ℕ) + e), by omega⟩ := by
    blk_ext [idx t, col]
  exact congrArg A h

theorem read_ba (A : Vec Ideal S1x8192 .f32) (t : Fin cfg0.N) (e : Fin 512) :
    ((show Vec Ideal S1x512 .f32 from ((cfg0.win 3).blk t).view.read (Elt Ideal) A) (ix2 0 e) : EReal)
      = A (ix2 0 ⟨512 * (col t : ℕ) + e, by omega⟩) := by
  have h : ((cfg0.win 3).blk t).view.emb (ix2 0 e) = ix2 0 ⟨512 * (col t : ℕ) + e, by omega⟩ := by
    blk_ext [idx t, col]
  exact congrArg A h

theorem read_bg (A : Vec Ideal S1x8192 .f32) (t : Fin cfg0.N) (e : Fin 512) :
    ((show Vec Ideal S1x512 .f32 from ((cfg0.win 4).blk t).view.read (Elt Ideal) A) (ix2 0 e) : EReal)
      = A (ix2 0 ⟨4096 + (512 * (col t : ℕ) + e), by omega⟩) := by
  have h : ((cfg0.win 4).blk t).view.emb (ix2 0 e) = ix2 0 ⟨4096 + (512 * (col t : ℕ) + e), by omega⟩ := by
    blk_ext [idx t, col]
  exact congrArg A h

/-- One block: the gate of its two products. -/
theorem block (x : Vec Ideal S1024x4096 .bf16) (wa wg : Vec Ideal S4096x512 .bf16) (ba bg : Vec Ideal S1x512 .f32) (r : Fin 1024) (e : Fin 512) :
    (out0_5 (F := Ideal) x wa wg ba bg (ix2 r e) : EReal)
      = gate (∑ k : Fin 4096, (x (ix2 r k) : EReal) * wa (ix2 k e) + ba (ix2 0 e)) (∑ k : Fin 4096, (x (ix2 r k) : EReal) * wg (ix2 k e) + bg (ix2 0 e)) := by
  unfold out0_5 k0_pay1 gate
  canon_tiles
  obtain rfl : x 0 = r := Fin.ext h0.symm
  obtain rfl : x 1 = e := Fin.ext h1.symm
  pointwise
  rw [zero_sub]

/-- The output's blocks tile its array. -/
theorem covers : (cfg0.win 5).Covers :=
  (cfg0.win 5).covers_of_index_surj rfl (by decide) fun β => by
    obtain ⟨t, ht⟩ := grid0.coords_surjective fun a : Fin 2 => ⟨![(β 0 : ℕ), β 1] a, by
      fin_cases a
      · exact (β 0).isLt
      · exact (β 1).isLt⟩
    refine ⟨t, fun a => (congrFun (idx t).2.2.2.2.2 a).trans ?_⟩
    rw [ht]
    fin_cases a <;> rfl

theorem blk_out (t : Fin cfg0.N) (r : Fin 1024) (e : Fin 512) :
    ((cfg0.win 5).blk t).view.emb (ix2 r e) = ix2 ⟨1024 * (row t : ℕ) + r, by omega⟩ ⟨512 * (col t : ℕ) + e, by omega⟩ := by
  blk_ext [idx t, row, col]

/-- After the run the result array is the reference's. -/
theorem final : (dats m 0 c).arrAt 5 cfg0.N = goal (argX m c) (argW m c) (argB m c) := by
  refine (dats m 0 c).arrAt_eq_of_covers 5 (goal (argX m c) (argW m c) (argB m c)) covers fun t _ y => ?_
  blk_simp
  rw [after0_5]
  have hy : (y : S1024x512.Idx) = ix2 (y 0) (y 1) := by
    funext b; fin_cases b <;> rfl
  rw [hy]
  refine ((block _ _ _ _ _ (y 0) (y 1)).trans ?_).trans
    ((congrArg (goal (argX m c) (argW m c) (argB m c)) (blk_out t (y 0) (y 1))).trans (goal_read _ _ _ _ _)).symm
  have hx : ∀ k, _ := fun k => (read_x (V m c main_v0) t (y 0) k).trans (host_x m c _)
  refine congrArg₂ gate (congrArg₂ (fun a b : EReal => a + b) (Finset.sum_congr rfl fun k _ => ?_) ((read_ba (V m c main_v2) t (y 1)).trans (host_b m c _)))
    (congrArg₂ (fun a b : EReal => a + b) (Finset.sum_congr rfl fun k _ => ?_) ((read_bg (V m c main_v2) t (y 1)).trans (host_b m c _)))
  · exact congrArg₂ (fun a b : EReal => a * b) (hx k) ((read_wa (V m c main_v1) t k (y 1)).trans (host_w m c _))
  · exact congrArg₂ (fun a b : EReal => a * b) (hx k) ((read_wg (V m c main_v1) t k (y 1)).trans (host_w m c _))

end Cert.Proof.Proj.Gated

end
-- ==== Proof.Proj.Values.lean ====
/- The result array of the projection of the values: the last 1024 columns of the product. -/
module

public import proofs.«01_k».proof.Proof.Gen.Kernel5Ideal.Value
public import proofs.«01_k».proof.Proof.Gen.Reference5Ideal.Run
public import Idealize.ShloMosaic.Lib.Pipeline.Covers
public import Idealize.ShloMosaic.Lib.Pipeline.ValueKit

@[expose] public section

set_option maxRecDepth 16384

noncomputable section

namespace Cert.Proof.Proj.Values

open Cert.Kernel5Ideal Cert.Kernel5Ideal.Gen Idealize.ShloMosaic Idealize.ShloMosaic.TcCoe
open Idealize.ShloMosaic.Pipeline (Dat)

variable (m : (ℓ : Loc nD τ sig) → Buf (Elt Ideal) ℓ) (c : Dev nD)

theorem idx : ∀ t : Fin cfg0.N,
    win0_0.index t = ![(grid0.coords t 0).val, 0]
    ∧ win0_1.index t = ![0, 0]
    ∧ win0_2.index t = ![(grid0.coords t 0).val, 0] :=
  (by decide +kernel : ∀ t : Fin grid0.N, _)

/-- A grid point's block of rows; its columns are all of the values'. -/
abbrev row (t : Fin cfg0.N) : Fin 16 := grid0.coords t 0

abbrev argX : FVec Ideal S16384x4096 .f32 := m ((c.tc : Thread nD τ).loc main_arg0)
abbrev argW : FVec Ideal S4096x6144 .f32 := m ((c.tc : Thread nD τ).loc main_arg1)

theorem host_x (y : S16384x4096.Idx) : ((show Vec Ideal S16384x4096 .bf16 from V m c main_v2) y : EReal) = argX m c y := by
  entry_read
  pointwise

/-- The weights' last 1024 columns are the values'. -/
theorem host_w (k : Fin 4096) (e : Fin 1024) :
    ((show Vec Ideal S4096x1024 .bf16 from V m c main_v1) (ix2 k e) : EReal) = argW m c (ix2 k ⟨5120 + e, by omega⟩) := by
  entry_read
  pointwise

theorem read_x (A : Vec Ideal S16384x4096 .bf16) (t : Fin cfg0.N) (r : Fin 1024) (k : Fin 4096) :
    ((show Vec Ideal S1024x4096 .bf16 from ((cfg0.win 0).blk t).view.read (Elt Ideal) A) (ix2 r k) : EReal)
      = A (ix2 ⟨1024 * (row t : ℕ) + r, by omega⟩ k) := by
  have h : ((cfg0.win 0).blk t).view.emb (ix2 r k) = ix2 ⟨1024 * (row t : ℕ) + r, by omega⟩ k := by
    blk_ext [idx t, row]
  exact congrArg A h

theorem read_w (A : Vec Ideal S4096x1024 .bf16) (t : Fin cfg0.N) (k : Fin 4096) (e : Fin 1024) :
    ((show Vec Ideal S4096x1024 .bf16 from ((cfg0.win 1).blk t).view.read (Elt Ideal) A) (ix2 k e) : EReal) = A (ix2 k e) := by
  have h : ((cfg0.win 1).blk t).view.emb (ix2 k e) = ix2 k e := by
    blk_ext [idx t]
  exact congrArg A h

theorem in_x (t : Fin cfg0.N) (r : Fin 1024) (k : Fin 4096) :
    ((show Vec Ideal S1024x4096 .bf16 from iblk m c 0 t) (ix2 r k) : EReal) = argX m c (ix2 ⟨1024 * (row t : ℕ) + r, by omega⟩ k) :=
  (read_x (V m c main_v2) t r k).trans (host_x m c _)

theorem in_w (t : Fin cfg0.N) (k : Fin 4096) (e : Fin 1024) :
    ((show Vec Ideal S4096x1024 .bf16 from iblk m c 1 t) (ix2 k e) : EReal) = argW m c (ix2 k ⟨5120 + e, by omega⟩) :=
  (read_w (V m c main_v1) t k e).trans (host_w m c k e)

/-- One block: the product of its rows with the values' columns. -/
theorem block (x : Vec Ideal S1024x4096 .bf16) (w : Vec Ideal S4096x1024 .bf16) (r e : Fin 1024) :
    (out0_2 (F := Ideal) x w (ix2 r e) : EReal) = ∑ k : Fin 4096, (x (ix2 r k) : EReal) * w (ix2 k e) := by
  unfold out0_2 k0_pay1
  canon_tiles
  obtain rfl : x 0 = r := Fin.ext h0.symm
  obtain rfl : x 1 = e := Fin.ext h1.symm
  pointwise

/-- The values, as the reference states them: the last columns of the product with all weights. -/
def goal (x : FVec Ideal S16384x4096 .f32) (w : FVec Ideal S4096x6144 .f32) : FVec Ideal S16384x1024 .bf16 :=
  truncf .bf16 (extractStridedSlice Cert.Reference5Ideal.S16384x1024 ![0, 5120]
    (Host.dotGeneral Cert.Reference5Ideal.dot_S16384x4096_S4096x6144_S16384x6144_1_0_0_1_n_n none x w)
    Cert.Reference5Ideal.Gen.facts.slices_S16384x6144_S16384x1024_0_5120) (by decide)

theorem goal_read (x : FVec Ideal S16384x4096 .f32) (w : FVec Ideal S4096x6144 .f32) (n : Fin 16384) (e : Fin 1024) :
    (goal x w (ix2 n e) : EReal) = ∑ k : Fin 4096, (x (ix2 n k) : EReal) * w (ix2 k ⟨5120 + e, by omega⟩) := by
  pointwise [goal]

/-- The output's blocks tile its array. -/
theorem covers : (cfg0.win 2).Covers :=
  (cfg0.win 2).covers_of_index_surj rfl (by decide) fun β => by
    obtain ⟨t, ht⟩ := grid0.coords_surjective fun a : Fin 2 => ⟨![(β 0 : ℕ), β 1] a, by
      fin_cases a
      · exact (β 0).isLt
      · exact (β 1).isLt⟩
    refine ⟨t, fun a => (congrFun (idx t).2.2 a).trans ?_⟩
    rw [ht]
    fin_cases a
    · rfl
    · exact (Nat.lt_one_iff.mp (β 1).isLt).symm

theorem blk_out (t : Fin cfg0.N) (r e : Fin 1024) :
    ((cfg0.win 2).blk t).view.emb (ix2 r e) = ix2 ⟨1024 * (row t : ℕ) + r, by omega⟩ e := by
  blk_ext [idx t, row]

/-- After the run the result array holds the values. -/
theorem final : (dats m 0 c).arrAt 2 cfg0.N = goal (argX m c) (argW m c) := by
  refine (dats m 0 c).arrAt_eq_of_covers 2 (goal (argX m c) (argW m c)) covers fun t _ y => ?_
  blk_simp
  rw [after0_2]
  have hy : (y : S1024x1024.Idx) = ix2 (y 0) (y 1) := by
    funext b; fin_cases b <;> rfl
  rw [hy]
  refine ((block _ _ (y 0) (y 1)).trans (Finset.sum_congr rfl fun k _ => ?_)).trans
    ((congrArg (goal (argX m c) (argW m c)) (blk_out t (y 0) (y 1))).trans (goal_read _ _ _ _)).symm
  exact congrArg₂ (fun a b : EReal => a * b) (in_x m c t (y 0) k) (in_w m c t k (y 1))

end Cert.Proof.Proj.Values

end
-- ==== Proof.Proj.ContextValues.lean ====
/- The result array of the projection of the context's values: the last 1024 columns of the product. -/
module

public import proofs.«01_k».proof.Proof.Gen.Kernel9Ideal.Value
public import proofs.«01_k».proof.Proof.Gen.Reference9Ideal.Run
public import Idealize.ShloMosaic.Lib.Pipeline.Covers
public import Idealize.ShloMosaic.Lib.Pipeline.ValueKit

@[expose] public section

set_option maxRecDepth 16384

noncomputable section

namespace Cert.Proof.Proj.ContextValues

open Cert.Kernel9Ideal Cert.Kernel9Ideal.Gen Idealize.ShloMosaic Idealize.ShloMosaic.TcCoe
open Idealize.ShloMosaic.Pipeline (Dat)

variable (m : (ℓ : Loc nD τ sig) → Buf (Elt Ideal) ℓ) (c : Dev nD)

theorem idx : ∀ t : Fin cfg0.N,
    win0_0.index t = ![(grid0.coords t 0).val, 0]
    ∧ win0_1.index t = ![0, 0]
    ∧ win0_2.index t = ![(grid0.coords t 0).val, 0] :=
  (by decide +kernel : ∀ t : Fin grid0.N, _)

/-- A grid point's block of rows is its batch's context; its columns are all of the values'. -/
abbrev bat (t : Fin cfg0.N) : Fin 2 := grid0.coords t 0

/-- The row of a batch's position. -/
abbrev rowOf (b : Fin 2) (n : Fin 256) : Fin 512 := ⟨256 * (b : ℕ) + n, by omega⟩

theorem ix3_rowOf (b : Fin 2) (n : Fin 256) (k : Fin 4096) :
    ix3 (⟨(256 * (b : ℕ) + n) / 256, by omega⟩ : Fin 2) (⟨(256 * (b : ℕ) + n) % 256, by omega⟩ : Fin 256) k = ix3 b n k :=
  congrArg₂ (fun (b : Fin 2) (n : Fin 256) => ix3 b n k) (Fin.ext (by show (256 * (b : ℕ) + (n : ℕ)) / 256 = b; omega))
    (Fin.ext (by show (256 * (b : ℕ) + (n : ℕ)) % 256 = n; omega))

abbrev argX : FVec Ideal S2x256x4096 .f32 := m ((c.tc : Thread nD τ).loc main_arg0)
abbrev argW : FVec Ideal S4096x6144 .f32 := m ((c.tc : Thread nD τ).loc main_arg1)

theorem host_x (b : Fin 2) (n : Fin 256) (k : Fin 4096) :
    ((show Vec Ideal S512x4096 .bf16 from V m c main_v3) (ix2 (rowOf b n) k) : EReal) = argX m c (ix3 b n k) := by
  entry_read
  pointwise
  exact congrArg (argX m c) (ix3_rowOf b n k)

/-- The weights' last 1024 columns are the values'. -/
theorem host_w (k : Fin 4096) (e : Fin 1024) :
    ((show Vec Ideal S4096x1024 .bf16 from V m c main_v1) (ix2 k e) : EReal) = argW m c (ix2 k ⟨5120 + e, by omega⟩) := by
  entry_read
  pointwise

theorem read_x (A : Vec Ideal S512x4096 .bf16) (t : Fin cfg0.N) (r : Fin 256) (k : Fin 4096) :
    ((show Vec Ideal S256x4096 .bf16 from ((cfg0.win 0).blk t).view.read (Elt Ideal) A) (ix2 r k) : EReal) = A (ix2 (rowOf (bat t) r) k) := by
  have h : ((cfg0.win 0).blk t).view.emb (ix2 r k) = ix2 (rowOf (bat t) r) k := by
    blk_ext [idx t, bat]
  exact congrArg A h

theorem read_w (A : Vec Ideal S4096x1024 .bf16) (t : Fin cfg0.N) (k : Fin 4096) (e : Fin 1024) :
    ((show Vec Ideal S4096x1024 .bf16 from ((cfg0.win 1).blk t).view.read (Elt Ideal) A) (ix2 k e) : EReal) = A (ix2 k e) := by
  have h : ((cfg0.win 1).blk t).view.emb (ix2 k e) = ix2 k e := by
    blk_ext [idx t]
  exact congrArg A h

/-- One block: the product of its rows with the values' columns. -/
theorem block (x : Vec Ideal S256x4096 .bf16) (w : Vec Ideal S4096x1024 .bf16) (r : Fin 256) (e : Fin 1024) :
    (out0_2 (F := Ideal) x w (ix2 r e) : EReal) = ∑ k : Fin 4096, (x (ix2 r k) : EReal) * w (ix2 k e) := by
  unfold out0_2 k0_pay1
  canon_tiles
  obtain rfl : x 0 = r := Fin.ext h0.symm
  obtain rfl : x 1 = e := Fin.ext h1.symm
  pointwise

/-- The values, as the reference states them: the last columns of the product with the keys' and values' weights. -/
def goal (x : FVec Ideal S2x256x4096 .f32) (w : FVec Ideal S4096x6144 .f32) : FVec Ideal S512x1024 .bf16 :=
  truncf .bf16 (shapeCast _ (extractStridedSlice Cert.Reference9Ideal.S2x256x1024 ![0, 0, 1024]
    (Host.dotGeneral Cert.Reference9Ideal.dot_S2x256x4096_S4096x2048_S2x256x2048_2_0_01_1_n_n none x
      (extractStridedSlice Cert.Reference9Ideal.S4096x2048 ![0, 4096] w Cert.Reference9Ideal.Gen.facts.slices_S4096x6144_S4096x2048_0_4096))
    Cert.Reference9Ideal.Gen.facts.slices_S2x256x2048_S2x256x1024_0_0_1024) Cert.Reference9Ideal.Gen.facts.shapeCasts_S2x256x1024_S512x1024) (by decide)

theorem goal_read (x : FVec Ideal S2x256x4096 .f32) (w : FVec Ideal S4096x6144 .f32) (b : Fin 2) (n : Fin 256) (e : Fin 1024) :
    (goal x w (ix2 (rowOf b n) e) : EReal) = ∑ k : Fin 4096, (x (ix3 b n k) : EReal) * w (ix2 k ⟨5120 + e, by omega⟩) := by
  pointwise [goal]
  refine Finset.sum_congr rfl fun k _ => congrArg₂ (fun a b : EReal => a * b) (congrArg x (ix3_rowOf b n k)) ?_
  exact congrArg (fun j => w (ix2 k j)) (Fin.ext (by show 4096 + (1024 + (e : ℕ)) = 5120 + e; omega))

/-- The output's blocks tile its array. -/
theorem covers : (cfg0.win 2).Covers :=
  (cfg0.win 2).covers_of_index_surj rfl (by decide) fun β => by
    obtain ⟨t, ht⟩ := grid0.coords_surjective fun a : Fin 2 => ⟨![(β 0 : ℕ), β 1] a, by
      fin_cases a
      · exact (β 0).isLt
      · exact (β 1).isLt⟩
    refine ⟨t, fun a => (congrFun (idx t).2.2 a).trans ?_⟩
    rw [ht]
    fin_cases a
    · rfl
    · exact (Nat.lt_one_iff.mp (β 1).isLt).symm

theorem blk_out (t : Fin cfg0.N) (r : Fin 256) (e : Fin 1024) : ((cfg0.win 2).blk t).view.emb (ix2 r e) = ix2 (rowOf (bat t) r) e := by
  blk_ext [idx t, bat]

theorem at_block (t : Fin cfg0.N) (r : Fin 256) (e : Fin 1024) :
    (out0_2 (F := Ideal) (iblk m c 0 t) (iblk m c 1 t) (ix2 r e) : EReal)
      = goal (argX m c) (argW m c) (((cfg0.win 2).blk t).view.emb (ix2 r e)) := by
  rw [block, blk_out, goal_read]
  exact Finset.sum_congr rfl fun k _ => congrArg₂ (fun a b : EReal => a * b)
    ((read_x (V m c main_v3) t r k).trans (host_x m c _ _ _)) ((read_w (V m c main_v1) t k e).trans (host_w m c k e))

/-- After the run the result array holds the context's values. -/
theorem final : (dats m 0 c).arrAt 2 cfg0.N = goal (argX m c) (argW m c) := by
  refine (dats m 0 c).arrAt_eq_of_covers 2 (goal (argX m c) (argW m c)) covers fun t _ y => ?_
  blk_simp
  rw [after0_2]
  have hy : (y : S256x1024.Idx) = ix2 (y 0) (y 1) := by
    funext b; fin_cases b <;> rfl
  rw [hy]
  exact at_block m c t (y 0) (y 1)

end Cert.Proof.Proj.ContextValues

end
-- ==== Proof.Mod.Ada.lean ====
/- The modulations of both layers: silu of every conditioning vector, times the layer's weights, plus its bias. The kernel's
   eight rows are the two batches' vectors, the context's, and five rows of zeros whose results are not kept. -/
module

public import proofs.«01_k».proof.Proof.Gen.Kernel6Ideal.Frame
public import proofs.«01_k».proof.Proof.Gen.Reference6Ideal.Run
public import Idealize.ShloMosaic.Lib.Pipeline.Covers
public import Idealize.ShloMosaic.Lib.Pipeline.ValueKit

@[expose] public section

set_option maxRecDepth 16384

noncomputable section

namespace Cert.Proof.Mod.Ada

open Idealize.ShloMosaic

/-- A number times its sigmoid. -/
def silu (u : EReal) : EReal := u * Ideal.div 1 (1 + Ideal.exp (-u))

section
open Cert.Reference6Ideal Cert.Reference6Ideal.Gen

/-- An entry of a modulation: of the vector `u`, in layer `l`. -/
def entry (u : Fin 4096 → EReal) (w : FVec Ideal S2x4096x24576 .f32) (b : FVec Ideal S2x24576 .f32) (l : Fin 2) (e : Fin 24576) : EReal :=
  ∑ k : Fin 4096, silu (u k) * w (ix3 l k e) + b (ix2 l e)

/-- The batches' vectors and the context's, through silu. -/
def siluC (c : FVec Ideal S2x4096 .f32) : FVec Ideal S2x4096 .f32 :=
  mulf c (Host.divf (broadcastInDim S2x4096 ![] facts.bcast_S_S2x4096 (constant S_ .f32 0x3F800000#32))
    (addf (broadcastInDim S2x4096 ![] facts.bcast_S_S2x4096 (constant S_ .f32 0x3F800000#32)) (Host.exp (Host.negf c))))

def siluX (c : FVec Ideal S4096 .f32) : FVec Ideal S4096 .f32 :=
  mulf c (Host.divf (broadcastInDim S4096 ![] facts.bcast_S_S4096 (constant S_ .f32 0x3F800000#32))
    (addf (broadcastInDim S4096 ![] facts.bcast_S_S4096 (constant S_ .f32 0x3F800000#32)) (Host.exp (Host.negf c))))

/-- The reference's modulation of the batches in the first layer, in the second, and of the context in the first. -/
def goal0 (c : FVec Ideal S2x4096 .f32) (w : FVec Ideal S2x4096x24576 .f32) (b : FVec Ideal S2x24576 .f32) : FVec Ideal S2x24576 .f32 :=
  addf (Host.dotGeneral dot_S2x4096_S4096x24576_S2x24576_1_0_0_1_n_n none (siluC c)
    (shapeCast _ (extractStridedSlice S1x4096x24576 ![0, 0, 0] w facts.slices_S2x4096x24576_S1x4096x24576_0_0_0) facts.shapeCasts_S1x4096x24576_S4096x24576))
    (broadcastInDim S2x24576 ![0, 1] facts.bcast_S1x24576_S2x24576_0_1 (broadcastInDim S1x24576 ![1] facts.bcast_S24576_S1x24576_1
      (shapeCast _ (extractStridedSlice S1x24576 ![0, 0] b facts.slices_S2x24576_S1x24576_0_0) facts.shapeCasts_S1x24576_S24576)))

def goal1 (c : FVec Ideal S2x4096 .f32) (w : FVec Ideal S2x4096x24576 .f32) (b : FVec Ideal S2x24576 .f32) : FVec Ideal S2x24576 .f32 :=
  addf (Host.dotGeneral dot_S2x4096_S4096x24576_S2x24576_1_0_0_1_n_n none (siluC c)
    (shapeCast _ (extractStridedSlice S1x4096x24576 ![1, 0, 0] w facts.slices_S2x4096x24576_S1x4096x24576_1_0_0) facts.shapeCasts_S1x4096x24576_S4096x24576))
    (broadcastInDim S2x24576 ![0, 1] facts.bcast_S1x24576_S2x24576_0_1 (broadcastInDim S1x24576 ![1] facts.bcast_S24576_S1x24576_1
      (shapeCast _ (extractStridedSlice S1x24576 ![1, 0] b facts.slices_S2x24576_S1x24576_1_0) facts.shapeCasts_S1x24576_S24576)))

def goalX (c : FVec Ideal S4096 .f32) (w : FVec Ideal S2x4096x24576 .f32) (b : FVec Ideal S2x24576 .f32) : FVec Ideal S24576 .f32 :=
  addf (Host.dotGeneral dot_S4096_S4096x24576_S24576_0_0_n_1_n_n none (siluX c)
    (shapeCast _ (extractStridedSlice S1x4096x24576 ![0, 0, 0] w facts.slices_S2x4096x24576_S1x4096x24576_0_0_0) facts.shapeCasts_S1x4096x24576_S4096x24576))
    (shapeCast _ (extractStridedSlice S1x24576 ![0, 0] b facts.slices_S2x24576_S1x24576_0_0) facts.shapeCasts_S1x24576_S24576)

variable (w : FVec Ideal S2x4096x24576 .f32) (b : FVec Ideal S2x24576 .f32)

theorem goal0_read (c : FVec Ideal S2x4096 .f32) (r : Fin 2) (e : Fin 24576) :
    (goal0 c w b (ix2 r e) : EReal) = entry (fun k => c (ix2 r k)) w b 0 e := by
  pointwise [goal0, siluC, entry, silu]

theorem goal1_read (c : FVec Ideal S2x4096 .f32) (r : Fin 2) (e : Fin 24576) :
    (goal1 c w b (ix2 r e) : EReal) = entry (fun k => c (ix2 r k)) w b 1 e := by
  pointwise [goal1, siluC, entry, silu]

theorem goalX_read (c : FVec Ideal S4096 .f32) (e : Fin 24576) : (goalX c w b (ix1 e) : EReal) = entry (fun k => c (ix1 k)) w b 0 e := by
  pointwise [goalX, siluX, entry, silu]

end

open Cert.Kernel6Ideal Cert.Kernel6Ideal.Gen Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N,
    win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

/-- A grid point's layer and block of columns. -/
abbrev lay (t : Fin cfg0.N) : Fin 2 := grid0.coords t 0
abbrev col (t : Fin cfg0.N) : Fin 48 := grid0.coords t 1

abbrev argC : FVec Ideal S2x4096 .f32 := m ((c.tc : Thread nD τ).loc main_arg0)
abbrev argX : FVec Ideal S4096 .f32 := m ((c.tc : Thread nD τ).loc main_arg1)
abbrev argW : FVec Ideal S2x4096x24576 .f32 := m ((c.tc : Thread nD τ).loc main_arg2)
abbrev argB : FVec Ideal S2x24576 .f32 := m ((c.tc : Thread nD τ).loc main_arg3)

/-! ## The host operations before the kernel -/

/-- The kernel's eight rows. -/
def conds (u : FVec Ideal S2x4096 .f32) (x : FVec Ideal S4096 .f32) : FVec Ideal S8x4096 .f32 :=
  concatenate S8x4096 0 [⟨S2x4096, u⟩, ⟨S1x4096, broadcastInDim S1x4096 ![1] bcast_S4096_S1x4096_1 x⟩,
    ⟨S5x4096, broadcastInDim S5x4096 ![] bcast_S_S5x4096 (constant (F := Ideal) S_ .f32 0x00000000#32)⟩] concatenates_S2x4096_S1x4096_S5x4096_S8x4096_d0

theorem conds_batch (u : FVec Ideal S2x4096 .f32) (x : FVec Ideal S4096 .f32) (r : Fin 2) (k : Fin 4096) :
    (conds u x (ix2 ⟨r, by omega⟩ k) : EReal) = u (ix2 r k) := by
  pointwise [conds]

theorem conds_ctx (u : FVec Ideal S2x4096 .f32) (x : FVec Ideal S4096 .f32) (k : Fin 4096) : (conds u x (ix2 2 k) : EReal) = x (ix1 k) := by
  pointwise [conds]

/-- The biases, a row for each layer. -/
def biases (b : FVec Ideal S2x24576 .f32) : FVec Ideal S2x1x24576 .f32 := shapeCast S2x1x24576 b shapeCasts_S2x24576_S2x1x24576

theorem biases_read (b : FVec Ideal S2x24576 .f32) (l : Fin 2) (e : Fin 24576) : (biases b (ix3 l 0 e) : EReal) = b (ix2 l e) := by
  pointwise [biases]

theorem host_c : (show Vec Ideal S8x4096 .f32 from V m c main_v2) = conds (argC m c) (argX m c) := by
  show StableHlo.after hostOps0 _ _ = _
  after_results_simp <;> (try dsimp only [Matrix.cons_val]) <;> (try after_results_simp) <;> rfl

theorem host_b : (show Vec Ideal S2x1x24576 .f32 from V m c main_v3) = biases (argB m c) := by
  show StableHlo.after hostOps0 _ _ = _
  after_results_simp <;> (try dsimp only [Matrix.cons_val]) <;> (try after_results_simp) <;> rfl

theorem host_w : (show Vec Ideal S2x4096x24576 .f32 from V m c main_arg2) = argW m c := by
  show StableHlo.after hostOps0 _ _ = _
  after_results_simp <;> rfl

/-! ## The blocks -/

theorem read_c (A : Vec Ideal S8x4096 .f32) (t : Fin cfg0.N) (r : Fin 8) (k : Fin 4096) :
    ((show Vec Ideal S8x4096 .f32 from ((cfg0.win 0).blk t).view.read (Elt Ideal) A) (ix2 r k) : EReal) = A (ix2 r k) := by
  have h : ((cfg0.win 0).blk t).view.emb (ix2 r k) = ix2 r k := by
    blk_ext [idx t]
  exact congrArg A h

theorem read_w (A : Vec Ideal S2x4096x24576 .f32) (t : Fin cfg0.N) (k : Fin 4096) (e : Fin 512) :
    ((show Vec Ideal S1x4096x512 .f32 from ((cfg0.win 1).blk t).view.read (Elt Ideal) A) (ix3 0 k e) : EReal)
      = A (ix3 (lay t) k ⟨512 * (col t : ℕ) + e, by omega⟩) := by
  have h : ((cfg0.win 1).blk t).view.emb (ix3 0 k e) = ix3 (lay t) k ⟨512 * (col t : ℕ) + e, by omega⟩ := by
    blk_ext [idx t, lay, col]
  exact congrArg A h

theorem read_b (A : Vec Ideal S2x1x24576 .f32) (t : Fin cfg0.N) (e : Fin 512) :
    ((show Vec Ideal S1x1x512 .f32 from ((cfg0.win 2).blk t).view.read (Elt Ideal) A) (ix3 0 0 e) : EReal)
      = A (ix3 (lay t) 0 ⟨512 * (col t : ℕ) + e, by omega⟩) := by
  have h : ((cfg0.win 2).blk t).view.emb (ix3 0 0 e) = ix3 (lay t) 0 ⟨512 * (col t : ℕ) + e, by omega⟩ := by
    blk_ext [idx t, lay, col]
  exact congrArg A h

/-- One block: silu of its rows, times its weights, plus its biases. -/
theorem block (u : Vec Ideal S8x4096 .f32) (w : Vec Ideal S1x4096x512 .f32) (b : Vec Ideal S1x1x512 .f32) (r : Fin 8) (e : Fin 512) :
    (out0_3 (F := Ideal) u w b (ix3 0 r e) : EReal) = ∑ k : Fin 4096, silu (u (ix2 r k)) * w (ix3 0 k e) + b (ix3 0 0 e) := by
  unfold out0_3 k0_pay1 silu
  canon_tiles
  obtain rfl : x 1 = r := Fin.ext h1.symm
  obtain rfl : x 2 = e := Fin.ext h2.symm
  pointwise
  simp only [zero_sub]

/-- The output's blocks tile its array. -/
theorem covers : (cfg0.win 3).Covers :=
  (cfg0.win 3).covers_of_index_surj rfl (by decide) fun β => by
    obtain ⟨t, ht⟩ := grid0.coords_surjective fun a : Fin 2 => ⟨![(β 0 : ℕ), β 2] a, by
      fin_cases a
      · exact (β 0).isLt
      · exact (β 2).isLt⟩
    refine ⟨t, fun a => (congrFun (idx t).2.2.2 a).trans ?_⟩
    rw [ht]
    fin_cases a
    · rfl
    · exact (Nat.lt_one_iff.mp (β 1).isLt).symm
    · rfl

theorem blk_out (t : Fin cfg0.N) (r : Fin 8) (e : Fin 512) :
    ((cfg0.win 3).blk t).view.emb (ix3 0 r e) = ix3 (lay t) r ⟨512 * (col t : ℕ) + e, by omega⟩ := by
  blk_ext [idx t, lay, col]

/-- The kernel's array over the program's arguments. -/
def all : FVec Ideal S2x8x24576 .f32 := fun y => entry (fun k => conds (argC m c) (argX m c) (ix2 (y 1) k)) (argW m c) (argB m c) (y 0) (y 2)

theorem at_block (t : Fin cfg0.N) (r : Fin 8) (e : Fin 512) :
    (out0_3 (F := Ideal) (iblk m c 0 t) (iblk m c 1 t) (iblk m c 2 t) (ix3 0 r e) : EReal) = all m c (((cfg0.win 3).blk t).view.emb (ix3 0 r e)) := by
  rw [block, blk_out]
  refine congrArg₂ (fun a b : EReal => a + b) (Finset.sum_congr rfl fun k _ => congrArg₂ (fun a b : EReal => silu a * b) ?_ ?_) ?_
  · exact (read_c (V m c main_v2) t r k).trans (congrFun (host_c m c) _)
  · exact (read_w (V m c main_arg2) t k e).trans (congrFun (host_w m c) _)
  · exact (read_b (V m c main_v3) t e).trans ((congrFun (host_b m c) _).trans (biases_read _ _ _))

/-- After the run the kernel's array is `all`. -/
theorem final : (dats m 0 c).arrAt 3 cfg0.N = all m c := by
  refine (dats m 0 c).arrAt_eq_of_covers 3 (all m c) covers fun t _ y => ?_
  blk_simp
  rw [after0_3]
  have hy : (y : S1x8x512.Idx) = ix3 0 (y 1) (y 2) := by
    funext b; fin_cases b
    · exact Subsingleton.elim (α := Fin 1) _ _
    · rfl
    · rfl
  rw [hy]
  exact at_block m c t (y 1) (y 2)

/-! ## The host operations after the kernel -/

/-- The batches' rows of the first layer, those of the second, and the context's row of the first. -/
def out0 (o : FVec Ideal S2x8x24576 .f32) : FVec Ideal S2x24576 .f32 :=
  shapeCast S2x24576 (extractStridedSlice S1x2x24576 ![0, 0, 0] o slices_S2x8x24576_S1x2x24576_0_0_0) shapeCasts_S1x2x24576_S2x24576

def out1 (o : FVec Ideal S2x8x24576 .f32) : FVec Ideal S2x24576 .f32 :=
  shapeCast S2x24576 (extractStridedSlice S1x2x24576 ![1, 0, 0] o slices_S2x8x24576_S1x2x24576_1_0_0) shapeCasts_S1x2x24576_S2x24576

def outX (o : FVec Ideal S2x8x24576 .f32) : FVec Ideal S24576 .f32 :=
  shapeCast S24576 (extractStridedSlice S1x1x24576 ![0, 2, 0] o slices_S2x8x24576_S1x1x24576_0_2_0) shapeCasts_S1x1x24576_S24576

theorem out0_read (o : FVec Ideal S2x8x24576 .f32) (r : Fin 2) (e : Fin 24576) : (out0 o (ix2 r e) : EReal) = o (ix3 0 ⟨r, by omega⟩ e) := by
  pointwise [out0]

theorem out1_read (o : FVec Ideal S2x8x24576 .f32) (r : Fin 2) (e : Fin 24576) : (out1 o (ix2 r e) : EReal) = o (ix3 1 ⟨r, by omega⟩ e) := by
  pointwise [out1]

theorem outX_read (o : FVec Ideal S2x8x24576 .f32) (e : Fin 24576) : (outX o (ix1 e) : EReal) = o (ix3 0 2 e) := by
  pointwise [outX]

/-- The buffers as the kernel leaves them. -/
abbrev left : Valuation τ sig (Elt Ideal) := Pipeline.withArrays spec0 c (V0 m c) fun w => (dats m 0 c).arrAt w cfg0.N

theorem left_result : left m c (Proc.devRef .tc main_v4) = all m c :=
  (Pipeline.withArrays_arr spec0 (by decide) c (V0 m c) (fun w => (dats m 0 c).arrAt w cfg0.N) 3).trans (final m c)

theorem tail_0 : Pipeline.afterTail₀ cfgs (dats m) 0 (V0 m) [hostOps1] c main_v6 = out0 (all m c) := by
  rw [← left_result]
  show StableHlo.after hostOps1 (left m c) _ = _
  generalize left m c = σ
  after_results_simp <;> rfl

theorem tail_1 : Pipeline.afterTail₀ cfgs (dats m) 0 (V0 m) [hostOps1] c main_v8 = out1 (all m c) := by
  rw [← left_result]
  show StableHlo.after hostOps1 (left m c) _ = _
  generalize left m c = σ
  after_results_simp <;> rfl

theorem tail_X : Pipeline.afterTail₀ cfgs (dats m) 0 (V0 m) [hostOps1] c main_v10 = outX (all m c) := by
  rw [← left_result]
  show StableHlo.after hostOps1 (left m c) _ = _
  generalize left m c = σ
  after_results_simp <;> rfl

/-- The kept rows are the reference's results. -/
theorem kept_0 : out0 (all m c) = goal0 (argC m c) (argW m c) (argB m c) := by
  have at_index (r : Fin 2) (e : Fin 24576) : (out0 (all m c) (ix2 r e) : EReal) = goal0 (argC m c) (argW m c) (argB m c) (ix2 r e) := by
    rw [out0_read, goal0_read]
    exact congrArg (fun u => entry u (argW m c) (argB m c) 0 e) (funext fun k => conds_batch _ _ r k)
  refine funext fun (y : S2x24576.Idx) => ?_
  have hy : y = ix2 (y 0) (y 1) := by
    funext b; fin_cases b <;> rfl
  rw [hy]
  exact at_index _ _

theorem kept_1 : out1 (all m c) = goal1 (argC m c) (argW m c) (argB m c) := by
  have at_index (r : Fin 2) (e : Fin 24576) : (out1 (all m c) (ix2 r e) : EReal) = goal1 (argC m c) (argW m c) (argB m c) (ix2 r e) := by
    rw [out1_read, goal1_read]
    exact congrArg (fun u => entry u (argW m c) (argB m c) 1 e) (funext fun k => conds_batch _ _ r k)
  refine funext fun (y : S2x24576.Idx) => ?_
  have hy : y = ix2 (y 0) (y 1) := by
    funext b; fin_cases b <;> rfl
  rw [hy]
  exact at_index _ _

theorem kept_X : outX (all m c) = goalX (argX m c) (argW m c) (argB m c) := by
  have at_index (e : Fin 24576) : (outX (all m c) (ix1 e) : EReal) = goalX (argX m c) (argW m c) (argB m c) (ix1 e) := by
    rw [outX_read, goalX_read]
    exact congrArg (fun u => entry u (argW m c) (argB m c) 0 e) (funext fun k => conds_ctx _ _ k)
  refine funext fun (y : S24576.Idx) => ?_
  have hy : y = ix1 (y 0) := by
    funext b; fin_cases b; rfl
  rw [hy]
  exact at_index _

/-- The run: the three results are the reference's, and the arguments end unchanged. -/
theorem run (ρ : Dev nD → PrngReg) : θ_run defs (onTc (τ := τ) (main (F := Ideal))) ⟨m, fun _ => 0, ρ⟩ (fun r => ∀ c : Dev nD,
    r.2.mem ((c.tc : Thread nD τ).loc main_v6) = goal0 (argC m c) (argW m c) (argB m c)
    ∧ r.2.mem ((c.tc : Thread nD τ).loc main_v8) = goal1 (argC m c) (argW m c) (argB m c)
    ∧ r.2.mem ((c.tc : Thread nD τ).loc main_v10) = goalX (argX m c) (argW m c) (argB m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run _ _ _).mono (fun r h c => ?_) (θ_run_and (run_main m ρ) (unchanged m ρ))
  have rest := (h.1 c).2
  exact ⟨((rest main_v6 (Pipeline.mem_restRefs_of main_v6 (by decide) (by decide))).trans (tail_0 m c)).trans (kept_0 m c),
    ((rest main_v8 (Pipeline.mem_restRefs_of main_v8 (by decide) (by decide))).trans (tail_1 m c)).trans (kept_1 m c),
    ((rest main_v10 (Pipeline.mem_restRefs_of main_v10 (by decide) (by decide))).trans (tail_X m c)).trans (kept_X m c), h.2 c⟩

end Cert.Proof.Mod.Ada

end
-- ==== Proof.Mod.Sequence.lean ====
/- The modulated sequence: every entry scaled by one plus its batch's scale, then shifted. -/
module

public import proofs.«01_k».proof.Proof.Gen.Kernel7Ideal.Value
public import proofs.«01_k».proof.Proof.Gen.Reference7Ideal.Run
public import Idealize.ShloMosaic.Lib.Pipeline.Covers
public import Idealize.ShloMosaic.Lib.Pipeline.ValueKit

@[expose] public section

set_option maxRecDepth 16384

noncomputable section

namespace Cert.Proof.Mod

open Idealize.ShloMosaic

/-- An entry scaled and shifted. -/
def modulated (x sc sh : EReal) : EReal := x * (Ideal.ofBits .f32 0x3F800000#32 + sc) + sh

namespace Sequence

section
open Cert.Reference7Ideal Cert.Reference7Ideal.Gen

/-- The reference's result, from its arguments. -/
def goal (x : FVec Ideal S2x8192x4096 .f32) (sc sh : FVec Ideal S2x1x4096 .f32) : FVec Ideal S2x8192x4096 .bf16 :=
  truncf .bf16 (addf (mulf x (broadcastInDim S2x8192x4096 ![0, 1, 2] facts.bcast_S2x1x4096_S2x8192x4096_0_1_2
    (addf (broadcastInDim S2x1x4096 ![] facts.bcast_S_S2x1x4096 (constant S_ .f32 0x3F800000#32)) sc)))
    (broadcastInDim S2x8192x4096 ![0, 1, 2] facts.bcast_S2x1x4096_S2x8192x4096_0_1_2 sh)) (by decide)

theorem goal_read (x : FVec Ideal S2x8192x4096 .f32) (sc sh : FVec Ideal S2x1x4096 .f32) (b : Fin 2) (n : Fin 8192) (d : Fin 4096) :
    (goal x sc sh (ix3 b n d) : EReal) = modulated (x (ix3 b n d)) (sc (ix3 b 0 d)) (sh (ix3 b 0 d)) := by
  pointwise [goal, modulated]

end

open Cert.Kernel7Ideal Cert.Kernel7Ideal.Gen Idealize.ShloMosaic.TcCoe
open Idealize.ShloMosaic.Pipeline (Dat)

variable (m : (ℓ : Loc nD τ sig) → Buf (Elt Ideal) ℓ) (c : Dev nD)

theorem idx : ∀ t : Fin cfg0.N,
    win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![(grid0.coords t 0).val, (grid0.coords t 1).val, 0] :=
  (by decide +kernel : ∀ t : Fin grid0.N, _)

/-- A grid point's batch and block of rows. -/
abbrev bat (t : Fin cfg0.N) : Fin 2 := grid0.coords t 0
abbrev row (t : Fin cfg0.N) : Fin 32 := grid0.coords t 1

abbrev argX : FVec Ideal S2x8192x4096 .f32 := m ((c.tc : Thread nD τ).loc main_arg0)
abbrev argSc : FVec Ideal S2x1x4096 .f32 := m ((c.tc : Thread nD τ).loc main_arg1)
abbrev argSh : FVec Ideal S2x1x4096 .f32 := m ((c.tc : Thread nD τ).loc main_arg2)

theorem read_x (A : Vec Ideal S2x8192x4096 .f32) (t : Fin cfg0.N) (r : Fin 256) (d : Fin 4096) :
    ((show Vec Ideal S1x256x4096 .f32 from ((cfg0.win 0).blk t).view.read (Elt Ideal) A) (ix3 0 r d) : EReal)
      = A (ix3 (bat t) ⟨256 * (row t : ℕ) + r, by omega⟩ d) := by
  have h : ((cfg0.win 0).blk t).view.emb (ix3 0 r d) = ix3 (bat t) ⟨256 * (row t : ℕ) + r, by omega⟩ d := by
    blk_ext [idx t, bat, row]
  exact congrArg A h

theorem read_sc (A : Vec Ideal S2x1x4096 .f32) (t : Fin cfg0.N) (d : Fin 4096) :
    ((show Vec Ideal S1x1x4096 .f32 from ((cfg0.win 1).blk t).view.read (Elt Ideal) A) (ix3 0 0 d) : EReal) = A (ix3 (bat t) 0 d) := by
  have h : ((cfg0.win 1).blk t).view.emb (ix3 0 0 d) = ix3 (bat t) 0 d := by
    blk_ext [idx t, bat]
  exact congrArg A h

theorem read_sh (A : Vec Ideal S2x1x4096 .f32) (t : Fin cfg0.N) (d : Fin 4096) :
    ((show Vec Ideal S1x1x4096 .f32 from ((cfg0.win 2).blk t).view.read (Elt Ideal) A) (ix3 0 0 d) : EReal) = A (ix3 (bat t) 0 d) := by
  have h : ((cfg0.win 2).blk t).view.emb (ix3 0 0 d) = ix3 (bat t) 0 d := by
    blk_ext [idx t, bat]
  exact congrArg A h

/-- One block: its rows scaled and shifted. -/
theorem block (x : Vec Ideal S1x256x4096 .f32) (sc sh : Vec Ideal S1x1x4096 .f32) (r : Fin 256) (d : Fin 4096) :
    (out0_3 (F := Ideal) x sc sh (ix3 0 r d) : EReal) = modulated (x (ix3 0 r d)) (sc (ix3 0 0 d)) (sh (ix3 0 0 d)) := by
  unfold out0_3 k0_pay1 modulated
  canon_tiles
  obtain rfl : x 1 = r := Fin.ext h1.symm
  obtain rfl : x 2 = d := Fin.ext h2.symm
  pointwise

/-- The output's blocks tile its array. -/
theorem covers : (cfg0.win 3).Covers :=
  (cfg0.win 3).covers_of_index_surj rfl (by decide) fun β => by
    obtain ⟨t, ht⟩ := grid0.coords_surjective fun a : Fin 2 => ⟨![(β 0 : ℕ), β 1] a, by
      fin_cases a
      · exact (β 0).isLt
      · exact (β 1).isLt⟩
    refine ⟨t, fun a => (congrFun (idx t).2.2.2 a).trans ?_⟩
    rw [ht]
    fin_cases a
    · rfl
    · rfl
    · exact (Nat.lt_one_iff.mp (β 2).isLt).symm

theorem blk_out (t : Fin cfg0.N) (r : Fin 256) (d : Fin 4096) :
    ((cfg0.win 3).blk t).view.emb (ix3 0 r d) = ix3 (bat t) ⟨256 * (row t : ℕ) + r, by omega⟩ d := by
  blk_ext [idx t, bat, row]

theorem at_block (t : Fin cfg0.N) (r : Fin 256) (d : Fin 4096) :
    (out0_3 (F := Ideal) (iblk m c 0 t) (iblk m c 1 t) (iblk m c 2 t) (ix3 0 r d) : EReal)
      = goal (argX m c) (argSc m c) (argSh m c) (((cfg0.win 3).blk t).view.emb (ix3 0 r d)) := by
  rw [block, blk_out, goal_read]
  exact congr (congrArg₂ modulated (read_x (argX m c) t r d) (read_sc (argSc m c) t d)) (read_sh (argSh m c) t d)

/-- After the run the result array is the reference's. -/
theorem final : (dats m 0 c).arrAt 3 cfg0.N = goal (argX m c) (argSc m c) (argSh m c) := by
  refine (dats m 0 c).arrAt_eq_of_covers 3 (goal (argX m c) (argSc m c) (argSh m c)) covers fun t _ y => ?_
  blk_simp
  rw [after0_3]
  have hy : (y : S1x256x4096.Idx) = ix3 0 (y 1) (y 2) := by
    funext b; fin_cases b
    · exact Subsingleton.elim (α := Fin 1) _ _
    · rfl
    · rfl
  rw [hy]
  exact at_block m c t (y 1) (y 2)

end Sequence

end Cert.Proof.Mod

end
-- ==== Proof.Mod.Context.lean ====
/- The modulated context: every entry scaled by one plus its column's scale, the same in both batches, then shifted. -/
module

public import proofs.«01_k».proof.Proof.Gen.Kernel8Ideal.Value
public import proofs.«01_k».proof.Proof.Gen.Reference8Ideal.Run
public import proofs.«01_k».proof.Proof.Mod.Sequence
public import Idealize.ShloMosaic.Lib.Pipeline.Covers
public import Idealize.ShloMosaic.Lib.Pipeline.ValueKit

@[expose] public section

set_option maxRecDepth 16384

noncomputable section

namespace Cert.Proof.Mod

open Idealize.ShloMosaic

namespace Context

section
open Cert.Reference8Ideal Cert.Reference8Ideal.Gen

/-- The reference's result, from its arguments. -/
def goal (x : FVec Ideal S2x256x4096 .f32) (sc sh : FVec Ideal S4096 .f32) : FVec Ideal S2x256x4096 .bf16 :=
  truncf .bf16 (addf (mulf x (broadcastInDim S2x256x4096 ![0, 1, 2] facts.bcast_S1x1x4096_S2x256x4096_0_1_2
    (broadcastInDim S1x1x4096 ![2] facts.bcast_S4096_S1x1x4096_2 (addf (broadcastInDim S4096 ![] facts.bcast_S_S4096 (constant S_ .f32 0x3F800000#32)) sc))))
    (broadcastInDim S2x256x4096 ![0, 1, 2] facts.bcast_S1x1x4096_S2x256x4096_0_1_2 (broadcastInDim S1x1x4096 ![2] facts.bcast_S4096_S1x1x4096_2 sh))) (by decide)

theorem goal_read (x : FVec Ideal S2x256x4096 .f32) (sc sh : FVec Ideal S4096 .f32) (b : Fin 2) (n : Fin 256) (d : Fin 4096) :
    (goal x sc sh (ix3 b n d) : EReal) = modulated (x (ix3 b n d)) (sc (ix1 d)) (sh (ix1 d)) := by
  pointwise [goal, modulated]

end

open Cert.Kernel8Ideal Cert.Kernel8Ideal.Gen Idealize.ShloMosaic.TcCoe
open Idealize.ShloMosaic.Pipeline (Dat)

variable (m : (ℓ : Loc nD τ sig) → Buf (Elt Ideal) ℓ) (c : Dev nD)

theorem idx : ∀ t : Fin cfg0.N,
    win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![(grid0.coords t 0).val, (grid0.coords t 1).val, 0] :=
  (by decide +kernel : ∀ t : Fin grid0.N, _)

/-- A grid point's batch and block of rows. -/
abbrev bat (t : Fin cfg0.N) : Fin 2 := grid0.coords t 0
abbrev row (t : Fin cfg0.N) : Fin 1 := grid0.coords t 1

abbrev argX : FVec Ideal S2x256x4096 .f32 := m ((c.tc : Thread nD τ).loc main_arg0)
abbrev argSc : FVec Ideal S4096 .f32 := m ((c.tc : Thread nD τ).loc main_arg1)
abbrev argSh : FVec Ideal S4096 .f32 := m ((c.tc : Thread nD τ).loc main_arg2)

theorem host_sc (b : Fin 2) (d : Fin 4096) : ((show Vec Ideal S2x1x4096 .f32 from V m c main_v1) (ix3 b 0 d) : EReal) = argSc m c (ix1 d) := by
  entry_read
  pointwise

theorem host_sh (b : Fin 2) (d : Fin 4096) : ((show Vec Ideal S2x1x4096 .f32 from V m c main_v3) (ix3 b 0 d) : EReal) = argSh m c (ix1 d) := by
  entry_read
  pointwise

theorem host_x : V m c main_arg0 = argX m c := by
  entry_read
  rfl

theorem read_x (A : Vec Ideal S2x256x4096 .f32) (t : Fin cfg0.N) (r : Fin 256) (d : Fin 4096) :
    ((show Vec Ideal S1x256x4096 .f32 from ((cfg0.win 0).blk t).view.read (Elt Ideal) A) (ix3 0 r d) : EReal)
      = A (ix3 (bat t) ⟨256 * (row t : ℕ) + r, by omega⟩ d) := by
  have h : ((cfg0.win 0).blk t).view.emb (ix3 0 r d) = ix3 (bat t) ⟨256 * (row t : ℕ) + r, by omega⟩ d := by
    blk_ext [idx t, bat, row]
  exact congrArg A h

theorem read_sc (A : Vec Ideal S2x1x4096 .f32) (t : Fin cfg0.N) (d : Fin 4096) :
    ((show Vec Ideal S1x1x4096 .f32 from ((cfg0.win 1).blk t).view.read (Elt Ideal) A) (ix3 0 0 d) : EReal) = A (ix3 (bat t) 0 d) := by
  have h : ((cfg0.win 1).blk t).view.emb (ix3 0 0 d) = ix3 (bat t) 0 d := by
    blk_ext [idx t, bat]
  exact congrArg A h

theorem read_sh (A : Vec Ideal S2x1x4096 .f32) (t : Fin cfg0.N) (d : Fin 4096) :
    ((show Vec Ideal S1x1x4096 .f32 from ((cfg0.win 2).blk t).view.read (Elt Ideal) A) (ix3 0 0 d) : EReal) = A (ix3 (bat t) 0 d) := by
  have h : ((cfg0.win 2).blk t).view.emb (ix3 0 0 d) = ix3 (bat t) 0 d := by
    blk_ext [idx t, bat]
  exact congrArg A h

/-- One block: its rows scaled and shifted. -/
theorem block (x : Vec Ideal S1x256x4096 .f32) (sc sh : Vec Ideal S1x1x4096 .f32) (r : Fin 256) (d : Fin 4096) :
    (out0_3 (F := Ideal) x sc sh (ix3 0 r d) : EReal) = modulated (x (ix3 0 r d)) (sc (ix3 0 0 d)) (sh (ix3 0 0 d)) := by
  unfold out0_3 k0_pay1 modulated
  canon_tiles
  obtain rfl : x 1 = r := Fin.ext h1.symm
  obtain rfl : x 2 = d := Fin.ext h2.symm
  pointwise

/-- The output's blocks tile its array. -/
theorem covers : (cfg0.win 3).Covers :=
  (cfg0.win 3).covers_of_index_surj rfl (by decide) fun β => by
    obtain ⟨t, ht⟩ := grid0.coords_surjective fun a : Fin 2 => ⟨![(β 0 : ℕ), β 1] a, by
      fin_cases a
      · exact (β 0).isLt
      · exact (β 1).isLt⟩
    refine ⟨t, fun a => (congrFun (idx t).2.2.2 a).trans ?_⟩
    rw [ht]
    fin_cases a
    · rfl
    · rfl
    · exact (Nat.lt_one_iff.mp (β 2).isLt).symm

theorem blk_out (t : Fin cfg0.N) (r : Fin 256) (d : Fin 4096) :
    ((cfg0.win 3).blk t).view.emb (ix3 0 r d) = ix3 (bat t) ⟨256 * (row t : ℕ) + r, by omega⟩ d := by
  blk_ext [idx t, bat, row]

theorem at_block (t : Fin cfg0.N) (r : Fin 256) (d : Fin 4096) :
    (out0_3 (F := Ideal) (iblk m c 0 t) (iblk m c 1 t) (iblk m c 2 t) (ix3 0 r d) : EReal)
      = goal (argX m c) (argSc m c) (argSh m c) (((cfg0.win 3).blk t).view.emb (ix3 0 r d)) := by
  rw [block, blk_out, goal_read]
  exact congr (congrArg₂ modulated ((read_x (V m c main_arg0) t r d).trans (congrFun (host_x m c) _)) ((read_sc (V m c main_v1) t d).trans (host_sc m c _ d)))
    ((read_sh (V m c main_v3) t d).trans (host_sh m c _ d))

/-- After the run the result array is the reference's. -/
theorem final : (dats m 0 c).arrAt 3 cfg0.N = goal (argX m c) (argSc m c) (argSh m c) := by
  refine (dats m 0 c).arrAt_eq_of_covers 3 (goal (argX m c) (argSc m c) (argSh m c)) covers fun t _ y => ?_
  blk_simp
  rw [after0_3]
  have hy : (y : S1x256x4096.Idx) = ix3 0 (y 1) (y 2) := by
    funext b; fin_cases b
    · exact Subsingleton.elim (α := Fin 1) _ _
    · rfl
    · rfl
  rw [hy]
  exact at_block m c t (y 1) (y 2)

end Context

end Cert.Proof.Mod

end
-- ==== Proof.Qk.Head.lean ====
/- One head of a query or of a key: normed, turned by the angles of its position, scaled. The kernel keeps a head's lanes
   with the two middle quarters exchanged, so that the lanes it pairs lie half a head apart. -/
module

public import Idealize.ShloMosaic.Lib.Pipeline.ValueKit

@[expose] public section

noncomputable section

namespace Cert.Proof.Qk

open Idealize.ShloMosaic

/-- A head's entry over the root of the mean of its squares, times the gain. -/
def normed (y g : Fin 128 → EReal) (d : Fin 128) : EReal :=
  y d * Ideal.rsqrt (Ideal.div (∑ x, y x * y x) (Ideal.ofBits .f32 0x43000000#32) + Ideal.ofBits .f32 0x358637BD#32) * g d

/-- The lane half a head away. -/
abbrev across (l : Fin 128) : Fin 128 := ⟨((l : ℕ) + 128 - 64) % 128, by omega⟩

/-- A normed head turned by its tables and scaled, in the order the kernel keeps a head's lanes. -/
def turned (y g s cos sin : Fin 128 → EReal) (l : Fin 128) : EReal :=
  (normed y g l * cos l + normed y g (across l) * sin l) * s l

/-- The exchange of a head's two middle quarters. -/
abbrev pair (l : Fin 128) : Fin 128 := ⟨64 * ((l : ℕ) / 32 % 2) + 32 * ((l : ℕ) / 64) + (l : ℕ) % 32, by omega⟩

theorem pair_pair : ∀ l : Fin 128, pair (pair l) = l := by decide

theorem sum_pair (f : Fin 128 → EReal) : ∑ d, f (pair d) = ∑ d, f d :=
  Equiv.sum_comp (Function.Involutive.toPerm pair pair_pair) f

/-- The norm does not depend on the order of the lanes. -/
theorem normed_pair (y g : Fin 128 → EReal) (l : Fin 128) :
    normed (fun d => y (pair d)) (fun d => g (pair d)) l = normed y g (pair l) := by
  unfold normed
  rw [sum_pair fun d => y d * y d]

/-- The kernel's table of cosines, from the angles of the row and of the column. -/
def cosTab (a a' : Fin 32 → EReal) (l : Fin 128) : EReal :=
  if h : (l : ℕ) < 32 then Ideal.cos (a ⟨l, by omega⟩)
  else if h : (l : ℕ) - 32 < 32 then Ideal.cos (a' ⟨(l : ℕ) - 32, by omega⟩)
  else if h : (l : ℕ) - 32 - 32 < 32 then Ideal.cos (a ⟨(l : ℕ) - 32 - 32, by omega⟩)
  else Ideal.cos (a' ⟨(l : ℕ) - 32 - 32 - 32, by omega⟩)

/-- The kernel's table of sines: the first half of a head takes them negated. -/
def sinTab (a a' : Fin 32 → EReal) (l : Fin 128) : EReal :=
  if h : (l : ℕ) < 32 then -Ideal.sin (a ⟨l, by omega⟩)
  else if h : (l : ℕ) - 32 < 32 then -Ideal.sin (a' ⟨(l : ℕ) - 32, by omega⟩)
  else if h : (l : ℕ) - 32 - 32 < 32 then Ideal.sin (a ⟨(l : ℕ) - 32 - 32, by omega⟩)
  else Ideal.sin (a' ⟨(l : ℕ) - 32 - 32 - 32, by omega⟩)

/-- A turned head in the kernel's order: the pairs of lanes of the first half by the row's angles, those of the second by
    the column's; the first of all pairs, then the second. -/
def rotated (u : Fin 128 → EReal) (a a' : Fin 32 → EReal) (l : Fin 128) : EReal :=
  if h : (l : ℕ) < 32 then u l * Ideal.cos (a ⟨l, by omega⟩) - u ⟨32 + (l : ℕ), by omega⟩ * Ideal.sin (a ⟨l, by omega⟩)
  else if h : (l : ℕ) - 32 < 32 then
    u ⟨64 + ((l : ℕ) - 32), by omega⟩ * Ideal.cos (a' ⟨(l : ℕ) - 32, by omega⟩) - u ⟨96 + ((l : ℕ) - 32), by omega⟩ * Ideal.sin (a' ⟨(l : ℕ) - 32, by omega⟩)
  else if h : (l : ℕ) - 32 - 32 < 32 then
    u ⟨32 + ((l : ℕ) - 32 - 32), by omega⟩ * Ideal.cos (a ⟨(l : ℕ) - 32 - 32, by omega⟩) + u ⟨(l : ℕ) - 32 - 32, by omega⟩ * Ideal.sin (a ⟨(l : ℕ) - 32 - 32, by omega⟩)
  else
    u ⟨96 + ((l : ℕ) - 32 - 32 - 32), by omega⟩ * Ideal.cos (a' ⟨(l : ℕ) - 32 - 32 - 32, by omega⟩)
      + u ⟨64 + ((l : ℕ) - 32 - 32 - 32), by omega⟩ * Ideal.sin (a' ⟨(l : ℕ) - 32 - 32 - 32, by omega⟩)

/-- A turned head in its own order: the first half by the row's angles, the second by the column's. -/
def axial (u : Fin 128 → EReal) (a a' : Fin 32 → EReal) (l : Fin 128) : EReal :=
  if h : (l : ℕ) < 32 then u ⟨l, by omega⟩ * Ideal.cos (a ⟨l, by omega⟩) - u ⟨32 + (l : ℕ), by omega⟩ * Ideal.sin (a ⟨l, by omega⟩)
  else if h : (l : ℕ) - 32 < 32 then
    u ⟨32 + ((l : ℕ) - 32), by omega⟩ * Ideal.cos (a ⟨(l : ℕ) - 32, by omega⟩) + u ⟨(l : ℕ) - 32, by omega⟩ * Ideal.sin (a ⟨(l : ℕ) - 32, by omega⟩)
  else if h : (l : ℕ) - 32 - 32 < 32 then
    u ⟨64 + ((l : ℕ) - 32 - 32), by omega⟩ * Ideal.cos (a' ⟨(l : ℕ) - 32 - 32, by omega⟩) - u ⟨96 + ((l : ℕ) - 32 - 32), by omega⟩ * Ideal.sin (a' ⟨(l : ℕ) - 32 - 32, by omega⟩)
  else
    u ⟨96 + ((l : ℕ) - 32 - 32 - 32), by omega⟩ * Ideal.cos (a' ⟨(l : ℕ) - 32 - 32 - 32, by omega⟩)
      + u ⟨64 + ((l : ℕ) - 32 - 32 - 32), by omega⟩ * Ideal.sin (a' ⟨(l : ℕ) - 32 - 32 - 32, by omega⟩)

/-- The two orders are each other's exchange of the middle quarters. -/
theorem axial_eq (u : Fin 128 → EReal) (a a' : Fin 32 → EReal) (l : Fin 128) : axial u a a' l = rotated u a a' (pair l) := by
  have hp : (pair l : ℕ) = 64 * ((l : ℕ) / 32 % 2) + 32 * ((l : ℕ) / 64) + (l : ℕ) % 32 := rfl
  generalize pair l = p at hp
  unfold axial rotated
  by_cases h : (l : ℕ) < 32
  · rw [dif_pos h, dif_pos (by omega)]
    congr <;> omega
  by_cases h2 : (l : ℕ) - 32 < 32
  · rw [dif_neg h, dif_pos h2, dif_neg (by omega), dif_neg (by omega), dif_pos (by omega)]
    congr 3 <;> congr 2 <;> omega
  by_cases h3 : (l : ℕ) - 32 - 32 < 32
  · rw [dif_neg h, dif_neg h2, dif_pos h3, dif_neg (by omega), dif_pos (by omega)]
    congr <;> omega
  · rw [dif_neg h, dif_neg h2, dif_neg h3, dif_neg (by omega), dif_neg (by omega), dif_neg (by omega)]
    congr <;> omega

/-- Either way of turning a head is the other's. -/
theorem rotated_eq (u : Fin 128 → EReal) (a a' : Fin 32 → EReal) (l : Fin 128) :
    rotated u a a' l = u (pair l) * cosTab a a' l + u (pair (across l)) * sinTab a a' l := by
  unfold rotated cosTab sinTab
  by_cases h : (l : ℕ) < 32
  · simp only [dif_pos h, mul_neg, sub_eq_add_neg]
    rw [show pair l = l from Fin.ext (by simp only [pair]; omega),
      show pair (across l) = ⟨32 + (l : ℕ), by omega⟩ from Fin.ext (by simp only [pair, across]; omega)]
  by_cases h2 : (l : ℕ) - 32 < 32
  · simp only [dif_neg h, dif_pos h2, mul_neg, sub_eq_add_neg]
    rw [show pair l = ⟨64 + ((l : ℕ) - 32), by omega⟩ from Fin.ext (by simp only [pair]; omega),
      show pair (across l) = ⟨96 + ((l : ℕ) - 32), by omega⟩ from Fin.ext (by simp only [pair, across]; omega)]
  by_cases h3 : (l : ℕ) - 32 - 32 < 32
  · simp only [dif_neg h, dif_neg h2, dif_pos h3]
    rw [show pair l = ⟨32 + ((l : ℕ) - 32 - 32), by omega⟩ from Fin.ext (by simp only [pair]; omega),
      show pair (across l) = ⟨(l : ℕ) - 32 - 32, by omega⟩ from Fin.ext (by simp only [pair, across]; omega)]
  · simp only [dif_neg h, dif_neg h2, dif_neg h3]
    rw [show pair l = ⟨96 + ((l : ℕ) - 32 - 32 - 32), by omega⟩ from Fin.ext (by simp only [pair]; omega),
      show pair (across l) = ⟨64 + ((l : ℕ) - 32 - 32 - 32), by omega⟩ from Fin.ext (by simp only [pair, across]; omega)]

/-- The kernel's head is the reference's, times the scale. -/
theorem turned_pair (y g s : Fin 128 → EReal) (a a' : Fin 32 → EReal) (l : Fin 128) :
    turned (fun d => y (pair d)) (fun d => g (pair d)) s (cosTab a a') (sinTab a a') l = rotated (normed y g) a a' l * s l := by
  rw [turned, normed_pair, normed_pair, rotated_eq]

end Cert.Proof.Qk

end
-- ==== Proof.Qk.Block.lean ====
/- What one grid point of the projection of queries and keys computes: the product of its own blocks, and, of the product
   the point before left, every head normed, turned and scaled. -/
module

public import proofs.«01_k».proof.Proof.Gen.Kernel4Ideal.Frame
public import proofs.«01_k».proof.Proof.Qk.Head
public import Idealize.ShloMosaic.Lib.Pipeline.Covers
public import Idealize.ShloMosaic.Lib.Pipeline.ValueKit
public import Idealize.ShloMosaic.Lib.WholeRead
public import Idealize.ShloMosaic.Lib.KernelVsHost

@[expose] public section

set_option maxRecDepth 16384

noncomputable section

namespace Cert.Proof.Qk

open Idealize.ShloMosaic

open Cert.Kernel4Ideal Cert.Kernel4Ideal.Gen Idealize.ShloMosaic.TcCoe

/-- One head's piece of the output. -/
theorem head_read (cos sin y : FVec Ideal S512x128 .f32) (g s : FVec Ideal S1x128 .f32) (r : Fin 512) (l : Fin 128) :
    (k0_pay8 (F := Ideal) cos sin y g s (ix2 r l) : EReal)
      = turned (fun d => y (ix2 r d)) (fun d => g (ix2 0 d)) (fun d => s (ix2 0 d)) (fun d => cos (ix2 r d)) (fun d => sin (ix2 r d)) l := by
  pointwise [k0_pay8, turned, normed, across]

theorem cast_read (x : FVec Ideal S512x128 .f32) (r : Fin 512) (d : Fin 128) : (k0_pay5 (F := Ideal) x (ix2 r d) : EReal) = x (ix2 r d) := by
  pointwise [k0_pay5]

/-! ## The eight heads of either kind of point are all one function -/

section
variable (cos sin y : Vec Ideal S512x128 .f32) (g s : Vec Ideal S1x128 .f32)

theorem even_sin : k0_pay6 (F := Ideal) sin = k0_pay5 sin := rfl
theorem even_0 : k0_pay7 (F := Ideal) cos sin y g s = k0_pay8 (k0_pay5 cos) (k0_pay5 sin) y g s := rfl
theorem even_2 : k0_pay11 (F := Ideal) cos sin (k0_pay9 y) (k0_pay10 g) s = k0_pay8 cos sin y g s := rfl
theorem even_3 : k0_pay12 (F := Ideal) cos sin y g s = k0_pay8 cos sin y g s := rfl
theorem even_4 : k0_pay14 (F := Ideal) cos sin y (k0_pay13 y) g s = k0_pay8 cos sin y g s := rfl
theorem even_5 : k0_pay18 (F := Ideal) (k0_pay16 cos y g) (k0_pay17 sin y g) s = k0_pay8 cos sin y g s := rfl
theorem even_6 : k0_pay19 (F := Ideal) cos sin y g s = k0_pay8 cos sin y g s := rfl
theorem even_7 : k0_pay2 (F := Ideal) cos sin y (k0_pay20 y) g s = k0_pay8 cos sin y g s := rfl
theorem odd_cos : k0_pay22 (F := Ideal) cos = k0_pay5 cos := rfl
theorem odd_sin : k0_pay23 (F := Ideal) sin = k0_pay5 sin := rfl
theorem odd_0 : k0_pay24 (F := Ideal) cos sin y g s = k0_pay8 (k0_pay5 cos) (k0_pay5 sin) y g s := rfl
theorem odd_1 : k0_pay25 (F := Ideal) cos sin y g s = k0_pay8 cos sin y g s := rfl
theorem odd_2 : k0_pay28 (F := Ideal) cos sin (k0_pay26 y) (k0_pay27 g) s = k0_pay8 cos sin y g s := rfl
theorem odd_3 : k0_pay29 (F := Ideal) cos sin y g s = k0_pay8 cos sin y g s := rfl
theorem odd_4 : k0_pay31 (F := Ideal) cos sin y (k0_pay30 y) g s = k0_pay8 cos sin y g s := rfl
theorem odd_5 : k0_pay35 (F := Ideal) (k0_pay33 cos y g) (k0_pay34 sin y g) s = k0_pay8 cos sin y g s := rfl
theorem odd_6 : k0_pay36 (F := Ideal) cos sin y g s = k0_pay8 cos sin y g s := rfl
theorem odd_7 : k0_pay3 (F := Ideal) cos sin y (k0_pay37 y) g s = k0_pay8 cos sin y g s := rfl

end

/-- The lane `d` of the head that holds column `e`. -/
abbrev lane (e : Fin 1024) (d : Fin 128) : Fin 1024 := ⟨128 * ((e : ℕ) / 128) + d, by omega⟩

/-- The output block over the product the point before left. -/
def outAt (y : Vec Ideal S512x1024 .f32) (g s : Vec Ideal S1x1024 .f32) (cos sin : Vec Ideal S512x128 .f32) (r : Fin 512) (e : Fin 1024) : EReal :=
  turned (fun d => y (ix2 r (lane e d))) (fun d => g (ix2 0 (lane e d))) (fun d => s (ix2 0 (lane e d)))
    (fun d => cos (ix2 r d)) (fun d => sin (ix2 r d)) ⟨(e : ℕ) % 128, by omega⟩

variable (c : Dev nD) (i : grid0.Coords)
variable (arg1 : Memref sig .tc .vmem S512x4096 .bf16) (harg1 : arg1.IsWhole)
variable (arg2 : Memref sig .tc .vmem S4096x1024 .bf16) (harg2 : arg2.IsWhole)
variable (arg3 : Memref sig .tc .vmem S1x1024 .f32) (harg3 : arg3.IsWhole)
variable (arg4 : Memref sig .tc .vmem S1x1024 .f32) (harg4 : arg4.IsWhole)
variable (arg5 : Memref sig .tc .vmem S512x128 .f32) (harg5 : arg5.IsWhole)
variable (arg6 : Memref sig .tc .vmem S512x128 .f32) (harg6 : arg6.IsWhole)
variable (arg7 : Memref sig .tc .vmem S512x1024 .bf16) (harg7 : arg7.IsWhole)
variable (arg8 : Memref sig .tc .vmem S512x1024 .f32) (harg8 : arg8.IsWhole)
variable (arg9 : Memref sig .tc .vmem S512x1024 .f32) (harg9 : arg9.IsWhole)

/-- One head's piece, over the blocks its operands are cut from. -/
theorem head_at (old : Memref sig .tc .vmem S512x1024 .f32) (hold : old.IsWhole) (k : ℕ)
    (iy : ∀ a, (![0, 128 * k] : Fin 2 → ℕ) a + S512x128.size a ≤ S512x1024.size a)
    (ig : ∀ a, (![0, 128 * k] : Fin 2 → ℕ) a + S1x128.size a ≤ S1x1024.size a)
    (y : Vec Ideal S512x1024 .f32) (g s : Vec Ideal S1x1024 .f32) (cos sin : Vec Ideal S512x128 .f32)
    (x : S512x128.Idx) (r : Fin 512) (e : Fin 1024) (h0 : (r : ℕ) = x 0) (h1 : (e : ℕ) = 128 * k + (x 1 : ℕ)) :
    (k0_pay8 (F := Ideal) (k0_pay5 (View.readAt (Elt Ideal) arg5.view (Rect.unit (s := S512x128) ![0, 0] S512x128.size inb_S512x128_S512x128_0_0).toLoadRect (harg5.unread cos)))
      (k0_pay5 (View.readAt (Elt Ideal) arg6.view (Rect.unit (s := S512x128) ![0, 0] S512x128.size inb_S512x128_S512x128_0_0).toLoadRect (harg6.unread sin)))
      (View.readAt (Elt Ideal) old.view (Rect.unit (s := S512x1024) ![0, 128 * k] S512x128.size iy).toLoadRect (hold.unread y))
      (View.readAt (Elt Ideal) arg3.view (Rect.unit (s := S1x1024) ![0, 128 * k] S1x128.size ig).toLoadRect (harg3.unread g))
      (View.readAt (Elt Ideal) arg4.view (Rect.unit (s := S1x1024) ![0, 128 * k] S1x128.size ig).toLoadRect (harg4.unread s)) x : EReal)
      = outAt y g s cos sin r e := by
  obtain rfl : x 0 = r := Fin.ext h0.symm
  have hl : (x 1 : ℕ) < 128 := (x 1).isLt
  have hx : x = ix2 (x 0) (x 1) := by funext b; fin_cases b <;> rfl
  rw [hx]
  refine (head_read _ _ _ _ _ (x 0) (x 1)).trans ?_
  have hd : (e : ℕ) / 128 = k := by omega
  have hm : (⟨(e : ℕ) % 128, by omega⟩ : Fin 128) = x 1 := Fin.ext (show (e : ℕ) % 128 = (x 1 : ℕ) by omega)
  unfold outAt
  rw [hm]
  have hy : ∀ d : Fin 128, View.readAt (Elt Ideal) old.view (Rect.unit (s := S512x1024) ![0, 128 * k] S512x128.size iy).toLoadRect (hold.unread y) (ix2 (x 0) d)
      = y (ix2 (x 0) (lane e d)) := fun d => by
    rw [hold.readAt_unread]
    refine congrArg y (funext fun b => ?_)
    fin_cases b <;> ext <;> simp [hd]
  have hg : ∀ d : Fin 128, View.readAt (Elt Ideal) arg3.view (Rect.unit (s := S1x1024) ![0, 128 * k] S1x128.size ig).toLoadRect (harg3.unread g) (ix2 0 d)
      = g (ix2 0 (lane e d)) := fun d => by
    rw [harg3.readAt_unread]
    refine congrArg g (funext fun b => ?_)
    fin_cases b <;> ext <;> simp [hd]
  have hs : ∀ d : Fin 128, View.readAt (Elt Ideal) arg4.view (Rect.unit (s := S1x1024) ![0, 128 * k] S1x128.size ig).toLoadRect (harg4.unread s) (ix2 0 d)
      = s (ix2 0 (lane e d)) := fun d => by
    rw [harg4.readAt_unread]
    refine congrArg s (funext fun b => ?_)
    fin_cases b <;> ext <;> simp [hd]
  have hc : ∀ d : Fin 128, k0_pay5 (View.readAt (Elt Ideal) arg5.view (Rect.unit (s := S512x128) ![0, 0] S512x128.size inb_S512x128_S512x128_0_0).toLoadRect (harg5.unread cos)) (ix2 (x 0) d) = cos (ix2 (x 0) d) := fun d => by
    refine (cast_read _ (x 0) d).trans ((harg5.readAt_unread _ _ _).trans ?_)
    refine congrArg cos (funext fun b => ?_)
    fin_cases b <;> ext <;> simp
  have hn : ∀ d : Fin 128, k0_pay5 (View.readAt (Elt Ideal) arg6.view (Rect.unit (s := S512x128) ![0, 0] S512x128.size inb_S512x128_S512x128_0_0).toLoadRect (harg6.unread sin)) (ix2 (x 0) d) = sin (ix2 (x 0) d) := fun d => by
    refine (cast_read _ (x 0) d).trans ((harg6.readAt_unread _ _ _).trans ?_)
    refine congrArg sin (funext fun b => ?_)
    fin_cases b <;> ext <;> simp
  simp only [hy, hg, hs, hc, hn]
  rfl

/-! ## The output, after an even point and after an odd one -/

theorem out_C (hc0 hc1 hc2) (x0 x1 x2 x3 x4 x5 xs) (r : Fin 512) (e : Fin 1024) :
    (out0_C_6 (F := Ideal) c i arg1 harg1 arg2 harg2 arg3 harg3 arg4 harg4 arg5 harg5 arg6 harg6 arg7 harg7 arg8 harg8 arg9 harg9 hc0 hc1 hc2 x0 x1 x2 x3 x4 x5 xs (ix2 r e) : EReal)
      = outAt xs x2 x3 x4 x5 r e := by
  have at_ := fun k => head_at arg3 harg3 arg4 harg4 arg5 harg5 arg6 harg6 arg9 harg9 k
  rw [out0_C_6, View.read_writes_junk_eq_canon]
  unfold kernelRun0_C
  canon_tiles <;> simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, even_sin, even_0, even_2, even_3, even_4, even_5, even_6, even_7]
  · exact at_ 7 _ _ xs x2 x3 x4 x5 x r e h0 h1
  · exact at_ 6 _ _ xs x2 x3 x4 x5 x r e h0 h1
  · exact at_ 5 _ _ xs x2 x3 x4 x5 x r e h0 h1
  · exact at_ 4 _ _ xs x2 x3 x4 x5 x r e h0 h1
  · exact at_ 3 _ _ xs x2 x3 x4 x5 x r e h0 h1
  · exact at_ 2 _ _ xs x2 x3 x4 x5 x r e h0 h1
  · exact at_ 1 _ _ xs x2 x3 x4 x5 x r e h0 h1
  · exact at_ 0 _ _ xs x2 x3 x4 x5 x r e h0 (h1.trans (Nat.zero_add _).symm)

theorem out_B (hc0 hc1 hc2) (x0 x1 x2 x3 x4 x5 xs) (r : Fin 512) (e : Fin 1024) :
    (out0_B_6 (F := Ideal) c i arg1 harg1 arg2 harg2 arg3 harg3 arg4 harg4 arg5 harg5 arg6 harg6 arg7 harg7 arg8 harg8 arg9 harg9 hc0 hc1 hc2 x0 x1 x2 x3 x4 x5 xs (ix2 r e) : EReal)
      = outAt xs x2 x3 x4 x5 r e := by
  have at_ := fun k => head_at arg3 harg3 arg4 harg4 arg5 harg5 arg6 harg6 arg8 harg8 k
  rw [out0_B_6, View.read_writes_junk_eq_canon]
  unfold kernelRun0_B
  canon_tiles <;> simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, odd_cos, odd_sin, odd_0, odd_1, odd_2, odd_3, odd_4, odd_5, odd_6, odd_7]
  · exact at_ 7 _ _ xs x2 x3 x4 x5 x r e h0 h1
  · exact at_ 6 _ _ xs x2 x3 x4 x5 x r e h0 h1
  · exact at_ 5 _ _ xs x2 x3 x4 x5 x r e h0 h1
  · exact at_ 4 _ _ xs x2 x3 x4 x5 x r e h0 h1
  · exact at_ 3 _ _ xs x2 x3 x4 x5 x r e h0 h1
  · exact at_ 2 _ _ xs x2 x3 x4 x5 x r e h0 h1
  · exact at_ 1 _ _ xs x2 x3 x4 x5 x r e h0 h1
  · exact at_ 0 _ _ xs x2 x3 x4 x5 x r e h0 (h1.trans (Nat.zero_add _).symm)

/-- The product a point leaves in the scratch it writes. -/
def prod (x : Vec Ideal S512x4096 .bf16) (w : Vec Ideal S4096x1024 .bf16) (r : Fin 512) (e : Fin 1024) : EReal :=
  ∑ k : Fin 4096, (x (ix2 r k) : EReal) * w (ix2 k e)

theorem prod_at (x0 : Vec Ideal S512x4096 .bf16) (x1 : Vec Ideal S4096x1024 .bf16) (x : S512x1024.Idx)
    (r : Fin 512) (e : Fin 1024) (h0 : (r : ℕ) = x 0) (h1 : (e : ℕ) = x 1) :
    (k0_pay4 (F := Ideal) (View.readAt (Elt Ideal) arg1.view (Rect.unit ![0, 0] S512x4096.size inb_S512x4096_S512x4096_0_0).toLoadRect (harg1.unread x0))
      (View.readAt (Elt Ideal) arg2.view (Rect.unit ![0, 0] S4096x1024.size inb_S4096x1024_S4096x1024_0_0).toLoadRect (harg2.unread x1)) x : EReal)
      = prod x0 x1 r e := by
  obtain rfl : x 0 = r := Fin.ext h0.symm
  obtain rfl : x 1 = e := Fin.ext h1.symm
  have hx : x = ix2 (x 0) (x 1) := by funext b; fin_cases b <;> rfl
  rw [hx]
  have h : ∀ (u : Vec Ideal S512x4096 .bf16) (w : Vec Ideal S4096x1024 .bf16) (r : Fin 512) (e : Fin 1024), (k0_pay4 (F := Ideal) u w (ix2 r e) : EReal) = prod u w r e := by
    intro u w r e
    pointwise [k0_pay4, prod]
  refine (h _ _ (x 0) (x 1)).trans (Finset.sum_congr rfl fun k _ => ?_)
  rw [harg1.readAt_unread, harg2.readAt_unread]
  refine congrArg₂ (fun a b : EReal => a * b) (congrArg x0 (funext fun b => ?_)) (congrArg x1 (funext fun b => ?_))
  · fin_cases b <;> ext <;> simp
  · fin_cases b <;> ext <;> simp

theorem scratch_A (hc0 hc1 hc2) (x0 x1 x2 x3 x4 x5) (r : Fin 512) (e : Fin 1024) :
    (sout0_A_0 (F := Ideal) c i arg1 harg1 arg2 harg2 arg3 harg3 arg4 harg4 arg5 harg5 arg6 harg6 arg7 harg7 arg8 harg8 arg9 harg9 hc0 hc1 hc2 x0 x1 x2 x3 x4 x5 (ix2 r e) : EReal)
      = prod x0 x1 r e := by
  rw [sout0_A_0, View.read_writes_junk_eq_canon]
  unfold kernelRun0_A
  canon_tiles
  exact prod_at arg1 harg1 arg2 harg2 x0 x1 x r e h0 h1

theorem scratch_C (hc0 hc1 hc2) (x0 x1 x2 x3 x4 x5 xs) (r : Fin 512) (e : Fin 1024) :
    (sout0_C_0 (F := Ideal) c i arg1 harg1 arg2 harg2 arg3 harg3 arg4 harg4 arg5 harg5 arg6 harg6 arg7 harg7 arg8 harg8 arg9 harg9 hc0 hc1 hc2 x0 x1 x2 x3 x4 x5 xs (ix2 r e) : EReal)
      = prod x0 x1 r e := by
  rw [sout0_C_0, View.read_writes_junk_eq_canon]
  unfold kernelRun0_C
  canon_tiles
  exact prod_at arg1 harg1 arg2 harg2 x0 x1 x r e h0 h1

theorem scratch_B (hc0 hc1 hc2) (x0 x1 x2 x3 x4 x5 xs) (r : Fin 512) (e : Fin 1024) :
    (sout0_B_1 (F := Ideal) c i arg1 harg1 arg2 harg2 arg3 harg3 arg4 harg4 arg5 harg5 arg6 harg6 arg7 harg7 arg8 harg8 arg9 harg9 hc0 hc1 hc2 x0 x1 x2 x3 x4 x5 xs (ix2 r e) : EReal)
      = prod x0 x1 r e := by
  rw [sout0_B_1, View.read_writes_junk_eq_canon]
  unfold kernelRun0_B
  canon_tiles
  exact prod_at arg1 harg1 arg2 harg2 x0 x1 x r e h0 h1

end Cert.Proof.Qk

end
-- ==== Proof.Qk.Ref.lean ====
/- The reference's projection of queries and keys at an index, from its arguments. -/
module

public import proofs.«01_k».proof.Proof.Gen.Reference4Ideal.Run
public import proofs.«01_k».proof.Proof.Qk.Head
public import Idealize.ShloMosaic.Lib.Pipeline.ValueKit

@[expose] public section

set_option maxRecDepth 16384

noncomputable section

namespace Cert.Proof.Qk.Ref

open Cert.Reference4Ideal Cert.Reference4Ideal.Gen Idealize.ShloMosaic Idealize.ShloMosaic.TcCoe

/-- The products of every row with the weights. -/
def proj (x : FVec Ideal S2x8192x4096 .f32) (w : FVec Ideal S4096x6144 .f32) : FVec Ideal S2x8192x6144 .f32 :=
  Host.dotGeneral dot_S2x8192x4096_S4096x6144_S2x8192x6144_2_0_01_1_n_n none x w

/-- The frequencies of the rotation. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The angles of every position's row. -/
def rowAngle : FVec Ideal S8192x32 .f32 :=
  mulf (broadcastInDim S8192x32 ![0, 1] bcast_S8192x1_S8192x32_0_1 (broadcastInDim S8192x1 ![0] bcast_S8192_S8192x1_0 (shapeCast _ (broadcastInDim S128x64 ![0] bcast_S128_S128x64_0 (sitofp .f32 (iotaInDim S128 32 0))) shapeCasts_S128x64_S8192)))
    (broadcastInDim S8192x32 ![0, 1] bcast_S1x32_S8192x32_0_1 (broadcastInDim S1x32 ![1] bcast_S32_S1x32_1 freqs))

/-- The angles of every position's column. -/
def colAngle : FVec Ideal S8192x32 .f32 :=
  mulf (broadcastInDim S8192x32 ![0, 1] bcast_S8192x1_S8192x32_0_1 (broadcastInDim S8192x1 ![0] bcast_S8192_S8192x1_0 (shapeCast _ (broadcastInDim S128x64 ![0, 1] bcast_S1x64_S128x64_0_1 (shapeCast _ (sitofp .f32 (iotaInDim S64 32 0)) shapeCasts_S64_S1x64)) shapeCasts_S128x64_S8192)))
    (broadcastInDim S8192x32 ![0, 1] bcast_S1x32_S8192x32_0_1 (broadcastInDim S1x32 ![1] bcast_S32_S1x32_1 freqs))

/-- A table over the positions, as an array over batches and heads. -/
def table (a : FVec Ideal S8192x32 .f32) : FVec Ideal S1x8192x1x32 .f32 := broadcastInDim S1x8192x1x32 ![1, 3] bcast_S8192x32_S1x8192x1x32_1_3 a

/-! ## The queries -/

/-- Their columns of the product, head by head. -/
def partQ (y : FVec Ideal S2x8192x6144 .f32) : FVec Ideal S2x8192x32x128 .f32 :=
  shapeCast _ (extractStridedSlice S2x8192x4096 ![0, 0, 0] y slices_S2x8192x6144_S2x8192x4096_0_0_0) shapeCasts_S2x8192x4096_S2x8192x32x128

/-- Every head over the root of the mean of its squares, times the gain. -/
def normQ (t : FVec Ideal S2x8192x32x128 .f32) (g : FVec Ideal S128 .f32) : FVec Ideal S2x8192x32x128 .f32 :=
  mulf (mulf t (broadcastInDim S2x8192x32x128 ![0, 1, 2, 3] bcast_S2x8192x32x1_S2x8192x32x128_0_1_2_3 (Host.rsqrt (addf
      (Host.divf (broadcastInDim S2x8192x32x1 ![0, 1, 2] bcast_S2x8192x32_S2x8192x32x1_0_1_2
          (Host.reduceAdd (mulf t t) (constant S_ .f32 0x00000000#32) reducesTo_S2x8192x32x128_S2x8192x32_d3 h_S_))
        (broadcastInDim S2x8192x32x1 ![] bcast_S_S2x8192x32x1 (constant S_ .f32 0x43000000#32)))
      (broadcastInDim S2x8192x32x1 ![] bcast_S_S2x8192x32x1 (constant S_ .f32 0x358637BD#32))))))
    (broadcastInDim S2x8192x32x128 ![0, 1, 2, 3] bcast_S1x1x1x128_S2x8192x32x128_0_1_2_3 (broadcastInDim S1x1x1x128 ![3] bcast_S128_S1x1x1x128_3 g))

/-- A table over the positions, at every head. -/
def alongQ (a : FVec Ideal S8192x32 .f32) : FVec Ideal S2x8192x32x32 .f32 :=
  broadcastInDim S2x8192x32x32 ![0, 1, 2, 3] bcast_S1x8192x1x32_S2x8192x32x32_0_1_2_3 (table a)

/-- Every head turned by the angles of its row and of its column. -/
def ropeQ (t : FVec Ideal S2x8192x32x128 .f32) (a b : FVec Ideal S8192x32 .f32) : FVec Ideal S2x8192x32x128 .f32 :=
  concatenate S2x8192x32x128 3
    [⟨S2x8192x32x32, subf (mulf (extractStridedSlice S2x8192x32x32 ![0, 0, 0, 0] t slices_S2x8192x32x128_S2x8192x32x32_0_0_0_0) (alongQ (Host.cos a))) (mulf (extractStridedSlice S2x8192x32x32 ![0, 0, 0, 32] t slices_S2x8192x32x128_S2x8192x32x32_0_0_0_32) (alongQ (Host.sin a)))⟩,
      ⟨S2x8192x32x32, addf (mulf (extractStridedSlice S2x8192x32x32 ![0, 0, 0, 32] t slices_S2x8192x32x128_S2x8192x32x32_0_0_0_32) (alongQ (Host.cos a))) (mulf (extractStridedSlice S2x8192x32x32 ![0, 0, 0, 0] t slices_S2x8192x32x128_S2x8192x32x32_0_0_0_0) (alongQ (Host.sin a)))⟩,
      ⟨S2x8192x32x32, subf (mulf (extractStridedSlice S2x8192x32x32 ![0, 0, 0, 64] t slices_S2x8192x32x128_S2x8192x32x32_0_0_0_64) (alongQ (Host.cos b))) (mulf (extractStridedSlice S2x8192x32x32 ![0, 0, 0, 96] t slices_S2x8192x32x128_S2x8192x32x32_0_0_0_96) (alongQ (Host.sin b)))⟩,
      ⟨S2x8192x32x32, addf (mulf (extractStridedSlice S2x8192x32x32 ![0, 0, 0, 96] t slices_S2x8192x32x128_S2x8192x32x32_0_0_0_96) (alongQ (Host.cos b))) (mulf (extractStridedSlice S2x8192x32x32 ![0, 0, 0, 64] t slices_S2x8192x32x128_S2x8192x32x32_0_0_0_64) (alongQ (Host.sin b)))⟩]
    concatenates_S2x8192x32x32_S2x8192x32x32_S2x8192x32x32_S2x8192x32x32_S2x8192x32x128_d3

theorem partQ_read (x : FVec Ideal S2x8192x4096 .f32) (w : FVec Ideal S4096x6144 .f32) (b : Fin 2) (n : Fin 8192) (h : Fin 32) (d : Fin 128) :
    (partQ (proj x w) (ix4 b n h d) : EReal) = ∑ k : Fin 4096, x (ix3 b n k) * w (ix2 k ⟨(h : ℕ) * 128 + d, by omega⟩) := by
  pointwise [partQ, proj]

theorem normQ_read (t : FVec Ideal S2x8192x32x128 .f32) (g : FVec Ideal S128 .f32) (b : Fin 2) (n : Fin 8192) (h : Fin 32) (d : Fin 128) :
    (normQ t g (ix4 b n h d) : EReal) = t (ix4 b n h d) * Ideal.rsqrt (Ideal.div (∑ x : Fin 128, t (ix4 b n h x) * t (ix4 b n h x))
      (Ideal.ofBits .f32 0x43000000#32) + Ideal.ofBits .f32 0x358637BD#32) * g (ix1 d) := by
  pointwise [normQ]

theorem alongQ_read (a : FVec Ideal S8192x32 .f32) (b : Fin 2) (n : Fin 8192) (h : Fin 32) (f : Fin 32) :
    (alongQ a (ix4 b n h f) : EReal) = a (ix2 n f) := by
  pointwise [alongQ, table]

theorem ropeQ_read (t : FVec Ideal S2x8192x32x128 .f32) (a a' : FVec Ideal S8192x32 .f32) (b : Fin 2) (n : Fin 8192) (h : Fin 32) (l : Fin 128) :
    (ropeQ t a a' (ix4 b n h l) : EReal) = axial (fun d => t (ix4 b n h d)) (fun f => a (ix2 n f)) (fun f => a' (ix2 n f)) l := by
  pointwise [ropeQ, alongQ, table, axial]

/-! ## The keys -/

/-- Their columns of the product, head by head. -/
def partK (y : FVec Ideal S2x8192x6144 .f32) : FVec Ideal S2x8192x8x128 .f32 :=
  shapeCast _ (extractStridedSlice S2x8192x1024 ![0, 0, 4096] y slices_S2x8192x6144_S2x8192x1024_0_0_4096) shapeCasts_S2x8192x1024_S2x8192x8x128

/-- Every head over the root of the mean of its squares, times the gain. -/
def normK (t : FVec Ideal S2x8192x8x128 .f32) (g : FVec Ideal S128 .f32) : FVec Ideal S2x8192x8x128 .f32 :=
  mulf (mulf t (broadcastInDim S2x8192x8x128 ![0, 1, 2, 3] bcast_S2x8192x8x1_S2x8192x8x128_0_1_2_3 (Host.rsqrt (addf
      (Host.divf (broadcastInDim S2x8192x8x1 ![0, 1, 2] bcast_S2x8192x8_S2x8192x8x1_0_1_2
          (Host.reduceAdd (mulf t t) (constant S_ .f32 0x00000000#32) reducesTo_S2x8192x8x128_S2x8192x8_d3 h_S_))
        (broadcastInDim S2x8192x8x1 ![] bcast_S_S2x8192x8x1 (constant S_ .f32 0x43000000#32)))
      (broadcastInDim S2x8192x8x1 ![] bcast_S_S2x8192x8x1 (constant S_ .f32 0x358637BD#32))))))
    (broadcastInDim S2x8192x8x128 ![0, 1, 2, 3] bcast_S1x1x1x128_S2x8192x8x128_0_1_2_3 (broadcastInDim S1x1x1x128 ![3] bcast_S128_S1x1x1x128_3 g))

/-- A table over the positions, at every head. -/
def alongK (a : FVec Ideal S8192x32 .f32) : FVec Ideal S2x8192x8x32 .f32 :=
  broadcastInDim S2x8192x8x32 ![0, 1, 2, 3] bcast_S1x8192x1x32_S2x8192x8x32_0_1_2_3 (table a)

/-- Every head turned by the angles of its row and of its column. -/
def ropeK (t : FVec Ideal S2x8192x8x128 .f32) (a b : FVec Ideal S8192x32 .f32) : FVec Ideal S2x8192x8x128 .f32 :=
  concatenate S2x8192x8x128 3
    [⟨S2x8192x8x32, subf (mulf (extractStridedSlice S2x8192x8x32 ![0, 0, 0, 0] t slices_S2x8192x8x128_S2x8192x8x32_0_0_0_0) (alongK (Host.cos a))) (mulf (extractStridedSlice S2x8192x8x32 ![0, 0, 0, 32] t slices_S2x8192x8x128_S2x8192x8x32_0_0_0_32) (alongK (Host.sin a)))⟩,
      ⟨S2x8192x8x32, addf (mulf (extractStridedSlice S2x8192x8x32 ![0, 0, 0, 32] t slices_S2x8192x8x128_S2x8192x8x32_0_0_0_32) (alongK (Host.cos a))) (mulf (extractStridedSlice S2x8192x8x32 ![0, 0, 0, 0] t slices_S2x8192x8x128_S2x8192x8x32_0_0_0_0) (alongK (Host.sin a)))⟩,
      ⟨S2x8192x8x32, subf (mulf (extractStridedSlice S2x8192x8x32 ![0, 0, 0, 64] t slices_S2x8192x8x128_S2x8192x8x32_0_0_0_64) (alongK (Host.cos b))) (mulf (extractStridedSlice S2x8192x8x32 ![0, 0, 0, 96] t slices_S2x8192x8x128_S2x8192x8x32_0_0_0_96) (alongK (Host.sin b)))⟩,
      ⟨S2x8192x8x32, addf (mulf (extractStridedSlice S2x8192x8x32 ![0, 0, 0, 96] t slices_S2x8192x8x128_S2x8192x8x32_0_0_0_96) (alongK (Host.cos b))) (mulf (extractStridedSlice S2x8192x8x32 ![0, 0, 0, 64] t slices_S2x8192x8x128_S2x8192x8x32_0_0_0_64) (alongK (Host.sin b)))⟩]
    concatenates_S2x8192x8x32_S2x8192x8x32_S2x8192x8x32_S2x8192x8x32_S2x8192x8x128_d3

theorem partK_read (x : FVec Ideal S2x8192x4096 .f32) (w : FVec Ideal S4096x6144 .f32) (b : Fin 2) (n : Fin 8192) (h : Fin 8) (d : Fin 128) :
    (partK (proj x w) (ix4 b n h d) : EReal) = ∑ k : Fin 4096, x (ix3 b n k) * w (ix2 k ⟨4096 + ((h : ℕ) * 128 + d), by omega⟩) := by
  pointwise [partK, proj]

theorem normK_read (t : FVec Ideal S2x8192x8x128 .f32) (g : FVec Ideal S128 .f32) (b : Fin 2) (n : Fin 8192) (h : Fin 8) (d : Fin 128) :
    (normK t g (ix4 b n h d) : EReal) = t (ix4 b n h d) * Ideal.rsqrt (Ideal.div (∑ x : Fin 128, t (ix4 b n h x) * t (ix4 b n h x))
      (Ideal.ofBits .f32 0x43000000#32) + Ideal.ofBits .f32 0x358637BD#32) * g (ix1 d) := by
  pointwise [normK]

theorem alongK_read (a : FVec Ideal S8192x32 .f32) (b : Fin 2) (n : Fin 8192) (h : Fin 8) (f : Fin 32) :
    (alongK a (ix4 b n h f) : EReal) = a (ix2 n f) := by
  pointwise [alongK, table]

theorem ropeK_read (t : FVec Ideal S2x8192x8x128 .f32) (a a' : FVec Ideal S8192x32 .f32) (b : Fin 2) (n : Fin 8192) (h : Fin 8) (l : Fin 128) :
    (ropeK t a a' (ix4 b n h l) : EReal) = axial (fun d => t (ix4 b n h d)) (fun f => a (ix2 n f)) (fun f => a' (ix2 n f)) l := by
  pointwise [ropeK, alongK, table, axial]

/-! ## The results -/

/-- The queries, and the keys, from the reference's arguments. -/
def resultQ (x : FVec Ideal S2x8192x4096 .f32) (w : FVec Ideal S4096x6144 .f32) (g : FVec Ideal S128 .f32) : FVec Ideal S2x8192x32x128 .f32 :=
  ropeQ (normQ (partQ (proj x w)) g) rowAngle colAngle

def resultK (x : FVec Ideal S2x8192x4096 .f32) (w : FVec Ideal S4096x6144 .f32) (g : FVec Ideal S128 .f32) : FVec Ideal S2x8192x8x128 .f32 :=
  ropeK (normK (partK (proj x w)) g) rowAngle colAngle

theorem resultQ_eq (m : (ℓ : Loc nD τ sig) → Buf (Elt Ideal) ℓ) (c : Dev nD) :
    Value.res_out0 m c = resultQ (m ((c.tc : Thread nD τ).loc main_arg0)) (m ((c.tc : Thread nD τ).loc main_arg1))
      (m ((c.tc : Thread nD τ).loc main_arg2)) := rfl

theorem resultK_eq (m : (ℓ : Loc nD τ sig) → Buf (Elt Ideal) ℓ) (c : Dev nD) :
    Value.res_out1 m c = resultK (m ((c.tc : Thread nD τ).loc main_arg0)) (m ((c.tc : Thread nD τ).loc main_arg1))
      (m ((c.tc : Thread nD τ).loc main_arg3)) := rfl

end Cert.Proof.Qk.Ref

end
-- ==== Proof.Qk.Host.lean ====
/- What the host operations before the kernel leave in its input arrays, from the program's arguments: the rows, the
   weights and the gains with every head's two middle quarters exchanged, the scales, and the tables of the rotation. -/
module

public import proofs.«01_k».proof.Proof.Gen.Kernel4Ideal.Frame
public import proofs.«01_k».proof.Proof.Qk.Ref

@[expose] public section

set_option maxRecDepth 16384

noncomputable section

namespace Cert.Proof.Qk

open Cert.Kernel4Ideal Cert.Kernel4Ideal.Gen Idealize.ShloMosaic Idealize.ShloMosaic.TcCoe

variable (m : (ℓ : Loc nD τ sig) → Buf (Elt Ideal) ℓ) (c : Dev nD)

abbrev argX : FVec Ideal S2x8192x4096 .f32 := m ((c.tc : Thread nD τ).loc main_arg0)
abbrev argW : FVec Ideal S4096x6144 .f32 := m ((c.tc : Thread nD τ).loc main_arg1)
abbrev argGq : FVec Ideal S128 .f32 := m ((c.tc : Thread nD τ).loc main_arg2)
abbrev argGk : FVec Ideal S128 .f32 := m ((c.tc : Thread nD τ).loc main_arg3)

/-- The rows of both batches. -/
def rows (x : FVec Ideal S2x8192x4096 .f32) : FVec Ideal S16384x4096 .bf16 :=
  truncf .bf16 (shapeCast S16384x4096 x shapeCasts_S2x8192x4096_S16384x4096) bitsLt_bf16_f32

theorem rows_read (x : FVec Ideal S2x8192x4096 .f32) (n : Fin 16384) (k : Fin 4096) :
    (rows x (ix2 n k) : EReal) = x (ix3 ⟨(n : ℕ) / 8192, by omega⟩ ⟨(n : ℕ) % 8192, by omega⟩ k) := by
  pointwise [rows]

theorem host_rows : (show Vec Ideal S16384x4096 .bf16 from V m c main_v56) = rows (argX m c) := by
  show StableHlo.after hostOps0 _ _ = _
  after_results_simp <;> (try dsimp only [Matrix.cons_val]) <;> (try after_results_simp) <;> rfl

theorem host_x (n : Fin 16384) (k : Fin 4096) : ((show Vec Ideal S16384x4096 .bf16 from V m c main_v56) (ix2 n k) : EReal)
    = argX m c (ix3 ⟨(n : ℕ) / 8192, by omega⟩ ⟨(n : ℕ) % 8192, by omega⟩ k) := by
  exact (congrFun (host_rows m c) _).trans (rows_read _ n k)

/-- The argument's column that the kernel keeps at `e`. -/
abbrev exchanged (e : Fin 5120) : Fin 5120 :=
  ⟨(e : ℕ) / 128 * 128 + (e : ℕ) / 32 % 2 * 64 + (e : ℕ) / 64 % 2 * 32 + (e : ℕ) % 32, by omega⟩

/-- The queries' and keys' weights with every head's two middle quarters exchanged. -/
def weights (w : FVec Ideal S4096x6144 .f32) : FVec Ideal S4096x5120 .bf16 :=
  truncf .bf16 (shapeCast S4096x5120 (transpose S4096x40x2x2x32 [0, 1, 3, 2, 4] (shapeCast S4096x40x2x2x32
    (extractStridedSlice S4096x5120 ![0, 0] w slices_S4096x6144_S4096x5120_0_0) shapeCasts_S4096x5120_S4096x40x2x2x32)
    transposes_S4096x40x2x2x32_S4096x40x2x2x32_0_1_3_2_4) shapeCasts_S4096x40x2x2x32_S4096x5120) bitsLt_bf16_f32

theorem weights_read (w : FVec Ideal S4096x6144 .f32) (k : Fin 4096) (e : Fin 5120) :
    (weights w (ix2 k e) : EReal) = w (ix2 k ⟨(exchanged e : ℕ), by omega⟩) := by
  pointwise [weights, exchanged]

theorem host_weights : (show Vec Ideal S4096x5120 .bf16 from V m c main_v4) = weights (argW m c) := by
  show StableHlo.after hostOps0 _ _ = _
  after_results_simp <;> (try dsimp only [Matrix.cons_val]) <;> (try after_results_simp) <;> rfl

theorem host_w (k : Fin 4096) (e : Fin 5120) : ((show Vec Ideal S4096x5120 .bf16 from V m c main_v4) (ix2 k e) : EReal)
    = argW m c (ix2 k ⟨(exchanged e : ℕ), by omega⟩) := by
  exact (congrFun (host_weights m c) _).trans (weights_read _ k e)

/-- The gains at every head of the queries, and at every head of the keys. -/
def tileQ (g : FVec Ideal S128 .f32) : FVec Ideal S4096 .f32 :=
  shapeCast _ (broadcastInDim S32x128 ![0, 1] bcast_S1x128_S32x128_0_1 (shapeCast S1x128 g shapeCasts_S128_S1x128)) shapeCasts_S32x128_S4096

def tileK (g : FVec Ideal S128 .f32) : FVec Ideal S1024 .f32 :=
  shapeCast _ (broadcastInDim S8x128 ![0, 1] bcast_S1x128_S8x128_0_1 (shapeCast S1x128 g shapeCasts_S128_S1x128)) shapeCasts_S8x128_S1024

theorem tileQ_read (g : FVec Ideal S128 .f32) (e : Fin 4096) : (tileQ g (ix1 e) : EReal) = g (ix1 ⟨(e : ℕ) % 128, by omega⟩) := by
  pointwise [tileQ]

theorem tileK_read (g : FVec Ideal S128 .f32) (e : Fin 1024) : (tileK g (ix1 e) : EReal) = g (ix1 ⟨(e : ℕ) % 128, by omega⟩) := by
  pointwise [tileK]

/-- A row of the queries' columns, then the keys'. -/
def joined (u : FVec Ideal S4096 .f32) (v : FVec Ideal S1024 .f32) : FVec Ideal S5120 .f32 :=
  concatenate S5120 0 [⟨S4096, u⟩, ⟨S1024, v⟩] concatenates_S4096_S1024_S5120_d0

theorem joined_read (u : FVec Ideal S4096 .f32) (v : FVec Ideal S1024 .f32) (e : Fin 5120) : (joined u v (ix1 e) : EReal)
    = if h : (e : ℕ) < 4096 then u (ix1 ⟨e, h⟩) else v (ix1 ⟨(e : ℕ) - 4096, by omega⟩) := by
  pointwise [joined]

/-- The gains of the queries' heads, then those of the keys'. -/
def tiled (gq gk : FVec Ideal S128 .f32) : FVec Ideal S5120 .f32 := joined (tileQ gq) (tileK gk)

/-- A row with every head's two middle quarters exchanged. -/
def paired (v : FVec Ideal S5120 .f32) : FVec Ideal S1x5120 .f32 :=
  shapeCast _ (shapeCast _ (transpose S40x2x2x32 [0, 2, 1, 3] (shapeCast S40x2x2x32 v shapeCasts_S5120_S40x2x2x32)
    transposes_S40x2x2x32_S40x2x2x32_0_2_1_3) shapeCasts_S40x2x2x32_S5120) shapeCasts_S5120_S1x5120

theorem tiled_read (gq gk : FVec Ideal S128 .f32) (e : Fin 5120) : (tiled gq gk (ix1 e) : EReal)
    = if (e : ℕ) < 4096 then gq (ix1 ⟨(e : ℕ) % 128, by omega⟩) else gk (ix1 ⟨(e : ℕ) % 128, by omega⟩) := by
  refine (joined_read _ _ e).trans ?_
  by_cases h : (e : ℕ) < 4096
  · rw [dif_pos h, if_pos h]
    exact tileQ_read gq ⟨e, h⟩
  · rw [dif_neg h, if_neg h]
    refine (tileK_read gk ⟨(e : ℕ) - 4096, by omega⟩).trans (congrArg (fun d => gk (ix1 d)) (Fin.ext ?_))
    show ((e : ℕ) - 4096) % 128 = (e : ℕ) % 128
    omega

theorem paired_read (v : FVec Ideal S5120 .f32) (e : Fin 5120) : (paired v (ix2 0 e) : EReal) = v (ix1 (exchanged e)) := by
  pointwise [paired, exchanged]

theorem host_gain : (show Vec Ideal S1x5120 .f32 from V m c main_v15) = paired (tiled (argGq m c) (argGk m c)) := by
  entry_read
  rfl

/-- The queries' scale, as the host computes it, and the scales of all columns. -/
def scale : FVec Ideal S_ .f32 :=
  Host.divf (constant S_ .f32 0x3F800000#32) (mulf (Host.sqrt (constant S_ .f32 0x43000000#32)) (Host.log (constant S_ .f32 0x40000000#32)))

def scales : FVec Ideal S1x5120 .f32 :=
  shapeCast S1x5120 (joined (broadcastInDim S4096 ![] bcast_S_S4096 scale)
    (broadcastInDim S1024 ![] bcast_S_S1024 (constant S_ .f32 0x3F800000#32))) shapeCasts_S5120_S1x5120

theorem scales_read (e : Fin 5120) : (scales (ix2 0 e) : EReal)
    = if h : (e : ℕ) < 4096 then
        Ideal.div (Ideal.ofBits .f32 0x3F800000#32) (Ideal.sqrt (Ideal.ofBits .f32 0x43000000#32) * Ideal.log (Ideal.ofBits .f32 0x40000000#32))
      else Ideal.ofBits .f32 0x3F800000#32 := by
  pointwise [scales, joined, scale]

theorem host_scaleQ : (show Vec Ideal S_ .f32 from V m c main_v19) = scale := by
  show StableHlo.after hostOps0 _ _ = _
  after_results_simp <;> (try dsimp only [Matrix.cons_val]) <;> (try after_results_simp) <;> rfl

theorem host_scales : (show Vec Ideal S1x5120 .f32 from V m c main_v23) = scales := by
  show StableHlo.after hostOps0 _ _ = _
  after_results_simp <;> (try dsimp only [Matrix.cons_val]) <;> (try after_results_simp) <;> rfl

theorem host_scale (e : Fin 5120) : ((show Vec Ideal S1x5120 .f32 from V m c main_v23) (ix2 0 e) : EReal)
    = if h : (e : ℕ) < 4096 then
        Ideal.div (Ideal.ofBits .f32 0x3F800000#32) (Ideal.sqrt (Ideal.ofBits .f32 0x43000000#32) * Ideal.log (Ideal.ofBits .f32 0x40000000#32))
      else Ideal.ofBits .f32 0x3F800000#32 := by
  exact (congrFun (host_scales m c) _).trans (scales_read e)

/-- The table of cosines from the angles, and that of sines. -/
def cosOf (a a' : FVec Ideal S8192x32 .f32) : FVec Ideal S8192x128 .f32 :=
  concatenate S8192x128 1 [⟨S8192x32, Host.cos a⟩, ⟨S8192x32, Host.cos a'⟩, ⟨S8192x32, Host.cos a⟩, ⟨S8192x32, Host.cos a'⟩]
    concatenates_S8192x32_S8192x32_S8192x32_S8192x32_S8192x128_d1

def sinOf (a a' : FVec Ideal S8192x32 .f32) : FVec Ideal S8192x128 .f32 :=
  concatenate S8192x128 1 [⟨S8192x32, Host.negf (Host.sin a)⟩, ⟨S8192x32, Host.negf (Host.sin a')⟩, ⟨S8192x32, Host.sin a⟩, ⟨S8192x32, Host.sin a'⟩]
    concatenates_S8192x32_S8192x32_S8192x32_S8192x32_S8192x128_d1

theorem cosOf_read (a a' : FVec Ideal S8192x32 .f32) (n : Fin 8192) (l : Fin 128) :
    (cosOf a a' (ix2 n l) : EReal) = cosTab (fun f => a (ix2 n f)) (fun f => a' (ix2 n f)) l := by
  pointwise [cosOf, cosTab]

theorem sinOf_read (a a' : FVec Ideal S8192x32 .f32) (n : Fin 8192) (l : Fin 128) :
    (sinOf a a' (ix2 n l) : EReal) = sinTab (fun f => a (ix2 n f)) (fun f => a' (ix2 n f)) l := by
  pointwise [sinOf, sinTab]

theorem host_cos : (show Vec Ideal S8192x128 .f32 from V m c main_v51) = cosOf Ref.rowAngle Ref.colAngle := by
  show StableHlo.after hostOps0 _ _ = _
  after_results_simp <;> (try dsimp only [Matrix.cons_val]) <;> (try after_results_simp) <;> rfl

theorem host_sin : (show Vec Ideal S8192x128 .f32 from V m c main_v54) = sinOf Ref.rowAngle Ref.colAngle := by
  show StableHlo.after hostOps0 _ _ = _
  after_results_simp <;> (try dsimp only [Matrix.cons_val]) <;> (try after_results_simp) <;> rfl

end Cert.Proof.Qk

end
-- ==== Proof.Qk.Goal.lean ====
/- The reference's queries and keys at an index: a head of the product, normed, turned and scaled. -/
module

public import proofs.«01_k».proof.Proof.Attn.Const
public import proofs.«01_k».proof.Proof.Attn.Softmax
public import proofs.«01_k».proof.Proof.Qk.Ref

@[expose] public section

set_option maxRecDepth 16384

noncomputable section

namespace Cert.Proof.Qk.Ref

open Cert.Reference4Ideal Cert.Reference4Ideal.Gen Idealize.ShloMosaic Idealize.ShloMosaic.TcCoe

/-- Head `h` of the product at a batch and a position. -/
def head (x : FVec Ideal S2x8192x4096 .f32) (w : FVec Ideal S4096x6144 .f32) (b : Fin 2) (n : Fin 8192) (h : Fin 40) (d : Fin 128) : EReal :=
  ∑ k : Fin 4096, (x (ix3 b n k) : EReal) * w (ix2 k ⟨(h : ℕ) * 128 + d, by omega⟩)

/-- The gain of head `h`: the queries' or the keys'. -/
def gain (gq gk : FVec Ideal S128 .f32) (h : Fin 40) (d : Fin 128) : EReal := if (h : ℕ) < 32 then gq (ix1 d) else gk (ix1 d)

/-- The queries' scale: one over the root of a head's width and the logarithm of two. -/
def scaleQ : EReal :=
  Ideal.div (Ideal.ofBits .f32 0x3F800000#32) (Ideal.sqrt (Ideal.ofBits .f32 0x43000000#32) * Ideal.log (Ideal.ofBits .f32 0x40000000#32))

/-- The scale of head `h`: a query's or a key's. -/
def scaleAt (h : Fin 40) : EReal := if (h : ℕ) < 32 then scaleQ else Ideal.ofBits .f32 0x3F800000#32

/-- The scale is a number other than zero, so dividing by it takes it off. -/
theorem mul_div_scaleQ (u : EReal) : Ideal.div (u * scaleQ) scaleQ = u := by
  have hne := mul_ne_zero Attn.sqrt_128_ne Attn.log_2_ne
  have hs : scaleQ = (((Real.sqrt 128 * Real.log 2)⁻¹ : ℝ) : EReal) := by
    rw [scaleQ, Attn.sqrt_128, Attn.log_2, ← EReal.coe_mul, Attn.div_coe _ _ hne, Ideal.ofBits_one_f32, one_mul]
  rw [hs, Attn.div_coe _ _ (inv_ne_zero hne), mul_assoc, ← EReal.coe_mul, mul_inv_cancel₀ (inv_ne_zero hne), EReal.coe_one, mul_one]

/-- The batch and the position of a row of the kernel's array; the head and the lane of a column. -/
abbrev batchOf (n : Fin 16384) : Fin 2 := ⟨(n : ℕ) / 8192, by omega⟩
abbrev posOf (n : Fin 16384) : Fin 8192 := ⟨(n : ℕ) % 8192, by omega⟩
abbrev headOf (e : Fin 5120) : Fin 40 := ⟨(e : ℕ) / 128, by omega⟩
abbrev laneOf (e : Fin 5120) : Fin 128 := ⟨(e : ℕ) % 128, by omega⟩

/-- The row of a batch and a position; the column of a head and a lane. -/
abbrev rowOf (b : Fin 2) (n : Fin 8192) : Fin 16384 := ⟨(b : ℕ) * 8192 + n, by omega⟩
abbrev colOf (h : Fin 40) (l : Fin 128) : Fin 5120 := ⟨(h : ℕ) * 128 + l, by omega⟩

theorem batchOf_rowOf (b : Fin 2) (n : Fin 8192) : batchOf (rowOf b n) = b := Fin.ext (by show ((b : ℕ) * 8192 + (n : ℕ)) / 8192 = b; omega)
theorem posOf_rowOf (b : Fin 2) (n : Fin 8192) : posOf (rowOf b n) = n := Fin.ext (by show ((b : ℕ) * 8192 + (n : ℕ)) % 8192 = n; omega)
theorem headOf_colOf (h : Fin 40) (l : Fin 128) : headOf (colOf h l) = h := Fin.ext (by show ((h : ℕ) * 128 + (l : ℕ)) / 128 = h; omega)
theorem laneOf_colOf (h : Fin 40) (l : Fin 128) : laneOf (colOf h l) = l := Fin.ext (by show ((h : ℕ) * 128 + (l : ℕ)) % 128 = l; omega)

/-- An entry of the kernel's array: its head, normed, turned in the kernel's order of the lanes, and scaled. -/
def keptAt (x : FVec Ideal S2x8192x4096 .f32) (w : FVec Ideal S4096x6144 .f32) (gq gk : FVec Ideal S128 .f32)
    (n : Fin 16384) (e : Fin 5120) : EReal :=
  rotated (normed (head x w (batchOf n) (posOf n) (headOf e)) (gain gq gk (headOf e)))
    (fun f => rowAngle (ix2 (posOf n) f)) (fun f => colAngle (ix2 (posOf n) f)) (laneOf e) * scaleAt (headOf e)

theorem resultQ_read (x : FVec Ideal S2x8192x4096 .f32) (w : FVec Ideal S4096x6144 .f32) (gq gk : FVec Ideal S128 .f32)
    (b : Fin 2) (n : Fin 8192) (h : Fin 32) (l : Fin 128) :
    (resultQ x w gq (ix4 b n h l) : EReal) = Ideal.div (keptAt x w gq gk (rowOf b n) (colOf ⟨h, by omega⟩ (pair l))) scaleQ := by
  rw [keptAt, batchOf_rowOf, posOf_rowOf, headOf_colOf, laneOf_colOf, scaleAt, if_pos h.isLt, mul_div_scaleQ, ← axial_eq]
  refine (ropeQ_read _ _ _ b n h l).trans (congrArg (fun u => axial u _ _ _) (funext fun d => ?_))
  rw [normQ_read, normed, gain, if_pos h.isLt]
  simp only [partQ_read]
  rfl

theorem resultK_read (x : FVec Ideal S2x8192x4096 .f32) (w : FVec Ideal S4096x6144 .f32) (gq gk : FVec Ideal S128 .f32)
    (b : Fin 2) (n : Fin 8192) (h : Fin 8) (l : Fin 128) :
    (resultK x w gk (ix4 b n h l) : EReal) = keptAt x w gq gk (rowOf b n) (colOf ⟨32 + (h : ℕ), by omega⟩ (pair l)) := by
  have hn : ¬ 32 + (h : ℕ) < 32 := by omega
  rw [keptAt, batchOf_rowOf, posOf_rowOf, headOf_colOf, laneOf_colOf, scaleAt, if_neg hn, Ideal.ofBits_one_f32, mul_one, ← axial_eq]
  refine (ropeK_read _ _ _ b n h l).trans (congrArg (fun u => axial u _ _ _) (funext fun d => ?_))
  have hp : ∀ d : Fin 128, (partK (proj x w) (ix4 b n h d) : EReal) = head x w b n ⟨32 + (h : ℕ), by omega⟩ d := fun d => by
    rw [partK_read, head]
    refine Finset.sum_congr rfl fun k _ => congrArg (fun j => (_ : EReal) * w (ix2 k j)) (Fin.ext ?_)
    show 4096 + ((h : ℕ) * 128 + (d : ℕ)) = (32 + (h : ℕ)) * 128 + d
    omega
  rw [normK_read, normed, gain, if_neg hn]
  simp only [hp]

end Cert.Proof.Qk.Ref

end
-- ==== Proof.Qk.Final.lean ====
/- The kernel's array of queries and keys, entry by entry. A grid point leaves, in one of two scratch buffers, the product
   of its blocks, and writes the heads of the product the point before left in the other. -/
module

public import proofs.«01_k».proof.Proof.Qk.Block
public import proofs.«01_k».proof.Proof.Qk.Host
public import proofs.«01_k».proof.Proof.Qk.Goal

@[expose] public section

set_option maxRecDepth 16384

noncomputable section

namespace Cert.Proof.Qk

open Cert.Kernel4Ideal Cert.Kernel4Ideal.Gen Idealize.ShloMosaic Idealize.ShloMosaic.TcCoe
open Idealize.ShloMosaic.Pipeline (Dat)

variable (m : (ℓ : Loc nD τ sig) → Buf (Elt Ideal) ℓ) (c : Dev nD)

theorem lt_N (t : Fin cfg0.N) : (t : ℕ) < 161 := t.isLt

/-- The tile a grid point multiplies, and the tile it writes: the one the point before multiplied. -/
abbrev rowIn (t : Fin cfg0.N) : Fin 32 := ⟨min (t : ℕ) 159 % 32, by omega⟩
abbrev colIn (t : Fin cfg0.N) : Fin 5 := ⟨min (t : ℕ) 159 / 32, by omega⟩
abbrev rowOut (t : Fin cfg0.N) : Fin 32 := ⟨((t : ℕ) - 1) % 32, by omega⟩
abbrev colOut (t : Fin cfg0.N) : Fin 5 := ⟨((t : ℕ) - 1) / 32, by have := lt_N t; omega⟩

theorem idx : ∀ t : Fin cfg0.N,
    win0_0.index t = ![(rowIn t : ℕ), 0]
    ∧ win0_1.index t = ![0, (colIn t : ℕ)]
    ∧ win0_2.index t = ![0, (colOut t : ℕ)]
    ∧ win0_3.index t = ![0, (colOut t : ℕ)]
    ∧ win0_4.index t = ![(rowOut t : ℕ) % 16, 0]
    ∧ win0_5.index t = ![(rowOut t : ℕ) % 16, 0]
    ∧ win0_6.index t = ![(rowOut t : ℕ), (colOut t : ℕ)] :=
  (by decide +kernel : ∀ t : Fin grid0.N, _)

/-! ## The blocks -/

theorem read_x (A : Vec Ideal S16384x4096 .bf16) (t : Fin cfg0.N) (r : Fin 512) (k : Fin 4096) :
    ((show Vec Ideal S512x4096 .bf16 from ((cfg0.win 0).blk t).view.read (Elt Ideal) A) (ix2 r k) : EReal)
      = A (ix2 ⟨512 * (rowIn t : ℕ) + r, by omega⟩ k) := by
  have h : ((cfg0.win 0).blk t).view.emb (ix2 r k) = ix2 ⟨512 * (rowIn t : ℕ) + r, by omega⟩ k := by
    blk_ext [idx t]
  exact congrArg A h

theorem read_w (A : Vec Ideal S4096x5120 .bf16) (t : Fin cfg0.N) (k : Fin 4096) (e : Fin 1024) :
    ((show Vec Ideal S4096x1024 .bf16 from ((cfg0.win 1).blk t).view.read (Elt Ideal) A) (ix2 k e) : EReal)
      = A (ix2 k ⟨1024 * (colIn t : ℕ) + e, by omega⟩) := by
  have h : ((cfg0.win 1).blk t).view.emb (ix2 k e) = ix2 k ⟨1024 * (colIn t : ℕ) + e, by omega⟩ := by
    blk_ext [idx t]
  exact congrArg A h

theorem read_gain (A : Vec Ideal S1x5120 .f32) (t : Fin cfg0.N) (e : Fin 1024) :
    ((show Vec Ideal S1x1024 .f32 from ((cfg0.win 2).blk t).view.read (Elt Ideal) A) (ix2 0 e) : EReal)
      = A (ix2 0 ⟨1024 * (colOut t : ℕ) + e, by omega⟩) := by
  have h : ((cfg0.win 2).blk t).view.emb (ix2 0 e) = ix2 0 ⟨1024 * (colOut t : ℕ) + e, by omega⟩ := by
    blk_ext [idx t]
  exact congrArg A h

theorem read_scale (A : Vec Ideal S1x5120 .f32) (t : Fin cfg0.N) (e : Fin 1024) :
    ((show Vec Ideal S1x1024 .f32 from ((cfg0.win 3).blk t).view.read (Elt Ideal) A) (ix2 0 e) : EReal)
      = A (ix2 0 ⟨1024 * (colOut t : ℕ) + e, by omega⟩) := by
  have h : ((cfg0.win 3).blk t).view.emb (ix2 0 e) = ix2 0 ⟨1024 * (colOut t : ℕ) + e, by omega⟩ := by
    blk_ext [idx t]
  exact congrArg A h

theorem read_cos (A : Vec Ideal S8192x128 .f32) (t : Fin cfg0.N) (r : Fin 512) (l : Fin 128) :
    ((show Vec Ideal S512x128 .f32 from ((cfg0.win 4).blk t).view.read (Elt Ideal) A) (ix2 r l) : EReal)
      = A (ix2 ⟨512 * ((rowOut t : ℕ) % 16) + r, by omega⟩ l) := by
  have h : ((cfg0.win 4).blk t).view.emb (ix2 r l) = ix2 ⟨512 * ((rowOut t : ℕ) % 16) + r, by omega⟩ l := by
    blk_ext [idx t]
  exact congrArg A h

theorem read_sin (A : Vec Ideal S8192x128 .f32) (t : Fin cfg0.N) (r : Fin 512) (l : Fin 128) :
    ((show Vec Ideal S512x128 .f32 from ((cfg0.win 5).blk t).view.read (Elt Ideal) A) (ix2 r l) : EReal)
      = A (ix2 ⟨512 * ((rowOut t : ℕ) % 16) + r, by omega⟩ l) := by
  have h : ((cfg0.win 5).blk t).view.emb (ix2 r l) = ix2 ⟨512 * ((rowOut t : ℕ) % 16) + r, by omega⟩ l := by
    blk_ext [idx t]
  exact congrArg A h

/-! ## The product a point leaves for the next -/

/-- The product of a point's blocks. -/
abbrev made (t : Fin cfg0.N) (r : Fin 512) (e : Fin 1024) : EReal := prod (iblk m c 0 t) (iblk m c 1 t) r e

theorem left_even (t : Fin cfg0.N) (ht : (t : ℕ) % 2 = 0) (r : Fin 512) (e : Fin 1024) :
    ((outsAt0 m c t.val t.isLt).2.1 (ix2 r e) : EReal) = made m c t r e := by
  have hN := lt_N t
  by_cases h0 : (t : ℕ) % 161 = 0
  · rw [outsAt0_A m c t h0 ht (by omega)]
    dsimp only
    exact scratch_A c _ _ _ _ _ _ _ _ _ _ _ _ _ _ _ _ _ _ _ _ _ _ _ _ _ _ _ _ r e
  · rw [outsAt0_C m c t h0 ht (by omega)]
    dsimp only
    exact scratch_C c _ _ _ _ _ _ _ _ _ _ _ _ _ _ _ _ _ _ _ _ _ _ _ _ _ _ _ _ _ r e

theorem left_odd (t : Fin cfg0.N) (ht : (t : ℕ) % 2 = 1) (r : Fin 512) (e : Fin 1024) :
    ((outsAt0 m c t.val t.isLt).2.2 (ix2 r e) : EReal) = made m c t r e := by
  have hN := lt_N t
  rw [outsAt0_B m c t (by omega) (by omega) ht]
  dsimp only
  exact scratch_B c _ _ _ _ _ _ _ _ _ _ _ _ _ _ _ _ _ _ _ _ _ _ _ _ _ _ _ _ _ r e

/-- The point before. -/
abbrev before (t : Fin cfg0.N) : Fin cfg0.N := ⟨(t : ℕ) - 1, Nat.lt_of_le_of_lt (Nat.sub_le _ _) t.isLt⟩

/-- What a point after the first writes: the heads of the product of the blocks of the point before. -/
theorem written (t : Fin cfg0.N) (ht : 1 ≤ (t : ℕ)) (r : Fin 512) (e : Fin 1024) :
    ∃ y : Vec Ideal S512x1024 .f32, (∀ r e, (y (ix2 r e) : EReal) = made m c (before t) r e)
      ∧ ((outsAt0 m c t.val t.isLt).1 (ix2 r e) : EReal) = outAt y (iblk m c 2 t) (iblk m c 3 t) (iblk m c 4 t) (iblk m c 5 t) r e := by
  have hN := lt_N t
  rcases Nat.mod_two_eq_zero_or_one (t : ℕ) with h | h
  · refine ⟨_, left_odd m c (before t) (by show ((t : ℕ) - 1) % 2 = 1; omega), ?_⟩
    have hs := outsAt0_C m c t (by omega) h (by omega)
    rw [hs]
    dsimp only
    exact out_C c _ _ _ _ _ _ _ _ _ _ _ _ _ _ _ _ _ _ _ _ _ _ _ _ _ _ _ _ _ r e
  · refine ⟨_, left_even m c (before t) (by show ((t : ℕ) - 1) % 2 = 0; omega), ?_⟩
    have hs := outsAt0_B m c t (by omega) (by omega) h
    rw [hs]
    dsimp only
    exact out_B c _ _ _ _ _ _ _ _ _ _ _ _ _ _ _ _ _ _ _ _ _ _ _ _ _ _ _ _ _ r e

/-! ## The output block, over the arguments -/

/-- The row and the column of the result that a point's output block keeps at `r` and `e`. -/
abbrev rowAt (t : Fin cfg0.N) (r : Fin 512) : Fin 16384 := ⟨512 * (rowOut t : ℕ) + r, by omega⟩
abbrev colAt (t : Fin cfg0.N) (e : Fin 1024) : Fin 5120 := ⟨1024 * (colOut t : ℕ) + e, by omega⟩

theorem exchanged_at (t : Fin cfg0.N) (e : Fin 1024) (d : Fin 128) :
    (exchanged (colAt t (lane e d)) : ℕ) = (Ref.headOf (colAt t e) : ℕ) * 128 + (pair d : ℕ) := by
  have hd := d.isLt
  show (1024 * (colOut t : ℕ) + (128 * ((e : ℕ) / 128) + (d : ℕ))) / 128 * 128 + (1024 * (colOut t : ℕ) + (128 * ((e : ℕ) / 128) + (d : ℕ))) / 32 % 2 * 64
      + (1024 * (colOut t : ℕ) + (128 * ((e : ℕ) / 128) + (d : ℕ))) / 64 % 2 * 32 + (1024 * (colOut t : ℕ) + (128 * ((e : ℕ) / 128) + (d : ℕ))) % 32
    = (1024 * (colOut t : ℕ) + (e : ℕ)) / 128 * 128 + (64 * ((d : ℕ) / 32 % 2) + 32 * ((d : ℕ) / 64) + (d : ℕ) % 32)
  omega

theorem made_eq (t : Fin cfg0.N) (ht : 1 ≤ (t : ℕ)) (r : Fin 512) (e : Fin 1024) (d : Fin 128) :
    made m c (before t) r (lane e d) = Ref.head (argX m c) (argW m c) (Ref.batchOf (rowAt t r)) (Ref.posOf (rowAt t r)) (Ref.headOf (colAt t e)) (pair d) := by
  have hN := lt_N t
  have hr : (⟨512 * (rowIn (before t) : ℕ) + r, by omega⟩ : Fin 16384) = rowAt t r := Fin.ext (by
    show 512 * (min ((t : ℕ) - 1) 159 % 32) + (r : ℕ) = 512 * (((t : ℕ) - 1) % 32) + r
    omega)
  have hc : (⟨1024 * (colIn (before t) : ℕ) + lane e d, by omega⟩ : Fin 5120) = colAt t (lane e d) := Fin.ext (by
    show 1024 * (min ((t : ℕ) - 1) 159 / 32) + (128 * ((e : ℕ) / 128) + (d : ℕ)) = 1024 * (((t : ℕ) - 1) / 32) + (128 * ((e : ℕ) / 128) + (d : ℕ))
    omega)
  refine Finset.sum_congr rfl fun k _ => congrArg₂ (fun a b : EReal => a * b) ?_ ?_
  · refine ((read_x (V m c main_v56) (before t) r k).trans (congrArg (fun n => (show Vec Ideal S16384x4096 .bf16 from V m c main_v56) (ix2 n k)) hr)).trans ?_
    exact host_x m c (rowAt t r) k
  · refine ((read_w (V m c main_v4) (before t) k (lane e d)).trans (congrArg (fun n => (show Vec Ideal S4096x5120 .bf16 from V m c main_v4) (ix2 k n)) hc)).trans ?_
    exact (host_w m c k (colAt t (lane e d))).trans (congrArg (fun n => argW m c (ix2 k n)) (Fin.ext (exchanged_at t e d)))

theorem gain_eq (t : Fin cfg0.N) (e : Fin 1024) (d : Fin 128) :
    ((show Vec Ideal S1x1024 .f32 from iblk m c 2 t) (ix2 0 (lane e d)) : EReal)
      = Ref.gain (argGq m c) (argGk m c) (Ref.headOf (colAt t e)) (pair d) := by
  have hx := exchanged_at t e d
  have hp := (pair d).isLt
  refine (read_gain (V m c main_v15) t (lane e d)).trans ?_
  rw [show V m c main_v15 = paired (tiled (argGq m c) (argGk m c)) from host_gain m c]
  refine (paired_read _ (colAt t (lane e d))).trans ((tiled_read _ _ _).trans ?_)
  have hm : (exchanged (colAt t (lane e d)) : ℕ) % 128 = (pair d : ℕ) := by omega
  rw [Ref.gain]
  by_cases h : (Ref.headOf (colAt t e) : ℕ) < 32
  · rw [if_pos h, if_pos (by omega)]
    exact congrArg (fun l => argGq m c (ix1 l)) (Fin.ext hm)
  · rw [if_neg h, if_neg (by omega)]
    exact congrArg (fun l => argGk m c (ix1 l)) (Fin.ext hm)

theorem scale_eq (t : Fin cfg0.N) (e : Fin 1024) (d : Fin 128) :
    ((show Vec Ideal S1x1024 .f32 from iblk m c 3 t) (ix2 0 (lane e d)) : EReal) = Ref.scaleAt (Ref.headOf (colAt t e)) := by
  refine (read_scale (V m c main_v23) t (lane e d)).trans ((host_scale m c (colAt t (lane e d))).trans ?_)
  have hd := d.isLt
  have hh : (colAt t (lane e d) : ℕ) / 128 = (Ref.headOf (colAt t e) : ℕ) := by
    show (1024 * (colOut t : ℕ) + (128 * ((e : ℕ) / 128) + (d : ℕ))) / 128 = (1024 * (colOut t : ℕ) + (e : ℕ)) / 128
    omega
  rw [Ref.scaleAt]
  by_cases h : (Ref.headOf (colAt t e) : ℕ) < 32
  · rw [if_pos h, dif_pos (by omega)]
    rfl
  · rw [if_neg h, dif_neg (by omega)]

theorem pos_eq (t : Fin cfg0.N) (r : Fin 512) : 512 * ((rowOut t : ℕ) % 16) + (r : ℕ) = (rowAt t r : ℕ) % 8192 := by
  show _ = (512 * (rowOut t : ℕ) + (r : ℕ)) % 8192
  omega

/-- The angles of a row of the result. -/
abbrev rowAngleAt (n : Fin 16384) (f : Fin 32) : EReal := Ref.rowAngle (ix2 ⟨(n : ℕ) % 8192, by omega⟩ f)
abbrev colAngleAt (n : Fin 16384) (f : Fin 32) : EReal := Ref.colAngle (ix2 ⟨(n : ℕ) % 8192, by omega⟩ f)

theorem cos_eq (t : Fin cfg0.N) (r : Fin 512) (l : Fin 128) :
    ((show Vec Ideal S512x128 .f32 from iblk m c 4 t) (ix2 r l) : EReal) = cosTab (rowAngleAt (rowAt t r)) (colAngleAt (rowAt t r)) l := by
  refine (read_cos (V m c main_v51) t r l).trans ?_
  rw [show V m c main_v51 = cosOf Ref.rowAngle Ref.colAngle from host_cos m c]
  exact (congrArg (fun n => cosOf Ref.rowAngle Ref.colAngle (ix2 n l)) (Fin.ext (pos_eq t r))).trans (cosOf_read _ _ _ _)

theorem sin_eq (t : Fin cfg0.N) (r : Fin 512) (l : Fin 128) :
    ((show Vec Ideal S512x128 .f32 from iblk m c 5 t) (ix2 r l) : EReal) = sinTab (rowAngleAt (rowAt t r)) (colAngleAt (rowAt t r)) l := by
  refine (read_sin (V m c main_v54) t r l).trans ?_
  rw [show V m c main_v54 = sinOf Ref.rowAngle Ref.colAngle from host_sin m c]
  exact (congrArg (fun n => sinOf Ref.rowAngle Ref.colAngle (ix2 n l)) (Fin.ext (pos_eq t r))).trans (sinOf_read _ _ _ _)

/-- The array over the kernel's arguments. -/
def goal : FVec Ideal S16384x5120 .bf16 := fun y => Ref.keptAt (argX m c) (argW m c) (argGq m c) (argGk m c) (y 0) (y 1)

/-- What a point after the first writes is that array's block. -/
theorem point (t : Fin cfg0.N) (ht : 1 ≤ (t : ℕ)) (r : Fin 512) (e : Fin 1024) :
    ((outsAt0 m c t.val t.isLt).1 (ix2 r e) : EReal) = goal m c (ix2 (rowAt t r) (colAt t e)) := by
  obtain ⟨y, hy, hout⟩ := written m c t ht r e
  refine hout.trans ?_
  show _ = Ref.keptAt (argX m c) (argW m c) (argGq m c) (argGk m c) (rowAt t r) (colAt t e)
  have hl : (⟨(e : ℕ) % 128, by omega⟩ : Fin 128) = Ref.laneOf (colAt t e) := Fin.ext (by
    show (e : ℕ) % 128 = (1024 * (colOut t : ℕ) + (e : ℕ)) % 128
    omega)
  unfold outAt Ref.keptAt
  simp only [hy, made_eq m c t ht, hl]
  refine Eq.trans ?_ (turned_pair (Ref.head (argX m c) (argW m c) (Ref.batchOf (rowAt t r)) (Ref.posOf (rowAt t r)) (Ref.headOf (colAt t e))) (Ref.gain (argGq m c) (argGk m c) (Ref.headOf (colAt t e)))
    (fun _ => Ref.scaleAt (Ref.headOf (colAt t e))) (rowAngleAt (rowAt t r)) (colAngleAt (rowAt t r)) (Ref.laneOf (colAt t e)))
  congr 1
  · exact funext fun d => gain_eq m c t e d
  · exact funext fun d => scale_eq m c t e d
  · exact funext fun l => cos_eq m c t r l
  · exact funext fun l => sin_eq m c t r l

/-! ## The result array -/

/-- The output's blocks tile its array. -/
theorem covers : (cfg0.win 6).Covers :=
  (cfg0.win 6).covers_of_index_surj rfl (by decide) fun β => by
    have h0 : (β 0 : ℕ) < 32 := (β 0).isLt
    have h1 : (β 1 : ℕ) < 5 := (β 1).isLt
    refine ⟨⟨32 * (β 1 : ℕ) + (β 0 : ℕ) + 1, by show _ < 161; omega⟩, fun a => (congrFun (idx _).2.2.2.2.2.2 a).trans ?_⟩
    fin_cases a
    · show (32 * (β 1 : ℕ) + (β 0 : ℕ) + 1 - 1) % 32 = (β 0 : ℕ)
      omega
    · show (32 * (β 1 : ℕ) + (β 0 : ℕ) + 1 - 1) / 32 = (β 1 : ℕ)
      omega

theorem blk_out (t : Fin cfg0.N) (r : Fin 512) (e : Fin 1024) :
    ((cfg0.win 6).blk t).view.emb (ix2 r e) = ix2 (rowAt t r) (colAt t e) := by
  blk_ext [idx t]

/-- The first point's block is not yet written back. -/
theorem pos_of_flush : ∀ t : Fin cfg0.N, (cfg0.win 6).flush t = true → 1 ≤ (t : ℕ) :=
  (by decide +kernel : ∀ t : Fin grid0.N, _)

/-- After the run the kernel's array is `goal`. -/
theorem final : (dats m 0 c).arrAt 6 cfg0.N = goal m c := by
  refine (dats m 0 c).arrAt_eq_of_covers 6 (goal m c) covers fun t hf y => ?_
  blk_simp
  rw [after0_6]
  have hy : (y : S512x1024.Idx) = ix2 (y 0) (y 1) := by
    funext b; fin_cases b <;> rfl
  rw [hy]
  exact (point m c t (pos_of_flush t hf) (y 0) (y 1)).trans (congrArg (goal m c) (blk_out t (y 0) (y 1))).symm

end Cert.Proof.Qk

end
-- ==== Proof.Qk.Tail.lean ====
/- The host operations after the kernel: the lanes go back into their own order and the queries' scale comes off, so that the
   program's two results are the reference's queries and keys. -/
module

public import proofs.«01_k».proof.Proof.Qk.Final

@[expose] public section

set_option maxRecDepth 16384

noncomputable section

namespace Cert.Proof.Qk

open Cert.Kernel4Ideal Cert.Kernel4Ideal.Gen Idealize.ShloMosaic Idealize.ShloMosaic.TcCoe Idealize.SL.Sem

/-- The kernel's array head by head, with every head's two middle quarters exchanged. -/
def unpaired (o : FVec Ideal S16384x5120 .bf16) : FVec Ideal S2x8192x40x128 .f32 :=
  extf .f32 (shapeCast S2x8192x40x128 (shapeCast S16384x5120 (transpose S16384x40x2x2x32 [0, 1, 3, 2, 4]
    (shapeCast S16384x40x2x2x32 o shapeCasts_S16384x5120_S16384x40x2x2x32) transposes_S16384x40x2x2x32_S16384x40x2x2x32_0_1_3_2_4)
    shapeCasts_S16384x40x2x2x32_S16384x5120) shapeCasts_S16384x5120_S2x8192x40x128) bitsLt_bf16_f32

theorem unpaired_read (o : FVec Ideal S16384x5120 .bf16) (b : Fin 2) (n : Fin 8192) (h : Fin 40) (l : Fin 128) :
    (unpaired o (ix4 b n h l) : EReal) = o (ix2 (Ref.rowOf b n) (Ref.colOf h (pair l))) := by
  pointwise [unpaired, Ref.rowOf, Ref.colOf, pair]
  exact congrArg (fun e => o (ix2 _ e)) (Fin.ext (by
    show (h : ℕ) * 128 + (l : ℕ) / 32 % 2 * 64 + (l : ℕ) / 64 * 32 + (l : ℕ) % 32
      = (h : ℕ) * 128 + (64 * ((l : ℕ) / 32 % 2) + 32 * ((l : ℕ) / 64) + (l : ℕ) % 32)
    omega))

/-- The queries off the kernel's array and the scale, and the keys. -/
def outQ (o : FVec Ideal S16384x5120 .bf16) (s : FVec Ideal S_ .f32) : FVec Ideal S2x8192x32x128 .f32 :=
  Host.divf (extractStridedSlice S2x8192x32x128 ![0, 0, 0, 0] (unpaired o) slices_S2x8192x40x128_S2x8192x32x128_0_0_0_0)
    (broadcastInDim S2x8192x32x128 ![] bcast_S_S2x8192x32x128 s)

def outK (o : FVec Ideal S16384x5120 .bf16) : FVec Ideal S2x8192x8x128 .f32 :=
  extractStridedSlice S2x8192x8x128 ![0, 0, 32, 0] (unpaired o) slices_S2x8192x40x128_S2x8192x8x128_0_0_32_0

theorem outQ_read (o : FVec Ideal S16384x5120 .bf16) (b : Fin 2) (n : Fin 8192) (h : Fin 32) (l : Fin 128) :
    (outQ o scale (ix4 b n h l) : EReal) = Ideal.div (unpaired o (ix4 b n ⟨h, by omega⟩ l)) Ref.scaleQ := by
  pointwise [outQ, scale, Ref.scaleQ]

theorem outK_read (o : FVec Ideal S16384x5120 .bf16) (b : Fin 2) (n : Fin 8192) (h : Fin 8) (l : Fin 128) :
    (outK o (ix4 b n h l) : EReal) = unpaired o (ix4 b n ⟨32 + (h : ℕ), by omega⟩ l) := by
  pointwise [outK]

variable (m : (ℓ : Loc nD τ sig) → Buf (Elt Ideal) ℓ) (c : Dev nD)

/-- The buffers as the kernel leaves them. -/
abbrev left : Valuation τ sig (Elt Ideal) := Pipeline.withArrays spec0 c (V0 m c) fun w => (dats m 0 c).arrAt w cfg0.N

theorem left_result : left m c (Proc.devRef .tc main_v57) = (dats m 0 c).arrAt 6 cfg0.N :=
  Pipeline.withArrays_arr spec0 (by decide) c (V0 m c) (fun w => (dats m 0 c).arrAt w cfg0.N) 6

theorem left_scale : left m c (Proc.devRef .tc main_v19) = scale :=
  (Pipeline.withArrays_of_ne spec0 c (V0 m c) _ main_v19 (by exact (by decide : ∀ w, Pipeline.arrRef spec0 w ≠ main_v19))).trans (host_scaleQ m c)

/-- What the host operations leave in the two results. -/
theorem tail_q : Pipeline.afterTail₀ cfgs (dats m) 0 (V0 m) [hostOps1] c main_v65 = outQ ((dats m 0 c).arrAt 6 cfg0.N) scale := by
  rw [← left_result, ← left_scale m c]
  show StableHlo.after hostOps1 (left m c) _ = _
  generalize left m c = σ
  after_results_simp <;> rfl

theorem tail_k : Pipeline.afterTail₀ cfgs (dats m) 0 (V0 m) [hostOps1] c main_v66 = outK ((dats m 0 c).arrAt 6 cfg0.N) := by
  rw [← left_result]
  show StableHlo.after hostOps1 (left m c) _ = _
  generalize left m c = σ
  after_results_simp <;> rfl

/-- The results are the reference's over the kernel's arguments. -/
theorem result_q : Pipeline.afterTail₀ cfgs (dats m) 0 (V0 m) [hostOps1] c main_v65 = Ref.resultQ (argX m c) (argW m c) (argGq m c) := by
  have at_index (b : Fin 2) (n : Fin 8192) (h : Fin 32) (l : Fin 128) : (outQ (goal m c) scale (ix4 b n h l) : EReal)
      = Ref.resultQ (argX m c) (argW m c) (argGq m c) (ix4 b n h l) := by
    rw [outQ_read, unpaired_read, Ref.resultQ_read _ _ _ (argGk m c) b n h l]
    rfl
  rw [tail_q, final]
  refine funext fun (y : S2x8192x32x128.Idx) => ?_
  have hy : y = ix4 (y 0) (y 1) (y 2) (y 3) := by
    funext b; fin_cases b <;> rfl
  rw [hy]
  exact at_index _ _ _ _

theorem result_k : Pipeline.afterTail₀ cfgs (dats m) 0 (V0 m) [hostOps1] c main_v66 = Ref.resultK (argX m c) (argW m c) (argGk m c) := by
  have at_index (b : Fin 2) (n : Fin 8192) (h : Fin 8) (l : Fin 128) : (outK (goal m c) (ix4 b n h l) : EReal)
      = Ref.resultK (argX m c) (argW m c) (argGk m c) (ix4 b n h l) := by
    rw [outK_read, unpaired_read, Ref.resultK_read _ _ (argGq m c) _ b n h l]
    rfl
  rw [tail_k, final]
  refine funext fun (y : S2x8192x8x128.Idx) => ?_
  have hy : y = ix4 (y 0) (y 1) (y 2) (y 3) := by
    funext b; fin_cases b <;> rfl
  rw [hy]
  exact at_index _ _ _ _

/-- The run: the two results are the reference's, and the arguments end unchanged. -/
theorem run (ρ : Dev nD → PrngReg) : θ_run defs (onTc (τ := τ) (main (F := Ideal))) ⟨m, fun _ => 0, ρ⟩ (fun r => ∀ c : Dev nD,
    r.2.mem ((c.tc : Thread nD τ).loc main_v65) = Ref.resultQ (argX m c) (argW m c) (argGq m c)
    ∧ r.2.mem ((c.tc : Thread nD τ).loc main_v66) = Ref.resultK (argX m c) (argW m c) (argGk m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run _ _ _).mono (fun r h c => ?_) (run_main m ρ)
  have rest := (h c).2
  exact ⟨(rest main_v65 (Pipeline.mem_restRefs_of main_v65 (by decide) (by decide))).trans (result_q m c),
    (rest main_v66 (Pipeline.mem_restRefs_of main_v66 (by decide) (by decide))).trans (result_k m c),
    (rest main_arg0 (Pipeline.mem_restRefs_of main_arg0 (by decide) (by decide))).trans (W_main_arg0 m (dats m) c),
    (rest main_arg1 (Pipeline.mem_restRefs_of main_arg1 (by decide) (by decide))).trans (W_main_arg1 m (dats m) c),
    (rest main_arg2 (Pipeline.mem_restRefs_of main_arg2 (by decide) (by decide))).trans (W_main_arg2 m (dats m) c),
    (rest main_arg3 (Pipeline.mem_restRefs_of main_arg3 (by decide) (by decide))).trans (W_main_arg3 m (dats m) c)⟩

end Cert.Proof.Qk

end
-- ==== Proof.Qk.ContextBlock.lean ====
/- What one grid point of the projection of the context's keys computes, as `Block.lean` has it for the sequence's queries and
   keys: tiles of 256 rows, and so its own program. -/
module

public import proofs.«01_k».proof.Proof.Gen.Kernel10Ideal.Frame
public import proofs.«01_k».proof.Proof.Qk.Block
public import Idealize.ShloMosaic.Lib.Pipeline.Covers
public import Idealize.ShloMosaic.Lib.Pipeline.ValueKit
public import Idealize.ShloMosaic.Lib.WholeRead
public import Idealize.ShloMosaic.Lib.KernelVsHost

@[expose] public section

set_option maxRecDepth 16384

noncomputable section

namespace Cert.Proof.Qk.Context

open Idealize.ShloMosaic

open Cert.Kernel10Ideal Cert.Kernel10Ideal.Gen Idealize.ShloMosaic.TcCoe

/-- One head's piece of the output. -/
theorem head_read (cos sin y : FVec Ideal S256x128 .f32) (g s : FVec Ideal S1x128 .f32) (r : Fin 256) (l : Fin 128) :
    (k0_pay8 (F := Ideal) cos sin y g s (ix2 r l) : EReal)
      = turned (fun d => y (ix2 r d)) (fun d => g (ix2 0 d)) (fun d => s (ix2 0 d)) (fun d => cos (ix2 r d)) (fun d => sin (ix2 r d)) l := by
  pointwise [k0_pay8, turned, normed, across]

theorem cast_read (x : FVec Ideal S256x128 .f32) (r : Fin 256) (d : Fin 128) : (k0_pay5 (F := Ideal) x (ix2 r d) : EReal) = x (ix2 r d) := by
  pointwise [k0_pay5]

/-! ## The eight heads of either kind of point are all one function -/

section
variable (cos sin y : Vec Ideal S256x128 .f32) (g s : Vec Ideal S1x128 .f32)

theorem even_sin : k0_pay6 (F := Ideal) sin = k0_pay5 sin := rfl
theorem even_0 : k0_pay7 (F := Ideal) cos sin y g s = k0_pay8 (k0_pay5 cos) (k0_pay5 sin) y g s := rfl
theorem even_2 : k0_pay11 (F := Ideal) cos sin (k0_pay9 y) (k0_pay10 g) s = k0_pay8 cos sin y g s := rfl
theorem even_3 : k0_pay12 (F := Ideal) cos sin y g s = k0_pay8 cos sin y g s := rfl
theorem even_4 : k0_pay14 (F := Ideal) cos sin y (k0_pay13 y) g s = k0_pay8 cos sin y g s := rfl
theorem even_5 : k0_pay18 (F := Ideal) (k0_pay16 cos y g) (k0_pay17 sin y g) s = k0_pay8 cos sin y g s := rfl
theorem even_6 : k0_pay19 (F := Ideal) cos sin y g s = k0_pay8 cos sin y g s := rfl
theorem even_7 : k0_pay2 (F := Ideal) cos sin y (k0_pay20 y) g s = k0_pay8 cos sin y g s := rfl
theorem odd_cos : k0_pay22 (F := Ideal) cos = k0_pay5 cos := rfl
theorem odd_sin : k0_pay23 (F := Ideal) sin = k0_pay5 sin := rfl
theorem odd_0 : k0_pay24 (F := Ideal) cos sin y g s = k0_pay8 (k0_pay5 cos) (k0_pay5 sin) y g s := rfl
theorem odd_1 : k0_pay25 (F := Ideal) cos sin y g s = k0_pay8 cos sin y g s := rfl
theorem odd_2 : k0_pay28 (F := Ideal) cos sin (k0_pay26 y) (k0_pay27 g) s = k0_pay8 cos sin y g s := rfl
theorem odd_3 : k0_pay29 (F := Ideal) cos sin y g s = k0_pay8 cos sin y g s := rfl
theorem odd_4 : k0_pay31 (F := Ideal) cos sin y (k0_pay30 y) g s = k0_pay8 cos sin y g s := rfl
theorem odd_5 : k0_pay35 (F := Ideal) (k0_pay33 cos y g) (k0_pay34 sin y g) s = k0_pay8 cos sin y g s := rfl
theorem odd_6 : k0_pay36 (F := Ideal) cos sin y g s = k0_pay8 cos sin y g s := rfl
theorem odd_7 : k0_pay3 (F := Ideal) cos sin y (k0_pay37 y) g s = k0_pay8 cos sin y g s := rfl

end

/-- The output block over the product the point before left. -/
def outAt (y : Vec Ideal S256x1024 .f32) (g s : Vec Ideal S1x1024 .f32) (cos sin : Vec Ideal S256x128 .f32) (r : Fin 256) (e : Fin 1024) : EReal :=
  turned (fun d => y (ix2 r (lane e d))) (fun d => g (ix2 0 (lane e d))) (fun d => s (ix2 0 (lane e d)))
    (fun d => cos (ix2 r d)) (fun d => sin (ix2 r d)) ⟨(e : ℕ) % 128, by omega⟩

variable (c : Dev nD) (i : grid0.Coords)
variable (arg1 : Memref sig .tc .vmem S256x4096 .bf16) (harg1 : arg1.IsWhole)
variable (arg2 : Memref sig .tc .vmem S4096x1024 .bf16) (harg2 : arg2.IsWhole)
variable (arg3 : Memref sig .tc .vmem S1x1024 .f32) (harg3 : arg3.IsWhole)
variable (arg4 : Memref sig .tc .vmem S1x1024 .f32) (harg4 : arg4.IsWhole)
variable (arg5 : Memref sig .tc .vmem S256x128 .f32) (harg5 : arg5.IsWhole)
variable (arg6 : Memref sig .tc .vmem S256x128 .f32) (harg6 : arg6.IsWhole)
variable (arg7 : Memref sig .tc .vmem S256x1024 .bf16) (harg7 : arg7.IsWhole)
variable (arg8 : Memref sig .tc .vmem S256x1024 .f32) (harg8 : arg8.IsWhole)
variable (arg9 : Memref sig .tc .vmem S256x1024 .f32) (harg9 : arg9.IsWhole)

/-- One head's piece, over the blocks its operands are cut from. -/
theorem head_at (old : Memref sig .tc .vmem S256x1024 .f32) (hold : old.IsWhole) (k : ℕ)
    (iy : ∀ a, (![0, 128 * k] : Fin 2 → ℕ) a + S256x128.size a ≤ S256x1024.size a)
    (ig : ∀ a, (![0, 128 * k] : Fin 2 → ℕ) a + S1x128.size a ≤ S1x1024.size a)
    (y : Vec Ideal S256x1024 .f32) (g s : Vec Ideal S1x1024 .f32) (cos sin : Vec Ideal S256x128 .f32)
    (x : S256x128.Idx) (r : Fin 256) (e : Fin 1024) (h0 : (r : ℕ) = x 0) (h1 : (e : ℕ) = 128 * k + (x 1 : ℕ)) :
    (k0_pay8 (F := Ideal) (k0_pay5 (View.readAt (Elt Ideal) arg5.view (Rect.unit (s := S256x128) ![0, 0] S256x128.size inb_S256x128_S256x128_0_0).toLoadRect (harg5.unread cos)))
      (k0_pay5 (View.readAt (Elt Ideal) arg6.view (Rect.unit (s := S256x128) ![0, 0] S256x128.size inb_S256x128_S256x128_0_0).toLoadRect (harg6.unread sin)))
      (View.readAt (Elt Ideal) old.view (Rect.unit (s := S256x1024) ![0, 128 * k] S256x128.size iy).toLoadRect (hold.unread y))
      (View.readAt (Elt Ideal) arg3.view (Rect.unit (s := S1x1024) ![0, 128 * k] S1x128.size ig).toLoadRect (harg3.unread g))
      (View.readAt (Elt Ideal) arg4.view (Rect.unit (s := S1x1024) ![0, 128 * k] S1x128.size ig).toLoadRect (harg4.unread s)) x : EReal)
      = outAt y g s cos sin r e := by
  obtain rfl : x 0 = r := Fin.ext h0.symm
  have hl : (x 1 : ℕ) < 128 := (x 1).isLt
  have hx : x = ix2 (x 0) (x 1) := by funext b; fin_cases b <;> rfl
  rw [hx]
  refine (head_read _ _ _ _ _ (x 0) (x 1)).trans ?_
  have hd : (e : ℕ) / 128 = k := by omega
  have hm : (⟨(e : ℕ) % 128, by omega⟩ : Fin 128) = x 1 := Fin.ext (show (e : ℕ) % 128 = (x 1 : ℕ) by omega)
  unfold outAt
  rw [hm]
  have hy : ∀ d : Fin 128, View.readAt (Elt Ideal) old.view (Rect.unit (s := S256x1024) ![0, 128 * k] S256x128.size iy).toLoadRect (hold.unread y) (ix2 (x 0) d)
      = y (ix2 (x 0) (lane e d)) := fun d => by
    rw [hold.readAt_unread]
    refine congrArg y (funext fun b => ?_)
    fin_cases b <;> ext <;> simp [hd]
  have hg : ∀ d : Fin 128, View.readAt (Elt Ideal) arg3.view (Rect.unit (s := S1x1024) ![0, 128 * k] S1x128.size ig).toLoadRect (harg3.unread g) (ix2 0 d)
      = g (ix2 0 (lane e d)) := fun d => by
    rw [harg3.readAt_unread]
    refine congrArg g (funext fun b => ?_)
    fin_cases b <;> ext <;> simp [hd]
  have hs : ∀ d : Fin 128, View.readAt (Elt Ideal) arg4.view (Rect.unit (s := S1x1024) ![0, 128 * k] S1x128.size ig).toLoadRect (harg4.unread s) (ix2 0 d)
      = s (ix2 0 (lane e d)) := fun d => by
    rw [harg4.readAt_unread]
    refine congrArg s (funext fun b => ?_)
    fin_cases b <;> ext <;> simp [hd]
  have hc : ∀ d : Fin 128, k0_pay5 (View.readAt (Elt Ideal) arg5.view (Rect.unit (s := S256x128) ![0, 0] S256x128.size inb_S256x128_S256x128_0_0).toLoadRect (harg5.unread cos)) (ix2 (x 0) d) = cos (ix2 (x 0) d) := fun d => by
    refine (cast_read _ (x 0) d).trans ((harg5.readAt_unread _ _ _).trans ?_)
    refine congrArg cos (funext fun b => ?_)
    fin_cases b <;> ext <;> simp
  have hn : ∀ d : Fin 128, k0_pay5 (View.readAt (Elt Ideal) arg6.view (Rect.unit (s := S256x128) ![0, 0] S256x128.size inb_S256x128_S256x128_0_0).toLoadRect (harg6.unread sin)) (ix2 (x 0) d) = sin (ix2 (x 0) d) := fun d => by
    refine (cast_read _ (x 0) d).trans ((harg6.readAt_unread _ _ _).trans ?_)
    refine congrArg sin (funext fun b => ?_)
    fin_cases b <;> ext <;> simp
  simp only [hy, hg, hs, hc, hn]
  rfl

/-! ## The output, after an even point and after an odd one -/

theorem out_C (hc0 hc1 hc2) (x0 x1 x2 x3 x4 x5 xs) (r : Fin 256) (e : Fin 1024) :
    (out0_C_6 (F := Ideal) c i arg1 harg1 arg2 harg2 arg3 harg3 arg4 harg4 arg5 harg5 arg6 harg6 arg7 harg7 arg8 harg8 arg9 harg9 hc0 hc1 hc2 x0 x1 x2 x3 x4 x5 xs (ix2 r e) : EReal)
      = outAt xs x2 x3 x4 x5 r e := by
  have at_ := fun k => head_at arg3 harg3 arg4 harg4 arg5 harg5 arg6 harg6 arg9 harg9 k
  rw [out0_C_6, View.read_writes_junk_eq_canon]
  unfold kernelRun0_C
  canon_tiles <;> simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, even_sin, even_0, even_2, even_3, even_4, even_5, even_6, even_7]
  · exact at_ 7 _ _ xs x2 x3 x4 x5 x r e h0 h1
  · exact at_ 6 _ _ xs x2 x3 x4 x5 x r e h0 h1
  · exact at_ 5 _ _ xs x2 x3 x4 x5 x r e h0 h1
  · exact at_ 4 _ _ xs x2 x3 x4 x5 x r e h0 h1
  · exact at_ 3 _ _ xs x2 x3 x4 x5 x r e h0 h1
  · exact at_ 2 _ _ xs x2 x3 x4 x5 x r e h0 h1
  · exact at_ 1 _ _ xs x2 x3 x4 x5 x r e h0 h1
  · exact at_ 0 _ _ xs x2 x3 x4 x5 x r e h0 (h1.trans (Nat.zero_add _).symm)

theorem out_B (hc0 hc1 hc2) (x0 x1 x2 x3 x4 x5 xs) (r : Fin 256) (e : Fin 1024) :
    (out0_B_6 (F := Ideal) c i arg1 harg1 arg2 harg2 arg3 harg3 arg4 harg4 arg5 harg5 arg6 harg6 arg7 harg7 arg8 harg8 arg9 harg9 hc0 hc1 hc2 x0 x1 x2 x3 x4 x5 xs (ix2 r e) : EReal)
      = outAt xs x2 x3 x4 x5 r e := by
  have at_ := fun k => head_at arg3 harg3 arg4 harg4 arg5 harg5 arg6 harg6 arg8 harg8 k
  rw [out0_B_6, View.read_writes_junk_eq_canon]
  unfold kernelRun0_B
  canon_tiles <;> simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, odd_cos, odd_sin, odd_0, odd_1, odd_2, odd_3, odd_4, odd_5, odd_6, odd_7]
  · exact at_ 7 _ _ xs x2 x3 x4 x5 x r e h0 h1
  · exact at_ 6 _ _ xs x2 x3 x4 x5 x r e h0 h1
  · exact at_ 5 _ _ xs x2 x3 x4 x5 x r e h0 h1
  · exact at_ 4 _ _ xs x2 x3 x4 x5 x r e h0 h1
  · exact at_ 3 _ _ xs x2 x3 x4 x5 x r e h0 h1
  · exact at_ 2 _ _ xs x2 x3 x4 x5 x r e h0 h1
  · exact at_ 1 _ _ xs x2 x3 x4 x5 x r e h0 h1
  · exact at_ 0 _ _ xs x2 x3 x4 x5 x r e h0 (h1.trans (Nat.zero_add _).symm)

/-- The product a point leaves in the scratch it writes. -/
def prod (x : Vec Ideal S256x4096 .bf16) (w : Vec Ideal S4096x1024 .bf16) (r : Fin 256) (e : Fin 1024) : EReal :=
  ∑ k : Fin 4096, (x (ix2 r k) : EReal) * w (ix2 k e)

theorem prod_at (x0 : Vec Ideal S256x4096 .bf16) (x1 : Vec Ideal S4096x1024 .bf16) (x : S256x1024.Idx)
    (r : Fin 256) (e : Fin 1024) (h0 : (r : ℕ) = x 0) (h1 : (e : ℕ) = x 1) :
    (k0_pay4 (F := Ideal) (View.readAt (Elt Ideal) arg1.view (Rect.unit ![0, 0] S256x4096.size inb_S256x4096_S256x4096_0_0).toLoadRect (harg1.unread x0))
      (View.readAt (Elt Ideal) arg2.view (Rect.unit ![0, 0] S4096x1024.size inb_S4096x1024_S4096x1024_0_0).toLoadRect (harg2.unread x1)) x : EReal)
      = prod x0 x1 r e := by
  obtain rfl : x 0 = r := Fin.ext h0.symm
  obtain rfl : x 1 = e := Fin.ext h1.symm
  have hx : x = ix2 (x 0) (x 1) := by funext b; fin_cases b <;> rfl
  rw [hx]
  have h : ∀ (u : Vec Ideal S256x4096 .bf16) (w : Vec Ideal S4096x1024 .bf16) (r : Fin 256) (e : Fin 1024), (k0_pay4 (F := Ideal) u w (ix2 r e) : EReal) = prod u w r e := by
    intro u w r e
    pointwise [k0_pay4, prod]
  refine (h _ _ (x 0) (x 1)).trans (Finset.sum_congr rfl fun k _ => ?_)
  rw [harg1.readAt_unread, harg2.readAt_unread]
  refine congrArg₂ (fun a b : EReal => a * b) (congrArg x0 (funext fun b => ?_)) (congrArg x1 (funext fun b => ?_))
  · fin_cases b <;> ext <;> simp
  · fin_cases b <;> ext <;> simp

theorem scratch_A (hc0 hc1 hc2) (x0 x1 x2 x3 x4 x5) (r : Fin 256) (e : Fin 1024) :
    (sout0_A_0 (F := Ideal) c i arg1 harg1 arg2 harg2 arg3 harg3 arg4 harg4 arg5 harg5 arg6 harg6 arg7 harg7 arg8 harg8 arg9 harg9 hc0 hc1 hc2 x0 x1 x2 x3 x4 x5 (ix2 r e) : EReal)
      = prod x0 x1 r e := by
  rw [sout0_A_0, View.read_writes_junk_eq_canon]
  unfold kernelRun0_A
  canon_tiles
  exact prod_at arg1 harg1 arg2 harg2 x0 x1 x r e h0 h1

theorem scratch_C (hc0 hc1 hc2) (x0 x1 x2 x3 x4 x5 xs) (r : Fin 256) (e : Fin 1024) :
    (sout0_C_0 (F := Ideal) c i arg1 harg1 arg2 harg2 arg3 harg3 arg4 harg4 arg5 harg5 arg6 harg6 arg7 harg7 arg8 harg8 arg9 harg9 hc0 hc1 hc2 x0 x1 x2 x3 x4 x5 xs (ix2 r e) : EReal)
      = prod x0 x1 r e := by
  rw [sout0_C_0, View.read_writes_junk_eq_canon]
  unfold kernelRun0_C
  canon_tiles
  exact prod_at arg1 harg1 arg2 harg2 x0 x1 x r e h0 h1

theorem scratch_B (hc0 hc1 hc2) (x0 x1 x2 x3 x4 x5 xs) (r : Fin 256) (e : Fin 1024) :
    (sout0_B_1 (F := Ideal) c i arg1 harg1 arg2 harg2 arg3 harg3 arg4 harg4 arg5 harg5 arg6 harg6 arg7 harg7 arg8 harg8 arg9 harg9 hc0 hc1 hc2 x0 x1 x2 x3 x4 x5 xs (ix2 r e) : EReal)
      = prod x0 x1 r e := by
  rw [sout0_B_1, View.read_writes_junk_eq_canon]
  unfold kernelRun0_B
  canon_tiles
  exact prod_at arg1 harg1 arg2 harg2 x0 x1 x r e h0 h1

end Cert.Proof.Qk.Context

end
-- ==== Proof.Qk.ContextHost.lean ====
/- The projection of the context's keys: what the host operations before the kernel leave in its input arrays, and the reference
   at an index. The weights, the gains and the scales are those of the sequence's projection; the tables turn nothing. -/
module

public import proofs.«01_k».proof.Proof.Gen.Kernel10Ideal.Frame
public import proofs.«01_k».proof.Proof.Gen.Reference10Ideal.Run
public import proofs.«01_k».proof.Proof.Qk.Host

@[expose] public section

set_option maxRecDepth 16384

noncomputable section

namespace Cert.Proof.Qk.Context

open Idealize.ShloMosaic Idealize.ShloMosaic.TcCoe

/-- With the cosines one, the sines zero and the scale one a head is only normed. -/
theorem turned_still (y g : Fin 128 → EReal) (l : Fin 128) :
    turned y g (fun _ => Ideal.ofBits .f32 0x3F800000#32) (fun _ => Ideal.ofBits .f32 0x3F800000#32) (fun _ => Ideal.ofBits .f32 0x00000000#32) l
      = normed y g l := by
  rw [turned, Ideal.ofBits_one_f32, Ideal.ofBits_zero, mul_one, mul_zero, add_zero, mul_one]

/-! ## The reference -/

section
open Cert.Reference10Ideal Cert.Reference10Ideal.Gen

/-- Head `h` of the keys' product at a batch and a position. -/
def head (x : FVec Ideal S2x256x4096 .f32) (w : FVec Ideal S4096x6144 .f32) (b : Fin 2) (n : Fin 256) (h : Fin 8) (d : Fin 128) : EReal :=
  ∑ k : Fin 4096, (x (ix3 b n k) : EReal) * w (ix2 k ⟨4096 + ((h : ℕ) * 128 + d), by omega⟩)

/-- The keys' columns of the product, head by head. -/
def part (x : FVec Ideal S2x256x4096 .f32) (w : FVec Ideal S4096x6144 .f32) : FVec Ideal S2x256x8x128 .f32 :=
  shapeCast _ (extractStridedSlice S2x256x1024 ![0, 0, 0] (Host.dotGeneral dot_S2x256x4096_S4096x2048_S2x256x2048_2_0_01_1_n_n none x
    (extractStridedSlice S4096x2048 ![0, 4096] w facts.slices_S4096x6144_S4096x2048_0_4096)) facts.slices_S2x256x2048_S2x256x1024_0_0_0)
    facts.shapeCasts_S2x256x1024_S2x256x8x128

/-- Every head over the root of the mean of its squares, times the gain. -/
def norm (t : FVec Ideal S2x256x8x128 .f32) (g : FVec Ideal S128 .f32) : FVec Ideal S2x256x8x128 .f32 :=
  mulf (mulf t (broadcastInDim S2x256x8x128 ![0, 1, 2, 3] facts.bcast_S2x256x8x1_S2x256x8x128_0_1_2_3 (Host.rsqrt (addf
      (Host.divf (broadcastInDim S2x256x8x1 ![0, 1, 2] facts.bcast_S2x256x8_S2x256x8x1_0_1_2
          (Host.reduceAdd (mulf t t) (constant S_ .f32 0x00000000#32) facts.reducesTo_S2x256x8x128_S2x256x8_d3 facts.h_S_))
        (broadcastInDim S2x256x8x1 ![] facts.bcast_S_S2x256x8x1 (constant S_ .f32 0x43000000#32)))
      (broadcastInDim S2x256x8x1 ![] facts.bcast_S_S2x256x8x1 (constant S_ .f32 0x358637BD#32))))))
    (broadcastInDim S2x256x8x128 ![0, 1, 2, 3] facts.bcast_S1x1x1x128_S2x256x8x128_0_1_2_3 (broadcastInDim S1x1x1x128 ![3] facts.bcast_S128_S1x1x1x128_3 g))

/-- The keys, from the reference's arguments. -/
def result (x : FVec Ideal S2x256x4096 .f32) (w : FVec Ideal S4096x6144 .f32) (g : FVec Ideal S128 .f32) : FVec Ideal S2x256x8x128 .f32 :=
  norm (part x w) g

theorem part_read (x : FVec Ideal S2x256x4096 .f32) (w : FVec Ideal S4096x6144 .f32) (b : Fin 2) (n : Fin 256) (h : Fin 8) (d : Fin 128) :
    (part x w (ix4 b n h d) : EReal) = head x w b n h d := by
  pointwise [part, head]

theorem norm_read (t : FVec Ideal S2x256x8x128 .f32) (g : FVec Ideal S128 .f32) (b : Fin 2) (n : Fin 256) (h : Fin 8) (d : Fin 128) :
    (norm t g (ix4 b n h d) : EReal) = normed (fun x => t (ix4 b n h x)) (fun x => g (ix1 x)) d := by
  pointwise [norm, normed]

theorem result_read (x : FVec Ideal S2x256x4096 .f32) (w : FVec Ideal S4096x6144 .f32) (g : FVec Ideal S128 .f32)
    (b : Fin 2) (n : Fin 256) (h : Fin 8) (d : Fin 128) :
    (result x w g (ix4 b n h d) : EReal) = normed (head x w b n h) (fun x => g (ix1 x)) d :=
  (norm_read _ g b n h d).trans (congrArg (fun u => normed u _ d) (funext fun l => part_read x w b n h l))

end

/-! ## The host operations -/

open Cert.Kernel10Ideal Cert.Kernel10Ideal.Gen

variable (m : (ℓ : Loc nD τ sig) → Buf (Elt Ideal) ℓ) (c : Dev nD)

abbrev argX : FVec Ideal S2x256x4096 .f32 := m ((c.tc : Thread nD τ).loc main_arg0)
abbrev argW : FVec Ideal S4096x6144 .f32 := m ((c.tc : Thread nD τ).loc main_arg1)
abbrev argGq : FVec Ideal S128 .f32 := m ((c.tc : Thread nD τ).loc main_arg2)
abbrev argGk : FVec Ideal S128 .f32 := m ((c.tc : Thread nD τ).loc main_arg3)

/-- The rows of both batches. -/
def rows (x : FVec Ideal S2x256x4096 .f32) : FVec Ideal S512x4096 .bf16 :=
  truncf .bf16 (shapeCast S512x4096 x shapeCasts_S2x256x4096_S512x4096) bitsLt_bf16_f32

theorem rows_read (x : FVec Ideal S2x256x4096 .f32) (n : Fin 512) (k : Fin 4096) :
    (rows x (ix2 n k) : EReal) = x (ix3 ⟨(n : ℕ) / 256, by omega⟩ ⟨(n : ℕ) % 256, by omega⟩ k) := by
  pointwise [rows]

theorem host_rows : (show Vec Ideal S512x4096 .bf16 from V m c main_v27) = rows (argX m c) := by
  show StableHlo.after hostOps0 _ _ = _
  after_results_simp <;> (try dsimp only [Matrix.cons_val]) <;> (try after_results_simp) <;> rfl

theorem host_weights : (show Vec Ideal S4096x5120 .bf16 from V m c main_v4) = weights (argW m c) := by
  show StableHlo.after hostOps0 _ _ = _
  after_results_simp <;> (try dsimp only [Matrix.cons_val]) <;> (try after_results_simp) <;> rfl

theorem host_gain : (show Vec Ideal S1x5120 .f32 from V m c main_v15) = paired (tiled (argGq m c) (argGk m c)) := by
  entry_read
  rfl

theorem host_scales : (show Vec Ideal S1x5120 .f32 from V m c main_v23) = scales := by
  show StableHlo.after hostOps0 _ _ = _
  after_results_simp <;> (try dsimp only [Matrix.cons_val]) <;> (try after_results_simp) <;> rfl

/-- A table of one number. -/
def flat (b : BitVec 32) : FVec Ideal S256x128 .f32 := broadcastInDim S256x128 ![] bcast_S_S256x128 (constant (F := Ideal) S_ .f32 b)

theorem flat_read (b : BitVec 32) (r : Fin 256) (l : Fin 128) : (flat b (ix2 r l) : EReal) = Ideal.ofBits .f32 b := by
  pointwise [flat]

theorem host_cos : (show Vec Ideal S256x128 .f32 from V m c main_v24) = flat 0x3F800000#32 := by
  show StableHlo.after hostOps0 _ _ = _
  after_results_simp <;> (try dsimp only [Matrix.cons_val]) <;> (try after_results_simp) <;> rfl

theorem host_sin : (show Vec Ideal S256x128 .f32 from V m c main_v25) = flat 0x00000000#32 := by
  show StableHlo.after hostOps0 _ _ = _
  after_results_simp <;> (try dsimp only [Matrix.cons_val]) <;> (try after_results_simp) <;> rfl

end Cert.Proof.Qk.Context

end
-- ==== Proof.Qk.ContextFinal.lean ====
/- The array of the context's keys, entry by entry, and the host operations after the kernel. Two tiles of rows, and so three
   grid points: each but the first writes the heads of the product the point before left. -/
module

public import proofs.«01_k».proof.Proof.Qk.ContextBlock
public import proofs.«01_k».proof.Proof.Qk.ContextHost

@[expose] public section

set_option maxRecDepth 16384

noncomputable section

namespace Cert.Proof.Qk.Context

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem lt_N (t : Fin cfg0.N) : (t : ℕ) < 3 := t.isLt

/-- The tile a grid point multiplies, and the tile it writes. -/
abbrev rowIn (t : Fin cfg0.N) : Fin 2 := ⟨min (t : ℕ) 1, by omega⟩
abbrev rowOut (t : Fin cfg0.N) : Fin 2 := ⟨(t : ℕ) - 1, by have := lt_N t; omega⟩

theorem idx : ∀ t : Fin cfg0.N,
    win0_0.index t = ![(rowIn t : ℕ), 0]
    ∧ win0_1.index t = ![0, 4]
    ∧ win0_2.index t = ![0, 4]
    ∧ win0_3.index t = ![0, 4]
    ∧ win0_4.index t = ![0, 0]
    ∧ win0_5.index t = ![0, 0]
    ∧ win0_6.index t = ![(rowOut t : ℕ), 0] :=
  (by decide +kernel : ∀ t : Fin grid0.N, _)

/-! ## The blocks -/

/-- The keys' column of the weights. -/
abbrev keyCol (e : Fin 1024) : Fin 5120 := ⟨4096 + (e : ℕ), by omega⟩

theorem read_x (A : Vec Ideal S512x4096 .bf16) (t : Fin cfg0.N) (r : Fin 256) (k : Fin 4096) :
    ((show Vec Ideal S256x4096 .bf16 from ((cfg0.win 0).blk t).view.read (Elt Ideal) A) (ix2 r k) : EReal)
      = A (ix2 ⟨256 * (rowIn t : ℕ) + r, by omega⟩ k) := by
  have h : ((cfg0.win 0).blk t).view.emb (ix2 r k) = ix2 ⟨256 * (rowIn t : ℕ) + r, by omega⟩ k := by
    blk_ext [idx t]
  exact congrArg A h

theorem read_w (A : Vec Ideal S4096x5120 .bf16) (t : Fin cfg0.N) (k : Fin 4096) (e : Fin 1024) :
    ((show Vec Ideal S4096x1024 .bf16 from ((cfg0.win 1).blk t).view.read (Elt Ideal) A) (ix2 k e) : EReal) = A (ix2 k (keyCol e)) := by
  have h : ((cfg0.win 1).blk t).view.emb (ix2 k e) = ix2 k (keyCol e) := by
    blk_ext [idx t]
  exact congrArg A h

theorem read_gain (A : Vec Ideal S1x5120 .f32) (t : Fin cfg0.N) (e : Fin 1024) :
    ((show Vec Ideal S1x1024 .f32 from ((cfg0.win 2).blk t).view.read (Elt Ideal) A) (ix2 0 e) : EReal) = A (ix2 0 (keyCol e)) := by
  have h : ((cfg0.win 2).blk t).view.emb (ix2 0 e) = ix2 0 (keyCol e) := by
    blk_ext [idx t]
  exact congrArg A h

theorem read_scale (A : Vec Ideal S1x5120 .f32) (t : Fin cfg0.N) (e : Fin 1024) :
    ((show Vec Ideal S1x1024 .f32 from ((cfg0.win 3).blk t).view.read (Elt Ideal) A) (ix2 0 e) : EReal) = A (ix2 0 (keyCol e)) := by
  have h : ((cfg0.win 3).blk t).view.emb (ix2 0 e) = ix2 0 (keyCol e) := by
    blk_ext [idx t]
  exact congrArg A h

theorem read_cos (A : Vec Ideal S256x128 .f32) (t : Fin cfg0.N) (r : Fin 256) (l : Fin 128) :
    ((show Vec Ideal S256x128 .f32 from ((cfg0.win 4).blk t).view.read (Elt Ideal) A) (ix2 r l) : EReal) = A (ix2 r l) := by
  have h : ((cfg0.win 4).blk t).view.emb (ix2 r l) = ix2 r l := by
    blk_ext [idx t]
  exact congrArg A h

theorem read_sin (A : Vec Ideal S256x128 .f32) (t : Fin cfg0.N) (r : Fin 256) (l : Fin 128) :
    ((show Vec Ideal S256x128 .f32 from ((cfg0.win 5).blk t).view.read (Elt Ideal) A) (ix2 r l) : EReal) = A (ix2 r l) := by
  have h : ((cfg0.win 5).blk t).view.emb (ix2 r l) = ix2 r l := by
    blk_ext [idx t]
  exact congrArg A h

/-! ## The product a point leaves for the next -/

/-- The product of a point's blocks. -/
abbrev made (t : Fin cfg0.N) (r : Fin 256) (e : Fin 1024) : EReal := prod (iblk m c 0 t) (iblk m c 1 t) r e

theorem left_even (t : Fin cfg0.N) (ht : (t : ℕ) % 2 = 0) (r : Fin 256) (e : Fin 1024) :
    ((outsAt0 m c t.val t.isLt).2.1 (ix2 r e) : EReal) = made m c t r e := by
  have hN := lt_N t
  by_cases h0 : (t : ℕ) % 3 = 0
  · rw [outsAt0_A m c t h0 ht (by omega)]
    dsimp only
    exact scratch_A c _ _ _ _ _ _ _ _ _ _ _ _ _ _ _ _ _ _ _ _ _ _ _ _ _ _ _ _ r e
  · rw [outsAt0_C m c t h0 ht (by omega)]
    dsimp only
    exact scratch_C c _ _ _ _ _ _ _ _ _ _ _ _ _ _ _ _ _ _ _ _ _ _ _ _ _ _ _ _ _ r e

theorem left_odd (t : Fin cfg0.N) (ht : (t : ℕ) % 2 = 1) (r : Fin 256) (e : Fin 1024) :
    ((outsAt0 m c t.val t.isLt).2.2 (ix2 r e) : EReal) = made m c t r e := by
  have hN := lt_N t
  rw [outsAt0_B m c t (by omega) (by omega) (by omega)]
  dsimp only
  exact scratch_B c _ _ _ _ _ _ _ _ _ _ _ _ _ _ _ _ _ _ _ _ _ _ _ _ _ _ _ _ _ r e

/-- The point before. -/
abbrev before (t : Fin cfg0.N) : Fin cfg0.N := ⟨(t : ℕ) - 1, Nat.lt_of_le_of_lt (Nat.sub_le _ _) t.isLt⟩

/-- What a point after the first writes: the heads of the product of the blocks of the point before. -/
theorem written (t : Fin cfg0.N) (ht : 1 ≤ (t : ℕ)) (r : Fin 256) (e : Fin 1024) :
    ∃ y : Vec Ideal S256x1024 .f32, (∀ r e, (y (ix2 r e) : EReal) = made m c (before t) r e)
      ∧ ((outsAt0 m c t.val t.isLt).1 (ix2 r e) : EReal) = outAt y (iblk m c 2 t) (iblk m c 3 t) (iblk m c 4 t) (iblk m c 5 t) r e := by
  have hN := lt_N t
  rcases Nat.mod_two_eq_zero_or_one (t : ℕ) with h | h
  · refine ⟨_, left_odd m c (before t) (by show ((t : ℕ) - 1) % 2 = 1; omega), ?_⟩
    have hs := outsAt0_C m c t (by omega) h (by omega)
    rw [hs]
    dsimp only
    exact out_C c _ _ _ _ _ _ _ _ _ _ _ _ _ _ _ _ _ _ _ _ _ _ _ _ _ _ _ _ _ r e
  · refine ⟨_, left_even m c (before t) (by show ((t : ℕ) - 1) % 2 = 0; omega), ?_⟩
    have hs := outsAt0_B m c t (by omega) (by omega) (by omega)
    rw [hs]
    dsimp only
    exact out_B c _ _ _ _ _ _ _ _ _ _ _ _ _ _ _ _ _ _ _ _ _ _ _ _ _ _ _ _ _ r e

/-! ## The output block, over the arguments -/

/-- The row of the result that a point's output block keeps at `r`; the batch and the position of a row, the head and the lane
    of a column. -/
abbrev rowAt (t : Fin cfg0.N) (r : Fin 256) : Fin 512 := ⟨256 * (rowOut t : ℕ) + r, by omega⟩
abbrev batchOf (n : Fin 512) : Fin 2 := ⟨(n : ℕ) / 256, by omega⟩
abbrev posOf (n : Fin 512) : Fin 256 := ⟨(n : ℕ) % 256, by omega⟩
abbrev headOf (e : Fin 1024) : Fin 8 := ⟨(e : ℕ) / 128, by omega⟩
abbrev laneOf (e : Fin 1024) : Fin 128 := ⟨(e : ℕ) % 128, by omega⟩

theorem exchanged_at (e : Fin 1024) (d : Fin 128) :
    (exchanged (keyCol (lane e d)) : ℕ) = 4096 + ((headOf e : ℕ) * 128 + (pair d : ℕ)) := by
  have hd := d.isLt
  show (4096 + (128 * ((e : ℕ) / 128) + (d : ℕ))) / 128 * 128 + (4096 + (128 * ((e : ℕ) / 128) + (d : ℕ))) / 32 % 2 * 64
      + (4096 + (128 * ((e : ℕ) / 128) + (d : ℕ))) / 64 % 2 * 32 + (4096 + (128 * ((e : ℕ) / 128) + (d : ℕ))) % 32
    = 4096 + ((e : ℕ) / 128 * 128 + (64 * ((d : ℕ) / 32 % 2) + 32 * ((d : ℕ) / 64) + (d : ℕ) % 32))
  omega

theorem made_eq (t : Fin cfg0.N) (ht : 1 ≤ (t : ℕ)) (r : Fin 256) (e : Fin 1024) (d : Fin 128) :
    made m c (before t) r (lane e d) = head (argX m c) (argW m c) (batchOf (rowAt t r)) (posOf (rowAt t r)) (headOf e) (pair d) := by
  have hN := lt_N t
  have hr : (⟨256 * (rowIn (before t) : ℕ) + r, by omega⟩ : Fin 512) = rowAt t r := Fin.ext (by
    show 256 * (min ((t : ℕ) - 1) 1) + (r : ℕ) = 256 * ((t : ℕ) - 1) + r
    omega)
  refine Finset.sum_congr rfl fun k _ => congrArg₂ (fun a b : EReal => a * b) ?_ ?_
  · refine ((read_x (V m c main_v27) (before t) r k).trans (congrArg (fun n => (show Vec Ideal S512x4096 .bf16 from V m c main_v27) (ix2 n k)) hr)).trans ?_
    exact (congrFun (host_rows m c) _).trans (rows_read _ (rowAt t r) k)
  · refine (read_w (V m c main_v4) (before t) k (lane e d)).trans ((congrFun (host_weights m c) _).trans ?_)
    exact (weights_read _ k (keyCol (lane e d))).trans (congrArg (fun n => argW m c (ix2 k n)) (Fin.ext (exchanged_at e d)))

theorem gain_eq (t : Fin cfg0.N) (e : Fin 1024) (d : Fin 128) :
    ((show Vec Ideal S1x1024 .f32 from iblk m c 2 t) (ix2 0 (lane e d)) : EReal) = argGk m c (ix1 (pair d)) := by
  have hx := exchanged_at e d
  have hp := (pair d).isLt
  refine (read_gain (V m c main_v15) t (lane e d)).trans ?_
  rw [show V m c main_v15 = paired (tiled (argGq m c) (argGk m c)) from host_gain m c]
  refine (paired_read _ (keyCol (lane e d))).trans ((tiled_read _ _ _).trans ?_)
  rw [if_neg (by omega)]
  have hm : (exchanged (keyCol (lane e d)) : ℕ) % 128 = (pair d : ℕ) := by omega
  exact congrArg (fun l => argGk m c (ix1 l)) (Fin.ext hm)

theorem scale_eq (t : Fin cfg0.N) (e : Fin 1024) (d : Fin 128) :
    ((show Vec Ideal S1x1024 .f32 from iblk m c 3 t) (ix2 0 (lane e d)) : EReal) = Ideal.ofBits .f32 0x3F800000#32 := by
  refine (read_scale (V m c main_v23) t (lane e d)).trans ((congrFun (host_scales m c) _).trans ((scales_read (keyCol (lane e d))).trans ?_))
  exact dif_neg (Nat.not_lt.mpr (Nat.le_add_right 4096 _))

theorem cos_eq (t : Fin cfg0.N) (r : Fin 256) (l : Fin 128) :
    ((show Vec Ideal S256x128 .f32 from iblk m c 4 t) (ix2 r l) : EReal) = Ideal.ofBits .f32 0x3F800000#32 :=
  (read_cos (V m c main_v24) t r l).trans ((congrFun (host_cos m c) _).trans (flat_read _ r l))

theorem sin_eq (t : Fin cfg0.N) (r : Fin 256) (l : Fin 128) :
    ((show Vec Ideal S256x128 .f32 from iblk m c 5 t) (ix2 r l) : EReal) = Ideal.ofBits .f32 0x00000000#32 :=
  (read_sin (V m c main_v25) t r l).trans ((congrFun (host_sin m c) _).trans (flat_read _ r l))

/-- The array over the kernel's arguments: every head normed, in the kernel's order of the lanes. -/
def goal : FVec Ideal S512x1024 .bf16 := fun y =>
  normed (head (argX m c) (argW m c) (batchOf (y 0)) (posOf (y 0)) (headOf (y 1))) (fun d => argGk m c (ix1 d)) (pair (laneOf (y 1)))

/-- What a point after the first writes is that array's block. -/
theorem point (t : Fin cfg0.N) (ht : 1 ≤ (t : ℕ)) (r : Fin 256) (e : Fin 1024) :
    ((outsAt0 m c t.val t.isLt).1 (ix2 r e) : EReal) = goal m c (ix2 (rowAt t r) e) := by
  obtain ⟨y, hy, hout⟩ := written m c t ht r e
  refine hout.trans ?_
  show _ = normed (head (argX m c) (argW m c) (batchOf (rowAt t r)) (posOf (rowAt t r)) (headOf e)) (fun d => argGk m c (ix1 d)) (pair (laneOf e))
  unfold outAt
  simp only [hy, made_eq m c t ht]
  rw [← normed_pair, ← turned_still]
  exact congrFun (congr (congr (congr (congrArg (turned _) (funext fun d => gain_eq m c t e d)) (funext fun d => scale_eq m c t e d))
    (funext fun l => cos_eq m c t r l)) (funext fun l => sin_eq m c t r l)) _

/-! ## The result array -/

/-- The output's blocks tile its array. -/
theorem covers : (cfg0.win 6).Covers :=
  (cfg0.win 6).covers_of_index_surj rfl (by decide) fun β => by
    have h0 : (β 0 : ℕ) < 2 := (β 0).isLt
    refine ⟨⟨(β 0 : ℕ) + 1, by show _ < 3; omega⟩, fun a => (congrFun (idx _).2.2.2.2.2.2 a).trans ?_⟩
    fin_cases a
    · rfl
    · exact (Nat.lt_one_iff.mp (β 1).isLt).symm

theorem blk_out (t : Fin cfg0.N) (r : Fin 256) (e : Fin 1024) : ((cfg0.win 6).blk t).view.emb (ix2 r e) = ix2 (rowAt t r) e := by
  blk_ext [idx t]

/-- The first point's block is not yet written back. -/
theorem pos_of_flush : ∀ t : Fin cfg0.N, (cfg0.win 6).flush t = true → 1 ≤ (t : ℕ) :=
  (by decide +kernel : ∀ t : Fin grid0.N, _)

/-- After the run the kernel's array is `goal`. -/
theorem final : (dats m 0 c).arrAt 6 cfg0.N = goal m c := by
  refine (dats m 0 c).arrAt_eq_of_covers 6 (goal m c) covers fun t hf y => ?_
  blk_simp
  rw [after0_6]
  have hy : (y : S256x1024.Idx) = ix2 (y 0) (y 1) := by
    funext b; fin_cases b <;> rfl
  rw [hy]
  exact (point m c t (pos_of_flush t hf) (y 0) (y 1)).trans (congrArg (goal m c) (blk_out t (y 0) (y 1))).symm

/-! ## The host operations after the kernel -/

/-- The keys, off the kernel's array with every head's two middle quarters exchanged. -/
def out (o : FVec Ideal S512x1024 .bf16) : FVec Ideal S2x256x8x128 .f32 :=
  extf .f32 (shapeCast S2x256x8x128 (shapeCast S512x1024 (transpose S512x8x2x2x32 [0, 1, 3, 2, 4]
    (shapeCast S512x8x2x2x32 o shapeCasts_S512x1024_S512x8x2x2x32) transposes_S512x8x2x2x32_S512x8x2x2x32_0_1_3_2_4)
    shapeCasts_S512x8x2x2x32_S512x1024) shapeCasts_S512x1024_S2x256x8x128) bitsLt_bf16_f32

/-- The row of a batch and a position; the column of a head and a lane. -/
abbrev rowOf (b : Fin 2) (n : Fin 256) : Fin 512 := ⟨(b : ℕ) * 256 + n, by omega⟩
abbrev colOf (h : Fin 8) (l : Fin 128) : Fin 1024 := ⟨(h : ℕ) * 128 + l, by omega⟩

theorem out_read (o : FVec Ideal S512x1024 .bf16) (b : Fin 2) (n : Fin 256) (h : Fin 8) (l : Fin 128) :
    (out o (ix4 b n h l) : EReal) = o (ix2 (rowOf b n) (colOf h (pair l))) := by
  pointwise [out, rowOf, colOf, pair]
  exact congrArg (fun e => o (ix2 _ e)) (Fin.ext (by
    show (h : ℕ) * 128 + (l : ℕ) / 32 % 2 * 64 + (l : ℕ) / 64 * 32 + (l : ℕ) % 32
      = (h : ℕ) * 128 + (64 * ((l : ℕ) / 32 % 2) + 32 * ((l : ℕ) / 64) + (l : ℕ) % 32)
    omega))

theorem goal_at (b : Fin 2) (n : Fin 256) (h : Fin 8) (l : Fin 128) : (goal m c (ix2 (rowOf b n) (colOf h (pair l))) : EReal)
    = normed (head (argX m c) (argW m c) b n h) (fun d => argGk m c (ix1 d)) l := by
  have hb : batchOf (rowOf b n) = b := Fin.ext (by show ((b : ℕ) * 256 + (n : ℕ)) / 256 = b; omega)
  have hn : posOf (rowOf b n) = n := Fin.ext (by show ((b : ℕ) * 256 + (n : ℕ)) % 256 = n; omega)
  have hp := (pair l).isLt
  have hh : headOf (colOf h (pair l)) = h := Fin.ext (by show ((h : ℕ) * 128 + (pair l : ℕ)) / 128 = h; omega)
  have hl : laneOf (colOf h (pair l)) = pair l := Fin.ext (by show ((h : ℕ) * 128 + (pair l : ℕ)) % 128 = pair l; omega)
  show normed (head (argX m c) (argW m c) (batchOf (rowOf b n)) (posOf (rowOf b n)) (headOf (colOf h (pair l)))) _ (pair (laneOf (colOf h (pair l)))) = _
  rw [hb, hn, hh, hl, pair_pair]

/-- The buffers as the kernel leaves them. -/
abbrev left : Valuation τ sig (Elt Ideal) := Pipeline.withArrays spec0 c (V0 m c) fun w => (dats m 0 c).arrAt w cfg0.N

theorem left_result : left m c (Proc.devRef .tc main_v28) = goal m c :=
  (Pipeline.withArrays_arr spec0 (by decide) c (V0 m c) (fun w => (dats m 0 c).arrAt w cfg0.N) 6).trans (final m c)

theorem tail : Pipeline.afterTail₀ cfgs (dats m) 0 (V0 m) [hostOps1] c main_v33 = out (goal m c) := by
  rw [← left_result]
  show StableHlo.after hostOps1 (left m c) _ = _
  generalize left m c = σ
  after_results_simp <;> rfl

/-- The result is the reference's over the kernel's arguments. -/
theorem result_eq : out (goal m c) = result (argX m c) (argW m c) (argGk m c) := by
  have at_index (b : Fin 2) (n : Fin 256) (h : Fin 8) (l : Fin 128) :
      (out (goal m c) (ix4 b n h l) : EReal) = result (argX m c) (argW m c) (argGk m c) (ix4 b n h l) := by
    rw [out_read, goal_at, result_read]
  refine funext fun (y : S2x256x8x128.Idx) => ?_
  have hy : y = ix4 (y 0) (y 1) (y 2) (y 3) := by
    funext b; fin_cases b <;> rfl
  rw [hy]
  exact at_index _ _ _ _

/-- The run: the result is the reference's, and the arguments end unchanged. -/
theorem run (ρ : Dev nD → PrngReg) : θ_run defs (onTc (τ := τ) (main (F := Ideal))) ⟨m, fun _ => 0, ρ⟩ (fun r => ∀ c : Dev nD,
    r.2.mem ((c.tc : Thread nD τ).loc main_v33) = result (argX m c) (argW m c) (argGk m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run _ _ _).mono (fun r h c => ?_) (θ_run_and (run_main m ρ) (unchanged m ρ))
  exact ⟨(((h.1 c).2 main_v33 (Pipeline.mem_restRefs_of main_v33 (by decide) (by decide))).trans (tail m c)).trans (result_eq m c), h.2 c⟩

end Cert.Proof.Qk.Context

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Attn.Final
public import proofs.«01_k».proof.Proof.Attn.Pre
public import proofs.«01_k».proof.Proof.Proj.Plain
public import proofs.«01_k».proof.Proof.Proj.Gated
public import proofs.«01_k».proof.Proof.Proj.Values
public import proofs.«01_k».proof.Proof.Proj.ContextValues
public import proofs.«01_k».proof.Proof.Mod.Ada
public import proofs.«01_k».proof.Proof.Mod.Sequence
public import proofs.«01_k».proof.Proof.Mod.Context
public import proofs.«01_k».proof.Proof.Qk.Tail
public import proofs.«01_k».proof.Proof.Qk.ContextFinal

@[expose] public section

noncomputable section

namespace Cert.Proof

open Idealize.ShloMosaic Idealize.SL.Sem

/-- The reference is host operations only: it has no semaphore. -/
theorem frame_reference : Cert.quiescent_ReferenceIdeal (hReferenceIdeal := Cert.ReferenceIdeal.Gen.facts) := fun m ρ _ =>
  (θ_run _ _ _).mono (fun _ h => ⟨fun c => (h c).2, sem_eq_zero_of_no_sems rfl _⟩) (Cert.ReferenceIdeal.Value.run m ρ)

/-- On finite queries and keys the kernel's result is the reference's. -/
theorem same_result [Cert.Pre_finite.Facts] : Cert.algebraic_KernelIdeal_ReferenceIdeal_pre_finite (hKernelIdeal := Cert.KernelIdeal.Gen.facts)
    (hReferenceIdeal := Cert.ReferenceIdeal.Gen.facts) := by
  intro m g m' g' hpre hagree
  refine ⟨fun c => (Cert.KernelIdeal.Gen.dats m 0 c).arrAt 3 Cert.KernelIdeal.cfg0.N, Cert.KernelIdeal.Value.run_blocks m g, ?_⟩
  refine (θ_run _ _ _).mono (fun r h c => ⟨(h c).1.trans ?_, (h c).2⟩) (Cert.ReferenceIdeal.Value.run m' g')
  have hq : ∀ y, ∃ r : ℝ, Attn.argQ m c y = (r : EReal) := fun y => by
    rw [show y = ix4 (y 0) (y 1) (y 2) (y 3) by funext a; fin_cases a <;> rfl]
    exact Attn.q_real _ _ _ _ _ (hpre c) (y 0) (y 1) (y 2) (y 3)
  have hk : ∀ y, ∃ r : ℝ, Attn.Ref.join (Attn.argK m c) (Attn.argKc m c) y = (r : EReal) := fun y => by
    rw [show y = ix4 (y 0) (y 1) (y 2) (y 3) by funext a; fin_cases a <;> rfl]
    refine Exists.imp (fun r hr => (Attn.Ref.join_read (Attn.argK m c) (Attn.argKc m c) (y 0) (y 1) (y 2) (y 3)).trans hr) ?_
    split
    · exact Attn.k_real _ _ _ _ _ (hpre c) _ _ _ _
    · exact Attn.kc_real _ _ _ _ _ (hpre c) _ _ _ _
  obtain ⟨h0, h1, h2, h3, h4⟩ := hagree c
  refine ((Attn.Ref.result_eq m' c).trans ?_).trans (Attn.final m c hq hk).symm
  rw [h0, h1, h2, h3, h4]
  rfl

theorem pre_facts : Cert.Pre_finite.Facts := ⟨by decide, by decide, by decide⟩

theorem frame_reference2 : Cert.quiescent_Reference2Ideal (hReference2Ideal := Cert.Reference2Ideal.Gen.facts) := fun m ρ _ =>
  (θ_run _ _ _).mono (fun _ h => ⟨fun c => (h c).2, sem_eq_zero_of_no_sems rfl _⟩) (Cert.Reference2Ideal.Value.run m ρ)

theorem frame_reference3 : Cert.quiescent_Reference3Ideal (hReference3Ideal := Cert.Reference3Ideal.Gen.facts) := fun m ρ _ =>
  (θ_run _ _ _).mono (fun _ h => ⟨fun c => (h c).2, sem_eq_zero_of_no_sems rfl _⟩) (Cert.Reference3Ideal.Value.run m ρ)

theorem frame_reference4 : Cert.quiescent_Reference4Ideal (hReference4Ideal := Cert.Reference4Ideal.Gen.facts) := fun m ρ _ =>
  (θ_run _ _ _).mono (fun _ h => ⟨fun c => (h c).2.2, sem_eq_zero_of_no_sems rfl _⟩) (Cert.Reference4Ideal.Value.run m ρ)

theorem frame_reference5 : Cert.quiescent_Reference5Ideal (hReference5Ideal := Cert.Reference5Ideal.Gen.facts) := fun m ρ _ =>
  (θ_run _ _ _).mono (fun _ h => ⟨fun c => (h c).2, sem_eq_zero_of_no_sems rfl _⟩) (Cert.Reference5Ideal.Value.run m ρ)

theorem frame_reference6 : Cert.quiescent_Reference6Ideal (hReference6Ideal := Cert.Reference6Ideal.Gen.facts) := fun m ρ _ =>
  (θ_run _ _ _).mono (fun _ h => ⟨fun c => (h c).2.2.2, sem_eq_zero_of_no_sems rfl _⟩) (Cert.Reference6Ideal.Value.run m ρ)

theorem frame_reference7 : Cert.quiescent_Reference7Ideal (hReference7Ideal := Cert.Reference7Ideal.Gen.facts) := fun m ρ _ =>
  (θ_run _ _ _).mono (fun _ h => ⟨fun c => (h c).2, sem_eq_zero_of_no_sems rfl _⟩) (Cert.Reference7Ideal.Value.run m ρ)

theorem frame_reference8 : Cert.quiescent_Reference8Ideal (hReference8Ideal := Cert.Reference8Ideal.Gen.facts) := fun m ρ _ =>
  (θ_run _ _ _).mono (fun _ h => ⟨fun c => (h c).2, sem_eq_zero_of_no_sems rfl _⟩) (Cert.Reference8Ideal.Value.run m ρ)

theorem frame_reference9 : Cert.quiescent_Reference9Ideal (hReference9Ideal := Cert.Reference9Ideal.Gen.facts) := fun m ρ _ =>
  (θ_run _ _ _).mono (fun _ h => ⟨fun c => (h c).2, sem_eq_zero_of_no_sems rfl _⟩) (Cert.Reference9Ideal.Value.run m ρ)

theorem frame_reference10 : Cert.quiescent_Reference10Ideal (hReference10Ideal := Cert.Reference10Ideal.Gen.facts) := fun m ρ _ =>
  (θ_run _ _ _).mono (fun _ h => ⟨fun c => (h c).2, sem_eq_zero_of_no_sems rfl _⟩) (Cert.Reference10Ideal.Value.run m ρ)

/-- The gated projection kernel's result is the reference's. -/
theorem same_gated : Cert.algebraic_Kernel2Ideal_Reference2Ideal (hKernel2Ideal := Cert.Kernel2Ideal.Gen.facts)
    (hReference2Ideal := Cert.Reference2Ideal.Gen.facts) := by
  intro m g m' g' _ hagree
  refine ⟨fun c => (Cert.Kernel2Ideal.Gen.dats m 0 c).arrAt 5 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨h0, h1, h2⟩ := hagree c
  refine Eq.trans ?_ (Proj.Gated.final m c).symm
  rw [h0, h1, h2]
  rfl

/-- The projection kernel's result is the reference's. -/
theorem same_plain : Cert.algebraic_Kernel3Ideal_Reference3Ideal (hKernel3Ideal := Cert.Kernel3Ideal.Gen.facts)
    (hReference3Ideal := Cert.Reference3Ideal.Gen.facts) := by
  intro m g m' g' _ hagree
  refine ⟨fun c => (Cert.Kernel3Ideal.Gen.dats m 0 c).arrAt 2 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  obtain ⟨h0, h1⟩ := hagree c
  refine Eq.trans ?_ (Proj.Plain.final m c).symm
  rw [h0, h1]
  rfl

/-- The queries and keys of the kernel that projects them are the reference's. -/
theorem same_qk : Cert.algebraic_Kernel4Ideal_Reference4Ideal (hKernel4Ideal := Cert.Kernel4Ideal.Gen.facts)
    (hReference4Ideal := Cert.Reference4Ideal.Gen.facts) := by
  intro m g m' g' _ hagree
  refine ⟨fun c => Qk.Ref.resultQ (Qk.argX m c) (Qk.argW m c) (Qk.argGq m c),
    fun c => Qk.Ref.resultK (Qk.argX m c) (Qk.argW m c) (Qk.argGk m c), Qk.run m g, ?_⟩
  refine (θ_run _ _ _).mono (fun r h c => ?_) (Cert.Reference4Ideal.Value.run m' g')
  obtain ⟨h0, h1, h2, h3⟩ := hagree c
  refine ⟨(h c).1.trans ((Qk.Ref.resultQ_eq m' c).trans ?_), (h c).2.1.trans ((Qk.Ref.resultK_eq m' c).trans ?_), (h c).2.2⟩
  · rw [h0, h1, h2]
  · rw [h0, h1, h3]

/-- The values' projection: the kernel's result is the reference's. -/
theorem same_values : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 2 Cert.Kernel5Ideal.cfg0.N, Cert.Kernel5Ideal.Value.run_blocks m g, ?_⟩
  refine (θ_run _ _ _).mono (fun r h c => ⟨(h c).1.trans ?_, (h c).2⟩) (Cert.Reference5Ideal.Value.run m' g')
  obtain ⟨h0, h1⟩ := hagree c
  refine Eq.trans ?_ (Proj.Values.final m c).symm
  rw [h0, h1]
  rfl

/-- The modulations of both layers are the reference's. -/
theorem same_ada : Cert.algebraic_Kernel6Ideal_Reference6Ideal (hKernel6Ideal := Cert.Kernel6Ideal.Gen.facts)
    (hReference6Ideal := Cert.Reference6Ideal.Gen.facts) := by
  intro m g m' g' _ hagree
  refine ⟨fun c => Mod.Ada.goal0 (Mod.Ada.argC m c) (Mod.Ada.argW m c) (Mod.Ada.argB m c),
    fun c => Mod.Ada.goal1 (Mod.Ada.argC m c) (Mod.Ada.argW m c) (Mod.Ada.argB m c),
    fun c => Mod.Ada.goalX (Mod.Ada.argX m c) (Mod.Ada.argW m c) (Mod.Ada.argB m c), Mod.Ada.run m g, ?_⟩
  refine (θ_run _ _ _).mono (fun r h c => ?_) (Cert.Reference6Ideal.Value.run m' g')
  obtain ⟨h0, h1, h2, h3⟩ := hagree c
  refine ⟨(h c).1.trans ?_, (h c).2.1.trans ?_, (h c).2.2.1.trans ?_, (h c).2.2.2⟩
  · rw [h0, h2, h3]
    rfl
  · rw [h0, h2, h3]
    rfl
  · rw [h1, h2, h3]
    rfl

/-- The modulated sequence is the reference's. -/
theorem same_modulated : Cert.algebraic_Kernel7Ideal_Reference7Ideal (hKernel7Ideal := Cert.Kernel7Ideal.Gen.facts)
    (hReference7Ideal := Cert.Reference7Ideal.Gen.facts) := by
  intro m g m' g' _ hagree
  refine ⟨fun c => (Cert.Kernel7Ideal.Gen.dats m 0 c).arrAt 3 Cert.Kernel7Ideal.cfg0.N, Cert.Kernel7Ideal.Value.run_blocks m g, ?_⟩
  refine (θ_run _ _ _).mono (fun r h c => ⟨(h c).1.trans ?_, (h c).2⟩) (Cert.Reference7Ideal.Value.run m' g')
  obtain ⟨h0, h1, h2⟩ := hagree c
  refine Eq.trans ?_ (Mod.Sequence.final m c).symm
  rw [h0, h1, h2]
  rfl

/-- The modulated context is the reference's. -/
theorem same_modulated_context : Cert.algebraic_Kernel8Ideal_Reference8Ideal (hKernel8Ideal := Cert.Kernel8Ideal.Gen.facts)
    (hReference8Ideal := Cert.Reference8Ideal.Gen.facts) := by
  intro m g m' g' _ hagree
  refine ⟨fun c => (Cert.Kernel8Ideal.Gen.dats m 0 c).arrAt 3 Cert.Kernel8Ideal.cfg0.N, Cert.Kernel8Ideal.Value.run_blocks m g, ?_⟩
  refine (θ_run _ _ _).mono (fun r h c => ⟨(h c).1.trans ?_, (h c).2⟩) (Cert.Reference8Ideal.Value.run m' g')
  obtain ⟨h0, h1, h2⟩ := hagree c
  refine Eq.trans ?_ (Mod.Context.final m c).symm
  rw [h0, h1, h2]
  rfl

/-- The context's values are the reference's. -/
theorem same_context_values : Cert.algebraic_Kernel9Ideal_Reference9Ideal (hKernel9Ideal := Cert.Kernel9Ideal.Gen.facts)
    (hReference9Ideal := Cert.Reference9Ideal.Gen.facts) := by
  intro m g m' g' _ hagree
  refine ⟨fun c => (Cert.Kernel9Ideal.Gen.dats m 0 c).arrAt 2 Cert.Kernel9Ideal.cfg0.N, Cert.Kernel9Ideal.Value.run_blocks m g, ?_⟩
  refine (θ_run _ _ _).mono (fun r h c => ⟨(h c).1.trans ?_, (h c).2⟩) (Cert.Reference9Ideal.Value.run m' g')
  obtain ⟨h0, h1⟩ := hagree c
  refine Eq.trans ?_ (Proj.ContextValues.final m c).symm
  rw [h0, h1]
  rfl

/-- The context's keys are the reference's. -/
theorem same_context_keys : Cert.algebraic_Kernel10Ideal_Reference10Ideal (hKernel10Ideal := Cert.Kernel10Ideal.Gen.facts)
    (hReference10Ideal := Cert.Reference10Ideal.Gen.facts) := by
  intro m g m' g' _ hagree
  refine ⟨fun c => Qk.Context.result (Qk.Context.argX m c) (Qk.Context.argW m c) (Qk.Context.argGk m c), Qk.Context.run m g, ?_⟩
  refine (θ_run _ _ _).mono (fun r h c => ⟨(h c).1.trans ?_, (h c).2⟩) (Cert.Reference10Ideal.Value.run m' g')
  obtain ⟨h0, h1, h2, h3⟩ := hagree c
  rw [h0, h1, h3]
  rfl

theorem claim : Cert.Claim := by
  refine ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, pre_facts,
    ?_, ?_, ?_, frame_reference, fun m ρ _ => frame_reference m ρ trivial, ?_, ?_, frame_reference2, ?_, ?_, frame_reference3,
    ?_, ?_, frame_reference4, ?_, ?_, frame_reference5,
    ?_, ?_, frame_reference6, ?_, ?_, frame_reference7, ?_, ?_, frame_reference8,
    ?_, ?_, frame_reference9, ?_, ?_, frame_reference10,
    trivial, @same_result pre_facts, trivial, same_gated, trivial, same_plain,
    trivial, same_qk, trivial, same_values,
    trivial, same_ada, trivial, same_modulated, trivial, same_modulated_context, trivial, same_context_values,
    trivial, same_context_keys⟩
  · exact fun m ρ _ => Cert.Kernel.Gen.frame m ρ
  · exact fun m ρ _ => Cert.KernelIdeal.Gen.frame m ρ
  · exact fun m ρ _ => Cert.KernelIdeal.Gen.frame m ρ
  · exact fun m ρ _ => Cert.Kernel2.Gen.frame m ρ
  · exact fun m ρ _ => Cert.Kernel2Ideal.Gen.frame m ρ
  · exact fun m ρ _ => Cert.Kernel3.Gen.frame m ρ
  · exact fun m ρ _ => Cert.Kernel3Ideal.Gen.frame m ρ
  · exact fun m ρ _ => Cert.Kernel4.Gen.frame m ρ
  · exact fun m ρ _ => Cert.Kernel4Ideal.Gen.frame m ρ
  · exact fun m ρ _ => Cert.Kernel5.Gen.frame m ρ
  · exact fun m ρ _ => Cert.Kernel5Ideal.Gen.frame m ρ
  · exact fun m ρ _ => Cert.Kernel6.Gen.frame m ρ
  · exact fun m ρ _ => Cert.Kernel6Ideal.Gen.frame m ρ
  · exact fun m ρ _ => Cert.Kernel7.Gen.frame m ρ
  · exact fun m ρ _ => Cert.Kernel7Ideal.Gen.frame m ρ
  · exact fun m ρ _ => Cert.Kernel8.Gen.frame m ρ
  · exact fun m ρ _ => Cert.Kernel8Ideal.Gen.frame m ρ
  · exact fun m ρ _ => Cert.Kernel9.Gen.frame m ρ
  · exact fun m ρ _ => Cert.Kernel9Ideal.Gen.frame m ρ
  · exact fun m ρ _ => Cert.Kernel10.Gen.frame m ρ
  · exact fun m ρ _ => Cert.Kernel10Ideal.Gen.frame m ρ

end Cert.Proof

end
